-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v33) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v32)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v32) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  IdealRules.named_const.Statement Cert.Kernel5Ideal.κ "log2e" .f32 0x3FB8AA3B#32 (((Real.log 2)⁻¹ : ℝ) : EReal)

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v104)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v104) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v94) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
-- ==== Pre_finite.lean ====
abbrev S1x16400x4096 : Shape := ⟨3, ![1, 16400, 4096]⟩
abbrev S4x16 : Shape := ⟨2, ![4, 16]⟩
abbrev S1x16400x1280 : Shape := ⟨3, ![1, 16400, 1280]⟩
abbrev S_ : Shape := ⟨0, ![]⟩

class Facts : Prop where
  slices_S1x16400x4096_S1x16400x1280_0_0_0 : S1x16400x4096.Slices ![0, 0, 0] S1x16400x1280
  bcast_S_S1x16400x1280 : S_.BroadcastsInDim S1x16400x1280 (![] : Fin 0 → Fin S1x16400x1280.rank)
  reducesTo_S1x16400x1280_S_d0_1_2 : S1x16400x1280.ReducesTo [0, 1, 2] S_
  h_S_ : 0 < S_.numel
  bcast_S_S4x16 : S_.BroadcastsInDim S4x16 (![] : Fin 0 → Fin S4x16.rank)
  reducesTo_S4x16_S_d0_1 : S4x16.ReducesTo [0, 1] S_

variable [Facts]

def fn {F : FTy → Type} [FloatOps F] (main_arg0 : FVec F S1x16400x4096 .f32) (main_arg1 : FVec F S4x16 .f32) : IVec S_ 1 :=
  let main_v0 : FVec F S1x16400x1280 .f32 := (extractStridedSlice S1x16400x1280 ![0, 0, 0] · slices_S1x16400x4096_S1x16400x1280_0_0_0) main_arg0
  let main_v1 : FVec F S1x16400x1280 .f32 := Host.absf main_v0
  let main_cst : FVec F S_ .f32 := constant S_ .f32 0x7F800000#32
  let main_v2 : FVec F S1x16400x1280 .f32 := broadcastInDim S1x16400x1280 ![] bcast_S_S1x16400x1280 main_cst
  let main_v3 : IVec S1x16400x1280 1 := cmpf .olt main_v1 main_v2
  let main_c : IVec S_ 1 := constantI S_ 1 1#1
  let main_v4 : IVec S_ 1 := (fun x v => Host.reduce IntOp.andi x v reducesTo_S1x16400x1280_S_d0_1_2 h_S_) main_v3 main_c
  let main_v5 : FVec F S4x16 .f32 := Host.absf main_arg1
  let main_cst_0 : FVec F S_ .f32 := constant S_ .f32 0x7F800000#32
  let main_v6 : FVec F S4x16 .f32 := broadcastInDim S4x16 ![] bcast_S_S4x16 main_cst_0
  let main_v7 : IVec S4x16 1 := cmpf .olt main_v5 main_v6
  let main_c_1 : IVec S_ 1 := constantI S_ 1 1#1
  let main_v8 : IVec S_ 1 := (fun x v => Host.reduce IntOp.andi x v reducesTo_S4x16_S_d0_1 h_S_) main_v7 main_c_1
  let main_v9 : IVec S_ 1 := andi main_v4 main_v8
  main_v9
-- ==== Kernel.lean ====
abbrev S1x16400x1024 : Shape := ⟨3, ![1, 16400, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S_ : Shape := ⟨0, ![]⟩
abbrev S112x1024 : Shape := ⟨2, ![112, 1024]⟩
abbrev S16400x1024 : Shape := ⟨2, ![16400, 1024]⟩
abbrev S16512x1024 : Shape := ⟨2, ![16512, 1024]⟩
abbrev S4x1x1024 : Shape := ⟨3, ![4, 1, 1024]⟩
abbrev S1x1024 : Shape := ⟨2, ![1, 1024]⟩
abbrev S16384x1024 : Shape := ⟨2, ![16384, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 16
  | .vmem => 9
  | .smem => 0
  | _ => 0

abbrev bufTy : (tb : Table) → Fin (tcTables nBuf tb) → BufTy
  | .hbm, ⟨0, _⟩ => ⟨S1x16400x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S_, .f32⟩
  | .hbm, ⟨7, _⟩ => ⟨S112x1024, .f32⟩
  | .hbm, ⟨8, _⟩ => ⟨S16400x1024, .f32⟩
  | .hbm, ⟨9, _⟩ => ⟨S16512x1024, .f32⟩
  | .hbm, ⟨10, _⟩ => ⟨S4x1024x2816, .bf16⟩
  | .hbm, ⟨11, _⟩ => ⟨S4x1024x2816, .bf16⟩
  | .hbm, ⟨12, _⟩ => ⟨S4x2816x1024, .bf16⟩
  | .hbm, ⟨13, _⟩ => ⟨S4x1x1024, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S1x16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def k0_mult1 (i : grid0.Coords) : BitVec 32 :=
  let c128_i32 : BitVec 32 := 128#32
  let arg0 : BitVec 32 := BitVec.ofNat 32 (i 0).val
  let c512_i32 : BitVec 32 := 512#32
  let v0 : BitVec 32 := Scalar.muli arg0 c512_i32
  let v1 : BitVec 32 := Scalar.addi c128_i32 v0
  v1
def cc0_transform_0 (i : grid0.Coords) : Fin 2 → Nat :=
  let arg0 : BitVec 32 := BitVec.ofNat 32 (i 0).val
  let c512_i32 : BitVec 32 := 512#32
  let v0 : BitVec 32 := Scalar.muli arg0 c512_i32
  let c128_i32 : BitVec 32 := 128#32
  let v1 : BitVec 32 := Scalar.addi c128_i32 v0
  let v2 : BitVec 32 := v1
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x16400x1024 : Shape := ⟨3, ![1, 16400, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S1x16400 : Shape := ⟨2, ![1, 16400]⟩
abbrev S1x16400x1 : Shape := ⟨3, ![1, 16400, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x16400x2816 : Shape := ⟨3, ![1, 16400, 2816]⟩
abbrev S1x16384x1024 : Shape := ⟨3, ![1, 16384, 1024]⟩
abbrev S16384x1024 : Shape := ⟨2, ![16384, 1024]⟩

abbrev nBuf : Space → Nat
  | .hbm => 65
  | .vmem => 0
  | .smem => 0
  | _ => 0

abbrev bufTy : (tb : Table) → Fin (tcTables nBuf tb) → BufTy
  | .hbm, ⟨0, _⟩ => ⟨S1x16400x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S1x16400x1024, .f32⟩
  | .hbm, ⟨9, _⟩ => ⟨S_, .f32⟩
  | .hbm, ⟨10, _⟩ => ⟨S1x16400, .f32⟩
  | .hbm, ⟨11, _⟩ => ⟨S1x16400x1, .f32⟩
  | .hbm, ⟨12, _⟩ => ⟨S_, .f32⟩
  | .hbm, ⟨13, _⟩ => ⟨S1x16400x1, .f32⟩
  | .hbm, ⟨14, _⟩ => ⟨S1x16400x1, .f32⟩
  | .hbm, ⟨15, _⟩ => ⟨S_, .f32⟩
  | .hbm, ⟨16, _⟩ => ⟨S1x16400x1, .f32⟩
  | .hbm, ⟨17, _⟩ => ⟨S1x16400x1, .f32⟩
  | .hbm, ⟨18, _⟩ => ⟨S1x16400x1, .f32⟩
  | .hbm, ⟨19, _⟩ => ⟨S1x16400x1024, .f32⟩
  | .hbm, ⟨20, _⟩ => ⟨S1x16400x1024, .f32⟩
  | .hbm, ⟨21, _⟩ => ⟨S1x1x1024, .f32⟩
  | .hbm, ⟨22, _⟩ => ⟨S1x16400x1024, .f32⟩
  | .hbm, ⟨23, _⟩ => ⟨S1x16400x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S1x16400x2816, .f32⟩
  | .hbm, ⟨31, _⟩ => ⟨S1x16400x2816, .f32⟩
  | .hbm, ⟨32, _⟩ => ⟨S1x16400x2816, .f32⟩
  | .hbm, ⟨33, _⟩ => ⟨S_, .f32⟩
  | .hbm, ⟨34, _⟩ => ⟨S1x16400x2816, .f32⟩
  | .hbm, ⟨35, _⟩ => ⟨S1x16400x2816, .f32⟩
  | .hbm, ⟨36, _⟩ => ⟨S_, .f32⟩
  | .hbm, ⟨37, _⟩ => ⟨S1x16400x2816, .f32⟩
  | .hbm, ⟨38, _⟩ => ⟨S1x16400x2816, .f32⟩
  | .hbm, ⟨39, _⟩ => ⟨S1x16400x2816, .f32⟩
  | .hbm, ⟨40, _⟩ => ⟨S1x16400x2816, .f32⟩
  | .hbm, ⟨41, _⟩ => ⟨S1x16400x2816, .f32⟩
  | .hbm, ⟨42, _⟩ => ⟨S1x16400x1024, .f32⟩
  | .hbm, ⟨43, _⟩ => ⟨S_, .f32⟩
  | .hbm, ⟨44, _⟩ => ⟨S1x16400x1024, .f32⟩
  | .hbm, ⟨45, _⟩ => ⟨S1x16400x1024, .f32⟩
  | .hbm, ⟨46, _⟩ => ⟨S1x16400x1024, .f32⟩
  | .hbm, ⟨47, _⟩ => ⟨S1x16400x1024, .f32⟩
  | .hbm, ⟨48, _⟩ => ⟨S_, .f32⟩
  | .hbm, ⟨49, _⟩ => ⟨S1x16400, .f32⟩
  | .hbm, ⟨50, _⟩ => ⟨S1x16400x1, .f32⟩
  | .hbm, ⟨51, _⟩ => ⟨S_, .f32⟩
  | .hbm, ⟨52, _⟩ => ⟨S1x16400x1, .f32⟩
  | .hbm, ⟨53, _⟩ => ⟨S1x16400x1, .f32⟩
  | .hbm, ⟨54, _⟩ => ⟨S_, .f32⟩
  | .hbm, ⟨55, _⟩ => ⟨S1x16400x1, .f32⟩
  | .hbm, ⟨56, _⟩ => ⟨S1x16400x1, .f32⟩
  | .hbm, ⟨57, _⟩ => ⟨S1x16400x1, .f32⟩
  | .hbm, ⟨58, _⟩ => ⟨S1x16400x1024, .f32⟩
  | .hbm, ⟨59, _⟩ => ⟨S1x16400x1024, .f32⟩
  | .hbm, ⟨60, _⟩ => ⟨S1x1x1024, .f32⟩
  | .hbm, ⟨61, _⟩ => ⟨S1x16400x1024, .f32⟩
  | .hbm, ⟨62, _⟩ => ⟨S1x16400x1024, .f32⟩
  | .hbm, ⟨63, _⟩ => ⟨S1x16384x1024, .f32⟩
  | .hbm, ⟨64, _⟩ => ⟨S16384x1024, .f32⟩
  | _, _ => ⟨S1x16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Kernel2.lean ====
abbrev S1x16400x1024 : Shape := ⟨3, ![1, 16400, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S16400x1024 : Shape := ⟨2, ![16400, 1024]⟩
abbrev S_ : Shape := ⟨0, ![]⟩
abbrev S112x1024 : Shape := ⟨2, ![112, 1024]⟩
abbrev S16512x1024 : Shape := ⟨2, ![16512, 1024]⟩
abbrev S4x1x1024 : Shape := ⟨3, ![4, 1, 1024]⟩
abbrev S688x1024 : Shape := ⟨2, ![688, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S688 : Shape := ⟨1, ![688]⟩
abbrev S688x1 : Shape := ⟨2, ![688, 1]⟩
abbrev S1x1024x512 : Shape := ⟨3, ![1, 1024, 512]⟩
abbrev S1024x512 : Shape := ⟨2, ![1024, 512]⟩
abbrev S688x512 : Shape := ⟨2, ![688, 512]⟩
abbrev S1x512x1024 : Shape := ⟨3, ![1, 512, 1024]⟩
abbrev S512x1024 : Shape := ⟨2, ![512, 1024]⟩
abbrev S1x1024x256 : Shape := ⟨3, ![1, 1024, 256]⟩
abbrev S1024x256 : Shape := ⟨2, ![1024, 256]⟩
abbrev S688x256 : Shape := ⟨2, ![688, 256]⟩
abbrev S1x256x1024 : Shape := ⟨3, ![1, 256, 1024]⟩
abbrev S256x1024 : Shape := ⟨2, ![256, 1024]⟩

abbrev nBuf : Space → Nat
  | .hbm => 14
  | .vmem => 8
  | .smem => 0
  | _ => 0

abbrev bufTy : (tb : Table) → Fin (tcTables nBuf tb) → BufTy
  | .hbm, ⟨0, _⟩ => ⟨S1x16400x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x1024x2816, .bf16⟩
  | .hbm, ⟨6, _⟩ => ⟨S4x1024x2816, .bf16⟩
  | .hbm, ⟨7, _⟩ => ⟨S4x2816x1024, .bf16⟩
  | .hbm, ⟨8, _⟩ => ⟨S16400x1024, .f32⟩
  | .hbm, ⟨9, _⟩ => ⟨S_, .f32⟩
  | .hbm, ⟨10, _⟩ => ⟨S112x1024, .f32⟩
  | .hbm, ⟨11, _⟩ => ⟨S16512x1024, .f32⟩
  | .hbm, ⟨12, _⟩ => ⟨S4x1x1024, .f32⟩
  | .hbm, ⟨13, _⟩ => ⟨S16512x1024, .f32⟩
  | .local _ .vmem, ⟨0, _⟩ => ⟨S688x1024, .f32⟩
  | .local _ .vmem, ⟨1, _⟩ => ⟨S688x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S688x1024, .f32⟩
  | .local _ .vmem, ⟨7, _⟩ => ⟨S688x1024, .f32⟩
  | _, _ => ⟨S1x16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S1x16400x1024 : Shape := ⟨3, ![1, 16400, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S1x16400 : Shape := ⟨2, ![1, 16400]⟩
abbrev S1x16400x1 : Shape := ⟨3, ![1, 16400, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x16400x2816 : Shape := ⟨3, ![1, 16400, 2816]⟩
abbrev S16400x1024 : Shape := ⟨2, ![16400, 1024]⟩
abbrev S112x1024 : Shape := ⟨2, ![112, 1024]⟩
abbrev S16512x1024 : Shape := ⟨2, ![16512, 1024]⟩

abbrev nBuf : Space → Nat
  | .hbm => 50
  | .vmem => 0
  | .smem => 0
  | _ => 0

abbrev bufTy : (tb : Table) → Fin (tcTables nBuf tb) → BufTy
  | .hbm, ⟨0, _⟩ => ⟨S1x16400x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1x1024, .f32⟩
  | .hbm, ⟨6, _⟩ => ⟨S1024, .f32⟩
  | .hbm, ⟨7, _⟩ => ⟨S1x16400x1024, .f32⟩
  | .hbm, ⟨8, _⟩ => ⟨S_, .f32⟩
  | .hbm, ⟨9, _⟩ => ⟨S1x16400, .f32⟩
  | .hbm, ⟨10, _⟩ => ⟨S1x16400x1, .f32⟩
  | .hbm, ⟨11, _⟩ => ⟨S_, .f32⟩
  | .hbm, ⟨12, _⟩ => ⟨S1x16400x1, .f32⟩
  | .hbm, ⟨13, _⟩ => ⟨S1x16400x1, .f32⟩
  | .hbm, ⟨14, _⟩ => ⟨S_, .f32⟩
  | .hbm, ⟨15, _⟩ => ⟨S1x16400x1, .f32⟩
  | .hbm, ⟨16, _⟩ => ⟨S1x16400x1, .f32⟩
  | .hbm, ⟨17, _⟩ => ⟨S1x16400x1, .f32⟩
  | .hbm, ⟨18, _⟩ => ⟨S1x16400x1024, .f32⟩
  | .hbm, ⟨19, _⟩ => ⟨S1x16400x1024, .f32⟩
  | .hbm, ⟨20, _⟩ => ⟨S1x1x1024, .f32⟩
  | .hbm, ⟨21, _⟩ => ⟨S1x16400x1024, .f32⟩
  | .hbm, ⟨22, _⟩ => ⟨S1x16400x1024, .f32⟩
  | .hbm, ⟨23, _⟩ => ⟨S1x1024x2816, .f32⟩
  | .hbm, ⟨24, _⟩ => ⟨S1024x2816, .f32⟩
  | .hbm, ⟨25, _⟩ => ⟨S1x1024x2816, .f32⟩
  | .hbm, ⟨26, _⟩ => ⟨S1024x2816, .f32⟩
  | .hbm, ⟨27, _⟩ => ⟨S1x2816x1024, .f32⟩
  | .hbm, ⟨28, _⟩ => ⟨S2816x1024, .f32⟩
  | .hbm, ⟨29, _⟩ => ⟨S1x16400x2816, .f32⟩
  | .hbm, ⟨30, _⟩ => ⟨S1x16400x2816, .f32⟩
  | .hbm, ⟨31, _⟩ => ⟨S1x16400x2816, .f32⟩
  | .hbm, ⟨32, _⟩ => ⟨S_, .f32⟩
  | .hbm, ⟨33, _⟩ => ⟨S1x16400x2816, .f32⟩
  | .hbm, ⟨34, _⟩ => ⟨S1x16400x2816, .f32⟩
  | .hbm, ⟨35, _⟩ => ⟨S_, .f32⟩
  | .hbm, ⟨36, _⟩ => ⟨S1x16400x2816, .f32⟩
  | .hbm, ⟨37, _⟩ => ⟨S1x16400x2816, .f32⟩
  | .hbm, ⟨38, _⟩ => ⟨S1x16400x2816, .f32⟩
  | .hbm, ⟨39, _⟩ => ⟨S1x16400x2816, .f32⟩
  | .hbm, ⟨40, _⟩ => ⟨S1x16400x2816, .f32⟩
  | .hbm, ⟨41, _⟩ => ⟨S1x16400x1024, .f32⟩
  | .hbm, ⟨42, _⟩ => ⟨S_, .f32⟩
  | .hbm, ⟨43, _⟩ => ⟨S1x16400x1024, .f32⟩
  | .hbm, ⟨44, _⟩ => ⟨S1x16400x1024, .f32⟩
  | .hbm, ⟨45, _⟩ => ⟨S1x16400x1024, .f32⟩
  | .hbm, ⟨46, _⟩ => ⟨S16400x1024, .f32⟩
  | .hbm, ⟨47, _⟩ => ⟨S_, .f32⟩
  | .hbm, ⟨48, _⟩ => ⟨S112x1024, .f32⟩
  | .hbm, ⟨49, _⟩ => ⟨S16512x1024, .f32⟩
  | _, _ => ⟨S1x16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Kernel3.lean ====
abbrev S1x16400x1024 : Shape := ⟨3, ![1, 16400, 1024]⟩
abbrev S4x1024 : Shape := ⟨2, ![4, 1024]⟩
abbrev S4x1024x4096 : Shape := ⟨3, ![4, 1024, 4096]⟩
abbrev S4096 : Shape := ⟨1, ![4096]⟩
abbrev S_ : Shape := ⟨0, ![]⟩
abbrev S1x1x4096 : Shape := ⟨3, ![1, 1, 4096]⟩
abbrev S16400x1024 : Shape := ⟨2, ![16400, 1024]⟩
abbrev S112x1024 : Shape := ⟨2, ![112, 1024]⟩
abbrev S16512x1024 : Shape := ⟨2, ![16512, 1024]⟩
abbrev S4x1x1024 : Shape := ⟨3, ![4, 1, 1024]⟩
abbrev S16512x4096 : Shape := ⟨2, ![16512, 4096]⟩
abbrev S4x16512x128 : Shape := ⟨3, ![4, 16512, 128]⟩
abbrev S688x1024 : Shape := ⟨2, ![688, 1024]⟩
abbrev S1x1x1024 : Shape := ⟨3, ![1, 1, 1024]⟩
abbrev S1x1024x4096 : Shape := ⟨3, ![1, 1024, 4096]⟩
abbrev S688x4096 : Shape := ⟨2, ![688, 4096]⟩
abbrev S4x688x128 : Shape := ⟨3, ![4, 688, 128]⟩
abbrev S1x1024 : Shape := ⟨2, ![1, 1024]⟩
abbrev S688 : Shape := ⟨1, ![688]⟩
abbrev S688x1 : Shape := ⟨2, ![688, 1]⟩
abbrev S1x1024x1024 : Shape := ⟨3, ![1, 1024, 1024]⟩
abbrev S1024x1024 : Shape := ⟨2, ![1024, 1024]⟩
abbrev S688x128 : Shape := ⟨2, ![688, 128]⟩
abbrev S1x688x128 : Shape := ⟨3, ![1, 688, 128]⟩

abbrev nBuf : Space → Nat
  | .hbm => 24
  | .vmem => 8
  | .smem => 0
  | _ => 0

abbrev bufTy : (tb : Table) → Fin (tcTables nBuf tb) → BufTy
  | .hbm, ⟨0, _⟩ => ⟨S1x16400x1024, .f32⟩
  | .hbm, ⟨1, _⟩ => ⟨S4x1024, .f32⟩
  | .hbm, ⟨2, _⟩ => ⟨S4x1024x4096, .f32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S1x1x4096, .f32⟩
  | .hbm, ⟨14, _⟩ => ⟨S4x1024x4096, .f32⟩
  | .hbm, ⟨15, _⟩ => ⟨S4x1024x4096, .f32⟩
  | .hbm, ⟨16, _⟩ => ⟨S4x1024x4096, .bf16⟩
  | .hbm, ⟨17, _⟩ => ⟨S16400x1024, .f32⟩
  | .hbm, ⟨18, _⟩ => ⟨S_, .f32⟩
  | .hbm, ⟨19, _⟩ => ⟨S112x1024, .f32⟩
  | .hbm, ⟨20, _⟩ => ⟨S16512x1024, .f32⟩
  | .hbm, ⟨21, _⟩ => ⟨S4x1x1024, .f32⟩
  | .hbm, ⟨22, _⟩ => ⟨S16512x4096, .bf16⟩
  | .hbm, ⟨23, _⟩ => ⟨S4x16512x128, .f32⟩
  | .local _ .vmem, ⟨0, _⟩ => ⟨S688x1024, .f32⟩
  | .local _ .vmem, ⟨1, _⟩ => ⟨S688x1024, .f32⟩
  | .local _ .vmem, ⟨2, _⟩ => ⟨S1x1x1024, .f32⟩
  | .local _ .vmem, ⟨3, _⟩ => ⟨S1x1024x4096, .bf16⟩
  | .local _ .vmem, ⟨4, _⟩ => ⟨S688x4096, .bf16⟩
  | .local _ .vmem, ⟨5, _⟩ => ⟨S688x4096, .bf16⟩
  | .local _ .vmem, ⟨6, _⟩ => ⟨S4x688x128, .f32⟩
  | .local _ .vmem, ⟨7, _⟩ => ⟨S4x688x128, .f32⟩
  | _, _ => ⟨S1x16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x688x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S1x16400x1024 : Shape := ⟨3, ![1, 16400, 1024]⟩
abbrev S4x1024 : Shape := ⟨2, ![4, 1024]⟩
abbrev S4x1024x4096 : Shape := ⟨3, ![4, 1024, 4096]⟩
abbrev S1x1024 : Shape := ⟨2, ![1, 1024]⟩
abbrev S1024 : Shape := ⟨1, ![1024]⟩
abbrev S_ : Shape := ⟨0, ![]⟩
abbrev S1x16400 : Shape := ⟨2, ![1, 16400]⟩
abbrev S1x16400x1 : Shape := ⟨3, ![1, 16400, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x16400x4096 : Shape := ⟨3, ![1, 16400, 4096]⟩
abbrev S16400x1024 : Shape := ⟨2, ![16400, 1024]⟩
abbrev S1x16400x3072 : Shape := ⟨3, ![1, 16400, 3072]⟩
abbrev S16400x3072 : Shape := ⟨2, ![16400, 3072]⟩
abbrev S16400x4096 : Shape := ⟨2, ![16400, 4096]⟩
abbrev S1x16400x512 : Shape := ⟨3, ![1, 16400, 512]⟩
abbrev S16400x512 : Shape := ⟨2, ![16400, 512]⟩
abbrev S16400x4x128 : Shape := ⟨3, ![16400, 4, 128]⟩
abbrev S112x4096 : Shape := ⟨2, ![112, 4096]⟩
abbrev S16512x4096 : Shape := ⟨2, ![16512, 4096]⟩
abbrev S112x4x128 : Shape := ⟨3, ![112, 4, 128]⟩
abbrev S16512x4x128 : Shape := ⟨3, ![16512, 4, 128]⟩
abbrev S4x16512x128 : Shape := ⟨3, ![4, 16512, 128]⟩

abbrev nBuf : Space → Nat
  | .hbm => 43
  | .vmem => 0
  | .smem => 0
  | _ => 0

abbrev bufTy : (tb : Table) → Fin (tcTables nBuf tb) → BufTy
  | .hbm, ⟨0, _⟩ => ⟨S1x16400x1024, .f32⟩
  | .hbm, ⟨1, _⟩ => ⟨S4x1024, .f32⟩
  | .hbm, ⟨2, _⟩ => ⟨S4x1024x4096, .f32⟩
  | .hbm, ⟨3, _⟩ => ⟨S1x1024, .f32⟩
  | .hbm, ⟨4, _⟩ => ⟨S1024, .f32⟩
  | .hbm, ⟨5, _⟩ => ⟨S1x16400x1024, .f32⟩
  | .hbm, ⟨6, _⟩ => ⟨S_, .f32⟩
  | .hbm, ⟨7, _⟩ => ⟨S1x16400, .f32⟩
  | .hbm, ⟨8, _⟩ => ⟨S1x16400x1, .f32⟩
  | .hbm, ⟨9, _⟩ => ⟨S_, .f32⟩
  | .hbm, ⟨10, _⟩ => ⟨S1x16400x1, .f32⟩
  | .hbm, ⟨11, _⟩ => ⟨S1x16400x1, .f32⟩
  | .hbm, ⟨12, _⟩ => ⟨S_, .f32⟩
  | .hbm, ⟨13, _⟩ => ⟨S1x16400x1, .f32⟩
  | .hbm, ⟨14, _⟩ => ⟨S1x16400x1, .f32⟩
  | .hbm, ⟨15, _⟩ => ⟨S1x16400x1, .f32⟩
  | .hbm, ⟨16, _⟩ => ⟨S1x16400x1024, .f32⟩
  | .hbm, ⟨17, _⟩ => ⟨S1x16400x1024, .f32⟩
  | .hbm, ⟨18, _⟩ => ⟨S1x1x1024, .f32⟩
  | .hbm, ⟨19, _⟩ => ⟨S1x16400x1024, .f32⟩
  | .hbm, ⟨20, _⟩ => ⟨S1x16400x1024, .f32⟩
  | .hbm, ⟨21, _⟩ => ⟨S1x1024x4096, .f32⟩
  | .hbm, ⟨22, _⟩ => ⟨S1024x4096, .f32⟩
  | .hbm, ⟨23, _⟩ => ⟨S1x16400x4096, .f32⟩
  | .hbm, ⟨24, _⟩ => ⟨S1x16400x1024, .f32⟩
  | .hbm, ⟨25, _⟩ => ⟨S16400x1024, .f32⟩
  | .hbm, ⟨26, _⟩ => ⟨S1x16400x3072, .f32⟩
  | .hbm, ⟨27, _⟩ => ⟨S16400x3072, .f32⟩
  | .hbm, ⟨28, _⟩ => ⟨S_, .f32⟩
  | .hbm, ⟨29, _⟩ => ⟨S16400x1024, .f32⟩
  | .hbm, ⟨30, _⟩ => ⟨S16400x1024, .f32⟩
  | .hbm, ⟨31, _⟩ => ⟨S16400x4096, .f32⟩
  | .hbm, ⟨32, _⟩ => ⟨S1x16400x512, .f32⟩
  | .hbm, ⟨33, _⟩ => ⟨S16400x512, .f32⟩
  | .hbm, ⟨34, _⟩ => ⟨S16400x4x128, .f32⟩
  | .hbm, ⟨35, _⟩ => ⟨S_, .f32⟩
  | .hbm, ⟨36, _⟩ => ⟨S112x4096, .f32⟩
  | .hbm, ⟨37, _⟩ => ⟨S16512x4096, .f32⟩
  | .hbm, ⟨38, _⟩ => ⟨S16512x4096, .bf16⟩
  | .hbm, ⟨39, _⟩ => ⟨S_, .f32⟩
  | .hbm, ⟨40, _⟩ => ⟨S112x4x128, .f32⟩
  | .hbm, ⟨41, _⟩ => ⟨S16512x4x128, .f32⟩
  | .hbm, ⟨42, _⟩ => ⟨S4x16512x128, .f32⟩
  | _, _ => ⟨S1x16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Kernel4.lean ====
abbrev S1x16400x1024 : Shape := ⟨3, ![1, 16400, 1024]⟩
abbrev S1x16400x4096 : Shape := ⟨3, ![1, 16400, 4096]⟩
abbrev S1x16400x512 : Shape := ⟨3, ![1, 16400, 512]⟩
abbrev S4x512 : Shape := ⟨2, ![4, 512]⟩
abbrev S4x512x512 : Shape := ⟨3, ![4, 512, 512]⟩
abbrev S4x512x1024 : Shape := ⟨3, ![4, 512, 1024]⟩
abbrev S4x1024x1024 : Shape := ⟨3, ![4, 1024, 1024]⟩
abbrev S16400x1024 : Shape := ⟨2, ![16400, 1024]⟩
abbrev S_ : Shape := ⟨0, ![]⟩
abbrev S112x1024 : Shape := ⟨2, ![112, 1024]⟩
abbrev S16512x1024 : Shape := ⟨2, ![16512, 1024]⟩
abbrev S16400x512 : Shape := ⟨2, ![16400, 512]⟩
abbrev S112x512 : Shape := ⟨2, ![112, 512]⟩
abbrev S16512x512 : Shape := ⟨2, ![16512, 512]⟩
abbrev S16512x4x128 : Shape := ⟨3, ![16512, 4, 128]⟩
abbrev S4x16512x128 : Shape := ⟨3, ![4, 16512, 128]⟩
abbrev S16400x4096 : Shape := ⟨2, ![16400, 4096]⟩
abbrev S112x4096 : Shape := ⟨2, ![112, 4096]⟩
abbrev S16512x4096 : Shape := ⟨2, ![16512, 4096]⟩
abbrev S4x1x512 : Shape := ⟨3, ![4, 1, 512]⟩
abbrev S688x1024 : Shape := ⟨2, ![688, 1024]⟩
abbrev S4x688x128 : Shape := ⟨3, ![4, 688, 128]⟩
abbrev S1x1x512 : Shape := ⟨3, ![1, 1, 512]⟩
abbrev S1x512x512 : Shape := ⟨3, ![1, 512, 512]⟩
abbrev S1x512x1024 : Shape := ⟨3, ![1, 512, 1024]⟩
abbrev S1x1024x1024 : Shape := ⟨3, ![1, 1024, 1024]⟩
abbrev S1x688x128 : Shape := ⟨3, ![1, 688, 128]⟩
abbrev S688x128 : Shape := ⟨2, ![688, 128]⟩
abbrev S688x512 : Shape := ⟨2, ![688, 512]⟩
abbrev S1x512 : Shape := ⟨2, ![1, 512]⟩
abbrev S512x512 : Shape := ⟨2, ![512, 512]⟩
abbrev S512x1024 : Shape := ⟨2, ![512, 1024]⟩
abbrev S1024x1024 : Shape := ⟨2, ![1024, 1024]⟩
abbrev S688x1 : Shape := ⟨2, ![688, 1]⟩

abbrev nBuf : Space → Nat
  | .hbm => 49
  | .vmem => 21
  | .smem => 0
  | _ => 0

abbrev bufTy : (tb : Table) → Fin (tcTables nBuf tb) → BufTy
  | .hbm, ⟨0, _⟩ => ⟨S1x16400x1024, .f32⟩
  | .hbm, ⟨1, _⟩ => ⟨S1x16400x4096, .f32⟩
  | .hbm, ⟨2, _⟩ => ⟨S1x16400x512, .f32⟩
  | .hbm, ⟨3, _⟩ => ⟨S1x16400x512, .f32⟩
  | .hbm, ⟨4, _⟩ => ⟨S1x16400x1024, .f32⟩
  | .hbm, ⟨5, _⟩ => ⟨S4x512, .f32⟩
  | .hbm, ⟨6, _⟩ => ⟨S4x512x512, .f32⟩
  | .hbm, ⟨7, _⟩ => ⟨S4x512x1024, .f32⟩
  | .hbm, ⟨8, _⟩ => ⟨S4x1024x1024, .f32⟩
  | .hbm, ⟨9, _⟩ => ⟨S4x1024x1024, .f32⟩
  | .hbm, ⟨10, _⟩ => ⟨S4x512x512, .bf16⟩
  | .hbm, ⟨11, _⟩ => ⟨S4x512x1024, .bf16⟩
  | .hbm, ⟨12, _⟩ => ⟨S4x1024x1024, .bf16⟩
  | .hbm, ⟨13, _⟩ => ⟨S4x1024x1024, .bf16⟩
  | .hbm, ⟨14, _⟩ => ⟨S16400x1024, .f32⟩
  | .hbm, ⟨15, _⟩ => ⟨S_, .f32⟩
  | .hbm, ⟨16, _⟩ => ⟨S112x1024, .f32⟩
  | .hbm, ⟨17, _⟩ => ⟨S16512x1024, .f32⟩
  | .hbm, ⟨18, _⟩ => ⟨S16400x512, .f32⟩
  | .hbm, ⟨19, _⟩ => ⟨S_, .f32⟩
  | .hbm, ⟨20, _⟩ => ⟨S112x512, .f32⟩
  | .hbm, ⟨21, _⟩ => ⟨S16512x512, .f32⟩
  | .hbm, ⟨22, _⟩ => ⟨S16512x4x128, .f32⟩
  | .hbm, ⟨23, _⟩ => ⟨S4x16512x128, .f32⟩
  | .hbm, ⟨24, _⟩ => ⟨S16400x512, .f32⟩
  | .hbm, ⟨25, _⟩ => ⟨S_, .f32⟩
  | .hbm, ⟨26, _⟩ => ⟨S112x512, .f32⟩
  | .hbm, ⟨27, _⟩ => ⟨S16512x512, .f32⟩
  | .hbm, ⟨28, _⟩ => ⟨S16512x4x128, .f32⟩
  | .hbm, ⟨29, _⟩ => ⟨S4x16512x128, .f32⟩
  | .hbm, ⟨30, _⟩ => ⟨S1x16400x512, .f32⟩
  | .hbm, ⟨31, _⟩ => ⟨S16400x512, .f32⟩
  | .hbm, ⟨32, _⟩ => ⟨S_, .f32⟩
  | .hbm, ⟨33, _⟩ => ⟨S112x512, .f32⟩
  | .hbm, ⟨34, _⟩ => ⟨S16512x512, .f32⟩
  | .hbm, ⟨35, _⟩ => ⟨S16512x4x128, .f32⟩
  | .hbm, ⟨36, _⟩ => ⟨S4x16512x128, .f32⟩
  | .hbm, ⟨37, _⟩ => ⟨S16400x4096, .f32⟩
  | .hbm, ⟨38, _⟩ => ⟨S_, .f32⟩
  | .hbm, ⟨39, _⟩ => ⟨S112x4096, .f32⟩
  | .hbm, ⟨40, _⟩ => ⟨S16512x4096, .f32⟩
  | .hbm, ⟨41, _⟩ => ⟨S16512x4096, .bf16⟩
  | .hbm, ⟨42, _⟩ => ⟨S16400x1024, .f32⟩
  | .hbm, ⟨43, _⟩ => ⟨S_, .f32⟩
  | .hbm, ⟨44, _⟩ => ⟨S112x1024, .f32⟩
  | .hbm, ⟨45, _⟩ => ⟨S16512x1024, .f32⟩
  | .hbm, ⟨46, _⟩ => ⟨S16512x1024, .bf16⟩
  | .hbm, ⟨47, _⟩ => ⟨S4x1x512, .f32⟩
  | .hbm, ⟨48, _⟩ => ⟨S16512x1024, .f32⟩
  | .local _ .vmem, ⟨0, _⟩ => ⟨S688x1024, .f32⟩
  | .local _ .vmem, ⟨1, _⟩ => ⟨S688x1024, .f32⟩
  | .local _ .vmem, ⟨2, _⟩ => ⟨S4x688x128, .f32⟩
  | .local _ .vmem, ⟨3, _⟩ => ⟨S4x688x128, .f32⟩
  | .local _ .vmem, ⟨4, _⟩ => ⟨S4x688x128, .f32⟩
  | .local _ .vmem, ⟨5, _⟩ => ⟨S4x688x128, .f32⟩
  | .local _ .vmem, ⟨6, _⟩ => ⟨S4x688x128, .f32⟩
  | .local _ .vmem, ⟨7, _⟩ => ⟨S4x688x128, .f32⟩
  | .local _ .vmem, ⟨8, _⟩ => ⟨S688x1024, .bf16⟩
  | .local _ .vmem, ⟨9, _⟩ => ⟨S688x1024, .bf16⟩
  | .local _ .vmem, ⟨10, _⟩ => ⟨S688x1024, .bf16⟩
  | .local _ .vmem, ⟨11, _⟩ => ⟨S688x1024, .bf16⟩
  | .local _ .vmem, ⟨12, _⟩ => ⟨S688x1024, .bf16⟩
  | .local _ .vmem, ⟨13, _⟩ => ⟨S688x1024, .bf16⟩
  | .local _ .vmem, ⟨14, _⟩ => ⟨S1x1x512, .f32⟩
  | .local _ .vmem, ⟨15, _⟩ => ⟨S1x512x512, .bf16⟩
  | .local _ .vmem, ⟨16, _⟩ => ⟨S1x512x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S688x1024, .f32⟩
  | .local _ .vmem, ⟨20, _⟩ => ⟨S688x1024, .f32⟩
  | _, _ => ⟨S1x16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x688x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x688x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x688x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S688x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S1x16400x1024 : Shape := ⟨3, ![1, 16400, 1024]⟩
abbrev S1x16400x4096 : Shape := ⟨3, ![1, 16400, 4096]⟩
abbrev S1x16400x512 : Shape := ⟨3, ![1, 16400, 512]⟩
abbrev S4x512 : Shape := ⟨2, ![4, 512]⟩
abbrev S4x512x512 : Shape := ⟨3, ![4, 512, 512]⟩
abbrev S4x512x1024 : Shape := ⟨3, ![4, 512, 1024]⟩
abbrev S4x1024x1024 : Shape := ⟨3, ![4, 1024, 1024]⟩
abbrev S1x512 : Shape := ⟨2, ![1, 512]⟩
abbrev S512 : Shape := ⟨1, ![512]⟩
abbrev S1x1x512 : Shape := ⟨3, ![1, 1, 512]⟩
abbrev S_ : Shape := ⟨0, ![]⟩
abbrev S1x512x512 : Shape := ⟨3, ![1, 512, 512]⟩
abbrev S512x512 : Shape := ⟨2, ![512, 512]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S16400x1024 : Shape := ⟨2, ![16400, 1024]⟩
abbrev S112x1024 : Shape := ⟨2, ![112, 1024]⟩
abbrev S16512x1024 : Shape := ⟨2, ![16512, 1024]⟩

abbrev nBuf : Space → Nat
  | .hbm => 82
  | .vmem => 0
  | .smem => 0
  | _ => 0

abbrev bufTy : (tb : Table) → Fin (tcTables nBuf tb) → BufTy
  | .hbm, ⟨0, _⟩ => ⟨S1x16400x1024, .f32⟩
  | .hbm, ⟨1, _⟩ => ⟨S1x16400x4096, .f32⟩
  | .hbm, ⟨2, _⟩ => ⟨S1x16400x512, .f32⟩
  | .hbm, ⟨3, _⟩ => ⟨S1x16400x512, .f32⟩
  | .hbm, ⟨4, _⟩ => ⟨S1x16400x1024, .f32⟩
  | .hbm, ⟨5, _⟩ => ⟨S4x512, .f32⟩
  | .hbm, ⟨6, _⟩ => ⟨S4x512x512, .f32⟩
  | .hbm, ⟨7, _⟩ => ⟨S4x512x1024, .f32⟩
  | .hbm, ⟨8, _⟩ => ⟨S4x1024x1024, .f32⟩
  | .hbm, ⟨9, _⟩ => ⟨S4x1024x1024, .f32⟩
  | .hbm, ⟨10, _⟩ => ⟨S1x16400x512, .f32⟩
  | .hbm, ⟨11, _⟩ => ⟨S1x16400x1024, .f32⟩
  | .hbm, ⟨12, _⟩ => ⟨S1x16400x1024, .f32⟩
  | .hbm, ⟨13, _⟩ => ⟨S1x16400x512, .f32⟩
  | .hbm, ⟨14, _⟩ => ⟨S1x512, .f32⟩
  | .hbm, ⟨15, _⟩ => ⟨S512, .f32⟩
  | .hbm, ⟨16, _⟩ => ⟨S1x1x512, .f32⟩
  | .hbm, ⟨17, _⟩ => ⟨S1x16400x512, .f32⟩
  | .hbm, ⟨18, _⟩ => ⟨S1x16400x512, .f32⟩
  | .hbm, ⟨19, _⟩ => ⟨S1x16400x512, .f32⟩
  | .hbm, ⟨20, _⟩ => ⟨S1x16400x512, .f32⟩
  | .hbm, ⟨21, _⟩ => ⟨S1x16400x512, .f32⟩
  | .hbm, ⟨22, _⟩ => ⟨S_, .f32⟩
  | .hbm, ⟨23, _⟩ => ⟨S1x16400x512, .f32⟩
  | .hbm, ⟨24, _⟩ => ⟨S1x16400x512, .f32⟩
  | .hbm, ⟨25, _⟩ => ⟨S1x16400x512, .f32⟩
  | .hbm, ⟨26, _⟩ => ⟨S_, .f32⟩
  | .hbm, ⟨27, _⟩ => ⟨S1x16400x512, .f32⟩
  | .hbm, ⟨28, _⟩ => ⟨S1x16400x512, .f32⟩
  | .hbm, ⟨29, _⟩ => ⟨S1x16400x512, .f32⟩
  | .hbm, ⟨30, _⟩ => ⟨S_, .f32⟩
  | .hbm, ⟨31, _⟩ => ⟨S1x16400x512, .f32⟩
  | .hbm, ⟨32, _⟩ => ⟨S1x16400x512, .f32⟩
  | .hbm, ⟨33, _⟩ => ⟨S_, .f32⟩
  | .hbm, ⟨34, _⟩ => ⟨S1x16400x512, .f32⟩
  | .hbm, ⟨35, _⟩ => ⟨S1x16400x512, .f32⟩
  | .hbm, ⟨36, _⟩ => ⟨S1x16400x512, .f32⟩
  | .hbm, ⟨37, _⟩ => ⟨S1x512x512, .f32⟩
  | .hbm, ⟨38, _⟩ => ⟨S512x512, .f32⟩
  | .hbm, ⟨39, _⟩ => ⟨S1x16400x512, .f32⟩
  | .hbm, ⟨40, _⟩ => ⟨S1x16400x512, .f32⟩
  | .hbm, ⟨41, _⟩ => ⟨S1x16400x512, .f32⟩
  | .hbm, ⟨42, _⟩ => ⟨S_, .f32⟩
  | .hbm, ⟨43, _⟩ => ⟨S1x16400x512, .f32⟩
  | .hbm, ⟨44, _⟩ => ⟨S1x16400x512, .f32⟩
  | .hbm, ⟨45, _⟩ => ⟨S_, .f32⟩
  | .hbm, ⟨46, _⟩ => ⟨S1x16400x512, .f32⟩
  | .hbm, ⟨47, _⟩ => ⟨S1x16400x512, .f32⟩
  | .hbm, ⟨48, _⟩ => ⟨S1x16400x512, .f32⟩
  | .hbm, ⟨49, _⟩ => ⟨S1x16400x1024, .f32⟩
  | .hbm, ⟨50, _⟩ => ⟨S1x16400x1024, .f32⟩
  | .hbm, ⟨51, _⟩ => ⟨S_, .f32⟩
  | .hbm, ⟨52, _⟩ => ⟨S1x16400x1024, .f32⟩
  | .hbm, ⟨53, _⟩ => ⟨S1x16400x1024, .f32⟩
  | .hbm, ⟨54, _⟩ => ⟨S_, .f32⟩
  | .hbm, ⟨55, _⟩ => ⟨S1x16400x1024, .f32⟩
  | .hbm, ⟨56, _⟩ => ⟨S1x16400x1024, .f32⟩
  | .hbm, ⟨57, _⟩ => ⟨S1x512x1024, .f32⟩
  | .hbm, ⟨58, _⟩ => ⟨S512x1024, .f32⟩
  | .hbm, ⟨59, _⟩ => ⟨S1x16400x1024, .f32⟩
  | .hbm, ⟨60, _⟩ => ⟨S1x16400x1024, .f32⟩
  | .hbm, ⟨61, _⟩ => ⟨S1x16400x1024, .f32⟩
  | .hbm, ⟨62, _⟩ => ⟨S1x16400x1024, .f32⟩
  | .hbm, ⟨63, _⟩ => ⟨S_, .f32⟩
  | .hbm, ⟨64, _⟩ => ⟨S1x16400x1024, .f32⟩
  | .hbm, ⟨65, _⟩ => ⟨S1x16400x1024, .f32⟩
  | .hbm, ⟨66, _⟩ => ⟨S_, .f32⟩
  | .hbm, ⟨67, _⟩ => ⟨S1x16400x1024, .f32⟩
  | .hbm, ⟨68, _⟩ => ⟨S1x16400x1024, .f32⟩
  | .hbm, ⟨69, _⟩ => ⟨S1x1024x1024, .f32⟩
  | .hbm, ⟨70, _⟩ => ⟨S1024x1024, .f32⟩
  | .hbm, ⟨71, _⟩ => ⟨S1x16400x1024, .f32⟩
  | .hbm, ⟨72, _⟩ => ⟨S1x16400x1024, .f32⟩
  | .hbm, ⟨73, _⟩ => ⟨S1x16400x1024, .f32⟩
  | .hbm, ⟨74, _⟩ => ⟨S1x1024x1024, .f32⟩
  | .hbm, ⟨75, _⟩ => ⟨S1024x1024, .f32⟩
  | .hbm, ⟨76, _⟩ => ⟨S1x16400x1024, .f32⟩
  | .hbm, ⟨77, _⟩ => ⟨S1x16400x1024, .f32⟩
  | .hbm, ⟨78, _⟩ => ⟨S16400x1024, .f32⟩
  | .hbm, ⟨79, _⟩ => ⟨S_, .f32⟩
  | .hbm, ⟨80, _⟩ => ⟨S112x1024, .f32⟩
  | .hbm, ⟨81, _⟩ => ⟨S16512x1024, .f32⟩
  | _, _ => ⟨S1x16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== Kernel5.lean ====
abbrev S1x16400x4096 : Shape := ⟨3, ![1, 16400, 4096]⟩
abbrev S4x16 : Shape := ⟨2, ![4, 16]⟩
abbrev S4096 : Shape := ⟨1, ![4096]⟩
abbrev S_ : Shape := ⟨0, ![]⟩
abbrev S16400x4096 : Shape := ⟨2, ![16400, 4096]⟩
abbrev S1x4096 : Shape := ⟨2, ![1, 4096]⟩
abbrev S112x4096 : Shape := ⟨2, ![112, 4096]⟩
abbrev S16512x4096 : Shape := ⟨2, ![16512, 4096]⟩
abbrev S1x16 : Shape := ⟨2, ![1, 16]⟩
abbrev S16 : Shape := ⟨1, ![16]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S16x1x1 : Shape := ⟨3, ![16, 1, 1]⟩
abbrev S1x128x384 : Shape := ⟨3, ![1, 128, 384]⟩
abbrev S16x128x384 : Shape := ⟨3, ![16, 128, 384]⟩
abbrev S1x1x128 : Shape := ⟨3, ![1, 1, 128]⟩
abbrev S16x128x128 : Shape := ⟨3, ![16, 128, 128]⟩
abbrev S1x1x384 : Shape := ⟨3, ![1, 1, 384]⟩
abbrev S16x128x512 : Shape := ⟨3, ![16, 128, 512]⟩
abbrev S1x16x128x512 : Shape := ⟨4, ![1, 16, 128, 512]⟩
abbrev S4x16x128x512 : Shape := ⟨4, ![4, 16, 128, 512]⟩
abbrev S16512x1024 : Shape := ⟨2, ![16512, 1024]⟩
abbrev S384x1024 : Shape := ⟨2, ![384, 1024]⟩
abbrev S128x256 : Shape := ⟨2, ![128, 256]⟩
abbrev S128x64 : Shape := ⟨2, ![128, 64]⟩
abbrev S512x64 : Shape := ⟨2, ![512, 64]⟩
abbrev S128x128 : Shape := ⟨2, ![128, 128]⟩
abbrev S128x1024 : Shape := ⟨2, ![128, 1024]⟩
abbrev S256x64 : Shape := ⟨2, ![256, 64]⟩
abbrev S256x512 : Shape := ⟨2, ![256, 512]⟩
abbrev S128x512 : Shape := ⟨2, ![128, 512]⟩
abbrev S1x1x128x512 : Shape := ⟨4, ![1, 1, 128, 512]⟩
abbrev S1 : Shape := ⟨1, ![1]⟩

abbrev nBuf : Space → Nat
  | .hbm => 152
  | .vmem => 29
  | .smem => 1
  | _ => 0

abbrev hbmTy0_0 (i : Nat) : BufTy := match i % 128 with
  | 0 => ⟨S1x16400x4096, .f32⟩
  | 1 => ⟨S4x16, .f32⟩
  | 2 => ⟨S4096, .i32⟩
  | 3 => ⟨S_, .i32⟩
  | 4 => ⟨S4096, .i32⟩
  | 5 => ⟨S4096, .i1⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S4096, .f32⟩
  | 15 => ⟨S4096, .f32⟩
  | 16 => ⟨S4096, .f32⟩
  | 17 => ⟨S16400x4096, .f32⟩
  | 18 => ⟨S1x4096, .f32⟩
  | 19 => ⟨S16400x4096, .f32⟩
  | 20 => ⟨S16400x4096, .f32⟩
  | 21 => ⟨S_, .f32⟩
  | 22 => ⟨S112x4096, .f32⟩
  | 23 => ⟨S16512x4096, .f32⟩
  | 24 => ⟨S16512x4096, .bf16⟩
  | 25 => ⟨S1x16, .f32⟩
  | 26 => ⟨S16, .f32⟩
  | 27 => ⟨S128, .i32⟩
  | 28 => ⟨S128x1, .i32⟩
  | 29 => ⟨S384, .i32⟩
  | 30 => ⟨S1x384, .i32⟩
  | 31 => ⟨S_, .i32⟩
  | 32 => ⟨S128x1, .i32⟩
  | 33 => ⟨S128x1, .i32⟩
  | 34 => ⟨S128x384, .i32⟩
  | 35 => ⟨S128x384, .i32⟩
  | 36 => ⟨S128x384, .i32⟩
  | 37 => ⟨S128x384, .i32⟩
  | 38 => ⟨S16, .i32⟩
  | 39 => ⟨S_, .i32⟩
  | 40 => ⟨S16, .i32⟩
  | 41 => ⟨S16, .i32⟩
  | 42 => ⟨S16, .f32⟩
  | 43 => ⟨S_, .f32⟩
  | 44 => ⟨S16, .f32⟩
  | 45 => ⟨S16, .f32⟩
  | 46 => ⟨S_, .f32⟩
  | 47 => ⟨S16, .f32⟩
  | 48 => ⟨S16, .f32⟩
  | 49 => ⟨S16, .f32⟩
  | 50 => ⟨S_, .f32⟩
  | 51 => ⟨S_, .f32⟩
  | 52 => ⟨S_, .f32⟩
  | 53 => ⟨S_, .f32⟩
  | 54 => ⟨S_, .f32⟩
  | 55 => ⟨S16x1x1, .f32⟩
  | 56 => ⟨S16x1x1, .f32⟩
  | 57 => ⟨S16x1x1, .f32⟩
  | 58 => ⟨S1x128x384, .i32⟩
  | 59 => ⟨S1x128x384, .f32⟩
  | 60 => ⟨S16x128x384, .f32⟩
  | 61 => ⟨S16x128x384, .f32⟩
  | 62 => ⟨S16x128x384, .f32⟩
  | 63 => ⟨S_, .i32⟩
  | 64 => ⟨S128x384, .i32⟩
  | 65 => ⟨S128x384, .i1⟩
  | 66 => ⟨S1x128x384, .i1⟩
  | 67 => ⟨S128, .i32⟩
  | 68 => ⟨S_, .i32⟩
  | 69 => ⟨S128, .i32⟩
  | 70 => ⟨S128, .i1⟩
  | 71 => ⟨S_, .f32⟩
  | 72 => ⟨S_, .f32⟩
  | 73 => ⟨S128, .f32⟩
  | 74 => ⟨S128, .f32⟩
  | 75 => ⟨S128, .f32⟩
  | 76 => ⟨S1x1x128, .f32⟩
  | 77 => ⟨S16x128x128, .f32⟩
  | 78 => ⟨S_, .i32⟩
  | 79 => ⟨S1x384, .i32⟩
  | 80 => ⟨S1x384, .i1⟩
  | 81 => ⟨S_, .i32⟩
  | 82 => ⟨S1x384, .i32⟩
  | 83 => ⟨S1x384, .i1⟩
  | 84 => ⟨S1x384, .i1⟩
  | 85 => ⟨S1x1x384, .i1⟩
  | 86 => ⟨S1x128x384, .i1⟩
  | 87 => ⟨S1x128x384, .i1⟩
  | 88 => ⟨S_, .f32⟩
  | 89 => ⟨S_, .f32⟩
  | 90 => ⟨S16x128x384, .i1⟩
  | 91 => ⟨S16x128x384, .f32⟩
  | 92 => ⟨S16x128x384, .f32⟩
  | 93 => ⟨S16x128x128, .f32⟩
  | 94 => ⟨S16x128x512, .f32⟩
  | 95 => ⟨S_, .i32⟩
  | 96 => ⟨S1x384, .i32⟩
  | 97 => ⟨S1x384, .i1⟩
  | 98 => ⟨S_, .i32⟩
  | 99 => ⟨S1x384, .i32⟩
  | 100 => ⟨S1x384, .i1⟩
  | 101 => ⟨S1x384, .i1⟩
  | 102 => ⟨S1x1x384, .i1⟩
  | 103 => ⟨S1x128x384, .i1⟩
  | 104 => ⟨S1x128x384, .i1⟩
  | 105 => ⟨S_, .f32⟩
  | 106 => ⟨S_, .f32⟩
  | 107 => ⟨S16x128x384, .i1⟩
  | 108 => ⟨S16x128x384, .f32⟩
  | 109 => ⟨S16x128x384, .f32⟩
  | 110 => ⟨S16x128x128, .f32⟩
  | 111 => ⟨S16x128x512, .f32⟩
  | 112 => ⟨S_, .i32⟩
  | 113 => ⟨S1x384, .i32⟩
  | 114 => ⟨S1x384, .i1⟩
  | 115 => ⟨S_, .i32⟩
  | 116 => ⟨S1x384, .i32⟩
  | 117 => ⟨S1x384, .i1⟩
  | 118 => ⟨S1x384, .i1⟩
  | 119 => ⟨S1x1x384, .i1⟩
  | 120 => ⟨S1x128x384, .i1⟩
  | 121 => ⟨S1x128x384, .i1⟩
  | 122 => ⟨S_, .f32⟩
  | 123 => ⟨S_, .f32⟩
  | 124 => ⟨S16x128x384, .i1⟩
  | 125 => ⟨S16x128x384, .f32⟩
  | 126 => ⟨S16x128x384, .f32⟩
  | 127 => ⟨S16x128x128, .f32⟩
  | _ => ⟨S1x16400x4096, .f32⟩

abbrev hbmTy0_1 (i : Nat) : BufTy := match i % 128 with
  | 0 => ⟨S16x128x512, .f32⟩
  | 1 => ⟨S_, .i32⟩
  | 2 => ⟨S1x384, .i32⟩
  | 3 => ⟨S1x384, .i1⟩
  | 4 => ⟨S_, .i32⟩
  | 5 => ⟨S1x384, .i32⟩
  | 6 => ⟨S1x384, .i1⟩
  | 7 => ⟨S1x384, .i1⟩
  | 8 => ⟨S1x1x384, .i1⟩
  | 9 => ⟨S1x128x384, .i1⟩
  | 10 => ⟨S1x128x384, .i1⟩
  | 11 => ⟨S_, .f32⟩
  | 12 => ⟨S_, .f32⟩
  | 13 => ⟨S16x128x384, .i1⟩
  | 14 => ⟨S16x128x384, .f32⟩
  | 15 => ⟨S16x128x384, .f32⟩
  | 16 => ⟨S16x128x128, .f32⟩
  | 17 => ⟨S16x128x512, .f32⟩
  | 18 => ⟨S1x16x128x512, .f32⟩
  | 19 => ⟨S1x16x128x512, .f32⟩
  | 20 => ⟨S1x16x128x512, .f32⟩
  | 21 => ⟨S1x16x128x512, .f32⟩
  | 22 => ⟨S4x16x128x512, .f32⟩
  | 23 => ⟨S16512x1024, .bf16⟩
  | _ => ⟨S1x16400x4096, .f32⟩

abbrev hbmTy (i : Nat) : BufTy := match i / 128 with
  | 0 => hbmTy0_0 i
  | 1 => hbmTy0_1 i
  | _ => ⟨S1x16400x4096, .f32⟩

abbrev bufTy : (tb : Table) → Fin (tcTables nBuf tb) → BufTy
  | .hbm, ⟨i, _⟩ => hbmTy i
  | .local _ .vmem, ⟨0, _⟩ => ⟨S384x1024, .bf16⟩
  | .local _ .vmem, ⟨1, _⟩ => ⟨S384x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S128x256, .bf16⟩
  | .local _ .vmem, ⟨15, _⟩ => ⟨S128x256, .bf16⟩
  | .local _ .vmem, ⟨16, _⟩ => ⟨S128x256, .bf16⟩
  | .local _ .vmem, ⟨17, _⟩ => ⟨S128x256, .bf16⟩
  | .local _ .vmem, ⟨18, _⟩ => ⟨S128x256, .bf16⟩
  | .local _ .vmem, ⟨19, _⟩ => ⟨S128x256, .bf16⟩
  | .local _ .vmem, ⟨20, _⟩ => ⟨S128x256, .bf16⟩
  | .local _ .vmem, ⟨21, _⟩ => ⟨S128x256, .bf16⟩
  | .local _ .vmem, ⟨22, _⟩ => ⟨S128x256, .bf16⟩
  | .local _ .vmem, ⟨23, _⟩ => ⟨S128x256, .bf16⟩
  | .local _ .vmem, ⟨24, _⟩ => ⟨S1x16x128x512, .f32⟩
  | .local _ .vmem, ⟨25, _⟩ => ⟨S1x16x128x512, .f32⟩
  | .local _ .vmem, ⟨26, _⟩ => ⟨S1x16x128x512, .f32⟩
  | .local _ .vmem, ⟨27, _⟩ => ⟨S384x1024, .bf16⟩
  | .local _ .vmem, ⟨28, _⟩ => ⟨S384x1024, .bf16⟩
  | .local _ .smem, ⟨0, _⟩ => ⟨S16, .f32⟩
  | _, _ => ⟨S1x16400x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_cst_13 : Ref sig .tc := ⟨.hbm, 72, rfl⟩
abbrev main_call1_v0 : Ref sig .tc := ⟨.hbm, 73, rfl⟩
abbrev main_call1_v1 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_14 : Ref sig .tc := ⟨.hbm, 78, rfl⟩
abbrev main_v55 : Ref sig .tc := ⟨.hbm, 79, rfl⟩
abbrev main_v56 : Ref sig .tc := ⟨.hbm, 80, rfl⟩
abbrev main_c_15 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_16 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_17 : Ref sig .tc := ⟨.hbm, 95, rfl⟩
abbrev main_v66 : Ref sig .tc := ⟨.hbm, 96, rfl⟩
abbrev main_v67 : Ref sig .tc := ⟨.hbm, 97, rfl⟩
abbrev main_c_18 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_19 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_20 : Ref sig .tc := ⟨.hbm, 112, rfl⟩
abbrev main_v77 : Ref sig .tc := ⟨.hbm, 113, rfl⟩
abbrev main_v78 : Ref sig .tc := ⟨.hbm, 114, rfl⟩
abbrev main_c_21 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_22 : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_c_23 : Ref sig .tc := ⟨.hbm, 129, rfl⟩
abbrev main_v88 : Ref sig .tc := ⟨.hbm, 130, rfl⟩
abbrev main_v89 : Ref sig .tc := ⟨.hbm, 131, rfl⟩
abbrev main_c_24 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_25 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![43], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let v0 : BitVec 32 := Scalar.muli arg0 c3_i32
  let c_m1_i32 : BitVec 32 := 4294967295#32
  let v1 : BitVec 32 := Scalar.addi v0 c_m1_i32
  let c0_i32 : BitVec 32 := 0#32
  let c128_i32 : BitVec 32 := 128#32
  let v2 : BitVec 32 := Scalar.maxsi c0_i32 v1
  let v3 : BitVec 32 := Scalar.minsi c128_i32 v2
  let c4_i32 : BitVec 32 := 4#32
  let c0_i32_0 : BitVec 32 := 0#32
  ![v3.toNat, c4_i32.toNat]

def cc0_transform_3 (i : grid0.Coords) : Fin 2 → Nat :=
  let arg0 : BitVec 32 := BitVec.ofNat 32 (i 0).val
  let c3_i32 : BitVec 32 := 3#32
  let v0 : BitVec 32 := Scalar.muli arg0 c3_i32
  let c0_i32 : BitVec 32 := 0#32
  let v1 : BitVec 32 := Scalar.addi v0 c0_i32
  let c0_i32_0 : BitVec 32 := 0#32
  let c128_i32 : BitVec 32 := 128#32
  let v2 : BitVec 32 := Scalar.maxsi c0_i32_0 v1
  let v3 : BitVec 32 := Scalar.minsi c128_i32 v2
  let c4_i32 : BitVec 32 := 4#32
  let c0_i32_1 : BitVec 32 := 0#32
  ![v3.toNat, c4_i32.toNat]

def cc0_transform_4 (i : grid0.Coords) : Fin 2 → Nat :=
  let arg0 : BitVec 32 := BitVec.ofNat 32 (i 0).val
  let c3_i32 : BitVec 32 := 3#32
  let v0 : BitVec 32 := Scalar.muli arg0 c3_i32
  let c1_i32 : BitVec 32 := 1#32
  let v1 : BitVec 32 := Scalar.addi v0 c1_i32
  let c0_i32 : BitVec 32 := 0#32
  let c128_i32 : BitVec 32 := 128#32
  let v2 : BitVec 32 := Scalar.maxsi c0_i32 v1
  let v3 : BitVec 32 := Scalar.minsi c128_i32 v2
  let c4_i32 : BitVec 32 := 4#32
  let c0_i32_0 : BitVec 32 := 0#32
  ![v3.toNat, c4_i32.toNat]

def cc0_transform_5 (i : grid0.Coords) : Fin 2 → Nat :=
  let arg0 : BitVec 32 := BitVec.ofNat 32 (i 0).val
  let c3_i32 : BitVec 32 := 3#32
  let v0 : BitVec 32 := Scalar.muli arg0 c3_i32
  let c2_i32 : BitVec 32 := 2#32
  let v1 : BitVec 32 := Scalar.addi v0 c2_i32
  let c0_i32 : BitVec 32 := 0#32
  let c128_i32 : BitVec 32 := 128#32
  let v2 : BitVec 32 := Scalar.maxsi c0_i32 v1
  let v3 : BitVec 32 := Scalar.minsi c128_i32 v2
  let c4_i32 : BitVec 32 := 4#32
  let c0_i32_0 : BitVec 32 := 0#32
  ![v3.toNat, c4_i32.toNat]

def cc0_transform_6 (i : grid0.Coords) : Fin 2 → Nat :=
  let arg0 : BitVec 32 := BitVec.ofNat 32 (i 0).val
  let c3_i32 : BitVec 32 := 3#32
  let v0 : BitVec 32 := Scalar.muli arg0 c3_i32
  let c3_i32_0 : BitVec 32 := 3#32
  let v1 : BitVec 32 := Scalar.addi v0 c3_i32_0
  let c0_i32 : BitVec 32 := 0#32
  let c128_i32 : BitVec 32 := 128#32
  let v2 : BitVec 32 := Scalar.maxsi c0_i32 v1
  let v3 : BitVec 32 := Scalar.minsi c128_i32 v2
  let c4_i32 : BitVec 32 := 4#32
  let c0_i32_1 : BitVec 32 := 0#32
  ![v3.toNat, c4_i32.toNat]

def cc0_transform_7 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_8 (i : grid0.Coords) : Fin 2 → Nat :=
  let arg0 : BitVec 32 := BitVec.ofNat 32 (i 0).val
  let c3_i32 : BitVec 32 := 3#32
  let v0 : BitVec 32 := Scalar.muli arg0 c3_i32
  let c_m1_i32 : BitVec 32 := 4294967295#32
  let v1 : BitVec 32 := Scalar.addi v0 c_m1_i32
  let c0_i32 : BitVec 32 := 0#32
  let c128_i32 : BitVec 32 := 128#32
  let v2 : BitVec 32 := Scalar.maxsi c0_i32 v1
  let v3 : BitVec 32 := Scalar.minsi c128_i32 v2
  let c5_i32 : BitVec 32 := 5#32
  let c0_i32_0 : BitVec 32 := 0#32
  ![v3.toNat, c5_i32.toNat]

def cc0_transform_9 (i : grid0.Coords) : Fin 2 → Nat :=
  let arg0 : BitVec 32 := BitVec.ofNat 32 (i 0).val
  let c3_i32 : BitVec 32 := 3#32
  let v0 : BitVec 32 := Scalar.muli arg0 c3_i32
  let c0_i32 : BitVec 32 := 0#32
  let v1 : BitVec 32 := Scalar.addi v0 c0_i32
  let c0_i32_0 : BitVec 32 := 0#32
  let c128_i32 : BitVec 32 := 128#32
  let v2 : BitVec 32 := Scalar.maxsi c0_i32_0 v1
  let v3 : BitVec 32 := Scalar.minsi c128_i32 v2
  let c5_i32 : BitVec 32 := 5#32
  let c0_i32_1 : BitVec 32 := 0#32
  ![v3.toNat, c5_i32.toNat]

def cc0_transform_10 (i : grid0.Coords) : Fin 2 → Nat :=
  let arg0 : BitVec 32 := BitVec.ofNat 32 (i 0).val
  let c3_i32 : BitVec 32 := 3#32
  let v0 : BitVec 32 := Scalar.muli arg0 c3_i32
  let c1_i32 : BitVec 32 := 1#32
  let v1 : BitVec 32 := Scalar.addi v0 c1_i32
  let c0_i32 : BitVec 32 := 0#32
  let c128_i32 : BitVec 32 := 128#32
  let v2 : BitVec 32 := Scalar.maxsi c0_i32 v1
  let v3 : BitVec 32 := Scalar.minsi c128_i32 v2
  let c5_i32 : BitVec 32 := 5#32
  let c0_i32_0 : BitVec 32 := 0#32
  ![v3.toNat, c5_i32.toNat]

def cc0_transform_11 (i : grid0.Coords) : Fin 2 → Nat :=
  let arg0 : BitVec 32 := BitVec.ofNat 32 (i 0).val
  let c3_i32 : BitVec 32 := 3#32
  let v0 : BitVec 32 := Scalar.muli arg0 c3_i32
  let c2_i32 : BitVec 32 := 2#32
  let v1 : BitVec 32 := Scalar.addi v0 c2_i32
  let c0_i32 : BitVec 32 := 0#32
  let c128_i32 : BitVec 32 := 128#32
  let v2 : BitVec 32 := Scalar.maxsi c0_i32 v1
  let v3 : BitVec 32 := Scalar.minsi c128_i32 v2
  let c5_i32 : BitVec 32 := 5#32
  let c0_i32_0 : BitVec 32 := 0#32
  ![v3.toNat, c5_i32.toNat]

def cc0_transform_12 (i : grid0.Coords) : Fin 2 → Nat :=
  let arg0 : BitVec 32 := BitVec.ofNat 32 (i 0).val
  let c3_i32 : BitVec 32 := 3#32
  let v0 : BitVec 32 := Scalar.muli arg0 c3_i32
  let c3_i32_0 : BitVec 32 := 3#32
  let v1 : BitVec 32 := Scalar.addi v0 c3_i32_0
  let c0_i32 : BitVec 32 := 0#32
  let c128_i32 : BitVec 32 := 128#32
  let v2 : BitVec 32 := Scalar.maxsi c0_i32 v1
  let v3 : BitVec 32 := Scalar.minsi c128_i32 v2
  let c5_i32 : BitVec 32 := 5#32
  let c0_i32_1 : BitVec 32 := 0#32
  ![v3.toNat, c5_i32.toNat]

def cc0_transform_13 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_14 (i : grid0.Coords) : Fin 4 → Nat :=
  let arg0 : BitVec 32 := BitVec.ofNat 32 (i 0).val
  let c3_i32 : BitVec 32 := 3#32
  let v0 : BitVec 32 := Scalar.muli arg0 c3_i32
  let c0_i32 : BitVec 32 := 0#32
  let v1 : BitVec 32 := Scalar.addi v0 c0_i32
  let c0_i32_0 : BitVec 32 := 0#32
  let v2 : BitVec 1 := Scalar.cmpi .eq v1 c0_i32_0
  let c1_i32 : BitVec 32 := 1#32
  let v3 : BitVec 1 := Scalar.cmpi .eq v1 c1_i32
  let c128_i32 : BitVec 32 := 128#32
  let v4 : BitVec 1 := Scalar.cmpi .eq v1 c128_i32
  let c3_i32_1 : BitVec 32 := 3#32
  let c2_i32 : BitVec 32 := 2#32
  let v5 : BitVec 32 := Scalar.select v4 c3_i32_1 c2_i32
  let c1_i32_2 : BitVec 32 := 1#32
  let v6 : BitVec 32 := Scalar.select v3 c1_i32_2 v5
  let c0_i32_3 : BitVec 32 := 0#32
  let v7 : BitVec 32 := Scalar.select v2 c0_i32_3 v6
  let c0_i32_4 : BitVec 32 := 0#32
  let c0_i32_5 : BitVec 32 := 0#32
  let c0_i32_6 : BitVec 32 := 0#32
  let c0_i32_7 : BitVec 32 := 0#32
  ![v7.toNat, c0_i32_4.toNat, c0_i32_5.toNat, c0_i32_6.toNat]

def cc0_transform_15 (i : grid0.Coords) : Fin 4 → Nat :=
  let arg0 : BitVec 32 := BitVec.ofNat 32 (i 0).val
  let c3_i32 : BitVec 32 := 3#32
  let v0 : BitVec 32 := Scalar.muli arg0 c3_i32
  let c1_i32 : BitVec 32 := 1#32
  let v1 : BitVec 32 := Scalar.addi v0 c1_i32
  let c0_i32 : BitVec 32 := 0#32
  let v2 : BitVec 1 := Scalar.cmpi .eq v1 c0_i32
  let c1_i32_0 : BitVec 32 := 1#32
  let v3 : BitVec 1 := Scalar.cmpi .eq v1 c1_i32_0
  let c128_i32 : BitVec 32 := 128#32
  let v4 : BitVec 1 := Scalar.cmpi .eq v1 c128_i32
  let c3_i32_1 : BitVec 32 := 3#32
  let c2_i32 : BitVec 32 := 2#32
  let v5 : BitVec 32 := Scalar.select v4 c3_i32_1 c2_i32
  let c1_i32_2 : BitVec 32 := 1#32
  let v6 : BitVec 32 := Scalar.select v3 c1_i32_2 v5
  let c0_i32_3 : BitVec 32 := 0#32
  let v7 : BitVec 32 := Scalar.select v2 c0_i32_3 v6
  let c0_i32_4 : BitVec 32 := 0#32
  let c0_i32_5 : BitVec 32 := 0#32
  let c0_i32_6 : BitVec 32 := 0#32
  let c0_i32_7 : BitVec 32 := 0#32
  ![v7.toNat, c0_i32_4.toNat, c0_i32_5.toNat, c0_i32_6.toNat]

def cc0_transform_16 (i : grid0.Coords) : Fin 4 → Nat :=
  let arg0 : BitVec 32 := BitVec.ofNat 32 (i 0).val
  let c3_i32 : BitVec 32 := 3#32
  let v0 : BitVec 32 := Scalar.muli arg0 c3_i32
  let c2_i32 : BitVec 32 := 2#32
  let v1 : BitVec 32 := Scalar.addi v0 c2_i32
  let c0_i32 : BitVec 32 := 0#32
  let v2 : BitVec 1 := Scalar.cmpi .eq v1 c0_i32
  let c1_i32 : BitVec 32 := 1#32
  let v3 : BitVec 1 := Scalar.cmpi .eq v1 c1_i32
  let c128_i32 : BitVec 32 := 128#32
  let v4 : BitVec 1 := Scalar.cmpi .eq v1 c128_i32
  let c3_i32_0 : BitVec 32 := 3#32
  let c2_i32_1 : BitVec 32 := 2#32
  let v5 : BitVec 32 := Scalar.select v4 c3_i32_0 c2_i32_1
  let c1_i32_2 : BitVec 32 := 1#32
  let v6 : BitVec 32 := Scalar.select v3 c1_i32_2 v5
  let c0_i32_3 : BitVec 32 := 0#32
  let v7 : BitVec 32 := Scalar.select v2 c0_i32_3 v6
  let c0_i32_4 : BitVec 32 := 0#32
  let c0_i32_5 : BitVec 32 := 0#32
  let c0_i32_6 : BitVec 32 := 0#32
  let c0_i32_7 : BitVec 32 := 0#32
  ![v7.toNat, c0_i32_4.toNat, c0_i32_5.toNat, c0_i32_6.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S128x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x16x128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S1x16x128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S1x16x128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 2 → Memref sig .tc .vmem S384x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel5Ideal.lean ====
variable {F : FTy → Type} [FloatOps F] [Named F]
def κ : String → Option EReal := fun
  | "log2e" => some (((Real.log 2)⁻¹ : ℝ) : EReal)
  | _ => none
-- ==== Reference5Ideal.lean ====
abbrev S1x16400x4096 : Shape := ⟨3, ![1, 16400, 4096]⟩
abbrev S4x16 : Shape := ⟨2, ![4, 16]⟩
abbrev S16400x4096 : Shape := ⟨2, ![16400, 4096]⟩
abbrev S16400x256 : Shape := ⟨2, ![16400, 256]⟩
abbrev S16400x1024 : Shape := ⟨2, ![16400, 1024]⟩
abbrev S_ : Shape := ⟨0, ![]⟩
abbrev S16512x1024 : Shape := ⟨2, ![16512, 1024]⟩
abbrev S129x128x4x4x64 : Shape := ⟨5, ![129, 128, 4, 4, 64]⟩
abbrev S16768x256 : Shape := ⟨2, ![16768, 256]⟩
abbrev S131x128x4x64 : Shape := ⟨4, ![131, 128, 4, 64]⟩
abbrev S129x128x4x64 : Shape := ⟨4, ![129, 128, 4, 64]⟩
abbrev S129x384x4x64 : Shape := ⟨4, ![129, 384, 4, 64]⟩
abbrev S16x256 : Shape := ⟨2, ![16, 256]⟩
abbrev S16x4x64 : Shape := ⟨3, ![16, 4, 64]⟩
abbrev S128x384 : Shape := ⟨2, ![128, 384]⟩
abbrev S129x384 : Shape := ⟨2, ![129, 384]⟩
abbrev S16 : Shape := ⟨1, ![16]⟩
abbrev S4x4 : Shape := ⟨2, ![4, 4]⟩
abbrev S129x4x384x128x4 : Shape := ⟨5, ![129, 4, 384, 128, 4]⟩
abbrev S129x4x4x128x384 : Shape := ⟨5, ![129, 4, 4, 128, 384]⟩
abbrev S4x16x129x128x4 : Shape := ⟨5, ![4, 16, 129, 128, 4]⟩
abbrev S129x4x4x128x16 : Shape := ⟨5, ![129, 4, 4, 128, 16]⟩
abbrev S1x16 : Shape := ⟨2, ![1, 16]⟩
abbrev S129x4x4x128x1 : Shape := ⟨5, ![129, 4, 4, 128, 1]⟩
abbrev S129x4x4x128x401 : Shape := ⟨5, ![129, 4, 4, 128, 401]⟩
abbrev S129x4x4x128 : Shape := ⟨4, ![129, 4, 4, 128]⟩
abbrev S129x4x64x4x128 : Shape := ⟨5, ![129, 4, 64, 4, 128]⟩
abbrev S4x64x129x4x128 : Shape := ⟨5, ![4, 64, 129, 4, 128]⟩

abbrev nBuf : Space → Nat
  | .hbm => 115
  | .vmem => 0
  | .smem => 0
  | _ => 0

abbrev bufTy : (tb : Table) → Fin (tcTables nBuf tb) → BufTy
  | .hbm, ⟨0, _⟩ => ⟨S1x16400x4096, .f32⟩
  | .hbm, ⟨1, _⟩ => ⟨S4x16, .f32⟩
  | .hbm, ⟨2, _⟩ => ⟨S16400x4096, .f32⟩
  | .hbm, ⟨3, _⟩ => ⟨S16400x256, .f32⟩
  | .hbm, ⟨4, _⟩ => ⟨S16400x256, .f32⟩
  | .hbm, ⟨5, _⟩ => ⟨S16400x1024, .f32⟩
  | .hbm, ⟨6, _⟩ => ⟨S_, .f32⟩
  | .hbm, ⟨7, _⟩ => ⟨S16512x1024, .f32⟩
  | .hbm, ⟨8, _⟩ => ⟨S129x128x4x4x64, .f32⟩
  | .hbm, ⟨9, _⟩ => ⟨S_, .f32⟩
  | .hbm, ⟨10, _⟩ => ⟨S16768x256, .f32⟩
  | .hbm, ⟨11, _⟩ => ⟨S131x128x4x64, .f32⟩
  | .hbm, ⟨12, _⟩ => ⟨S129x128x4x64, .f32⟩
  | .hbm, ⟨13, _⟩ => ⟨S129x128x4x64, .f32⟩
  | .hbm, ⟨14, _⟩ => ⟨S129x128x4x64, .f32⟩
  | .hbm, ⟨15, _⟩ => ⟨S129x384x4x64, .f32⟩
  | .hbm, ⟨16, _⟩ => ⟨S_, .f32⟩
  | .hbm, ⟨17, _⟩ => ⟨S16768x256, .f32⟩
  | .hbm, ⟨18, _⟩ => ⟨S131x128x4x64, .f32⟩
  | .hbm, ⟨19, _⟩ => ⟨S129x128x4x64, .f32⟩
  | .hbm, ⟨20, _⟩ => ⟨S129x128x4x64, .f32⟩
  | .hbm, ⟨21, _⟩ => ⟨S129x128x4x64, .f32⟩
  | .hbm, ⟨22, _⟩ => ⟨S129x384x4x64, .f32⟩
  | .hbm, ⟨23, _⟩ => ⟨S16x256, .f32⟩
  | .hbm, ⟨24, _⟩ => ⟨S16x4x64, .f32⟩
  | .hbm, ⟨25, _⟩ => ⟨S16x256, .f32⟩
  | .hbm, ⟨26, _⟩ => ⟨S16x4x64, .f32⟩
  | .hbm, ⟨27, _⟩ => ⟨S128x384, .i32⟩
  | .hbm, ⟨28, _⟩ => ⟨S_, .i32⟩
  | .hbm, ⟨29, _⟩ => ⟨S128x384, .i32⟩
  | .hbm, ⟨30, _⟩ => ⟨S128x384, .i32⟩
  | .hbm, ⟨31, _⟩ => ⟨S128x384, .i32⟩
  | .hbm, ⟨32, _⟩ => ⟨S128x384, .i32⟩
  | .hbm, ⟨33, _⟩ => ⟨S128x384, .i32⟩
  | .hbm, ⟨34, _⟩ => ⟨S129x384, .i32⟩
  | .hbm, ⟨35, _⟩ => ⟨S_, .i32⟩
  | .hbm, ⟨36, _⟩ => ⟨S129x384, .i32⟩
  | .hbm, ⟨37, _⟩ => ⟨S129x384, .i32⟩
  | .hbm, ⟨38, _⟩ => ⟨S_, .i32⟩
  | .hbm, ⟨39, _⟩ => ⟨S129x384, .i32⟩
  | .hbm, ⟨40, _⟩ => ⟨S129x384, .i32⟩
  | .hbm, ⟨41, _⟩ => ⟨S129x384, .i32⟩
  | .hbm, ⟨42, _⟩ => ⟨S129x384, .i32⟩
  | .hbm, ⟨43, _⟩ => ⟨S_, .i32⟩
  | .hbm, ⟨44, _⟩ => ⟨S129x384, .i32⟩
  | .hbm, ⟨45, _⟩ => ⟨S129x384, .i1⟩
  | .hbm, ⟨46, _⟩ => ⟨S_, .i32⟩
  | .hbm, ⟨47, _⟩ => ⟨S129x384, .i32⟩
  | .hbm, ⟨48, _⟩ => ⟨S129x384, .i1⟩
  | .hbm, ⟨49, _⟩ => ⟨S129x384, .i1⟩
  | .hbm, ⟨50, _⟩ => ⟨S16, .i32⟩
  | .hbm, ⟨51, _⟩ => ⟨S_, .i32⟩
  | .hbm, ⟨52, _⟩ => ⟨S16, .i32⟩
  | .hbm, ⟨53, _⟩ => ⟨S16, .i32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S16, .f32⟩
  | .hbm, ⟨62, _⟩ => ⟨S4x4, .f32⟩
  | .hbm, ⟨63, _⟩ => ⟨S129x4x384x128x4, .f32⟩
  | .hbm, ⟨64, _⟩ => ⟨S129x4x4x128x384, .f32⟩
  | .hbm, ⟨65, _⟩ => ⟨S_, .f32⟩
  | .hbm, ⟨66, _⟩ => ⟨S129x4x4x128x384, .f32⟩
  | .hbm, ⟨67, _⟩ => ⟨S129x4x4x128x384, .f32⟩
  | .hbm, ⟨68, _⟩ => ⟨S129x4x4x128x384, .f32⟩
  | .hbm, ⟨69, _⟩ => ⟨S128x384, .f32⟩
  | .hbm, ⟨70, _⟩ => ⟨S129x4x4x128x384, .f32⟩
  | .hbm, ⟨71, _⟩ => ⟨S129x4x4x128x384, .f32⟩
  | .hbm, ⟨72, _⟩ => ⟨S129x4x4x128x384, .f32⟩
  | .hbm, ⟨73, _⟩ => ⟨S_, .i32⟩
  | .hbm, ⟨74, _⟩ => ⟨S128x384, .i32⟩
  | .hbm, ⟨75, _⟩ => ⟨S128x384, .i1⟩
  | .hbm, ⟨76, _⟩ => ⟨S129x4x4x128x384, .i1⟩
  | .hbm, ⟨77, _⟩ => ⟨S129x4x4x128x384, .i1⟩
  | .hbm, ⟨78, _⟩ => ⟨S129x4x4x128x384, .i1⟩
  | .hbm, ⟨79, _⟩ => ⟨S_, .f32⟩
  | .hbm, ⟨80, _⟩ => ⟨S129x4x4x128x384, .f32⟩
  | .hbm, ⟨81, _⟩ => ⟨S129x4x4x128x384, .f32⟩
  | .hbm, ⟨82, _⟩ => ⟨S4x16x129x128x4, .f32⟩
  | .hbm, ⟨83, _⟩ => ⟨S129x4x4x128x16, .f32⟩
  | .hbm, ⟨84, _⟩ => ⟨S_, .f32⟩
  | .hbm, ⟨85, _⟩ => ⟨S129x4x4x128x16, .f32⟩
  | .hbm, ⟨86, _⟩ => ⟨S129x4x4x128x16, .f32⟩
  | .hbm, ⟨87, _⟩ => ⟨S1x16, .f32⟩
  | .hbm, ⟨88, _⟩ => ⟨S16, .f32⟩
  | .hbm, ⟨89, _⟩ => ⟨S4x4, .f32⟩
  | .hbm, ⟨90, _⟩ => ⟨S129x4x4x128x1, .f32⟩
  | .hbm, ⟨91, _⟩ => ⟨S129x4x4x128x401, .f32⟩
  | .hbm, ⟨92, _⟩ => ⟨S_, .f32⟩
  | .hbm, ⟨93, _⟩ => ⟨S129x4x4x128, .f32⟩
  | .hbm, ⟨94, _⟩ => ⟨S_, .f32⟩
  | .hbm, ⟨95, _⟩ => ⟨S129x4x4x128, .f32⟩
  | .hbm, ⟨96, _⟩ => ⟨S129x4x4x128, .f32⟩
  | .hbm, ⟨97, _⟩ => ⟨S129x4x4x128x1, .f32⟩
  | .hbm, ⟨98, _⟩ => ⟨S129x4x4x128x401, .f32⟩
  | .hbm, ⟨99, _⟩ => ⟨S129x4x4x128x401, .f32⟩
  | .hbm, ⟨100, _⟩ => ⟨S129x4x4x128x401, .f32⟩
  | .hbm, ⟨101, _⟩ => ⟨S_, .f32⟩
  | .hbm, ⟨102, _⟩ => ⟨S129x4x4x128, .f32⟩
  | .hbm, ⟨103, _⟩ => ⟨S129x4x4x128x1, .f32⟩
  | .hbm, ⟨104, _⟩ => ⟨S129x4x4x128x401, .f32⟩
  | .hbm, ⟨105, _⟩ => ⟨S129x4x4x128x401, .f32⟩
  | .hbm, ⟨106, _⟩ => ⟨S129x4x4x128x384, .f32⟩
  | .hbm, ⟨107, _⟩ => ⟨S129x4x4x128x16, .f32⟩
  | .hbm, ⟨108, _⟩ => ⟨S129x4x64x4x128, .f32⟩
  | .hbm, ⟨109, _⟩ => ⟨S129x128x4x4x64, .f32⟩
  | .hbm, ⟨110, _⟩ => ⟨S4x64x129x4x128, .f32⟩
  | .hbm, ⟨111, _⟩ => ⟨S129x128x4x4x64, .f32⟩
  | .hbm, ⟨112, _⟩ => ⟨S129x128x4x4x64, .f32⟩
  | .hbm, ⟨113, _⟩ => ⟨S16512x1024, .f32⟩
  | .hbm, ⟨114, _⟩ => ⟨S16512x1024, .bf16⟩
  | _, _ => ⟨S1x16400x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_2 : Ref sig .tc := ⟨.hbm, 35, rfl⟩
abbrev main_v29 : Ref sig .tc := ⟨.hbm, 36, rfl⟩
abbrev main_v30 : Ref sig .tc := ⟨.hbm, 37, rfl⟩
abbrev main_c_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_4 : Ref sig .tc := ⟨.hbm, 43, rfl⟩
abbrev main_v35 : Ref sig .tc := ⟨.hbm, 44, rfl⟩
abbrev main_v36 : Ref sig .tc := ⟨.hbm, 45, rfl⟩
abbrev main_c_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_10 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_11 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_12 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_13 : Ref sig .tc := ⟨.hbm, 92, rfl⟩
abbrev main_v75 : Ref sig .tc := ⟨.hbm, 93, rfl⟩
abbrev main_cst_14 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_15 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩

abbrev nD : Nat := 1
abbrev τ : Topo := Topo.v7x

variable {F : FTy → Type} [FloatOps F]
-- ==== Proof.Row.lean ====
/- The mathematics of one token's row, on the extended reals: the RMS norm and the gated feed-forward sub-layer, each as a
   function of the row, the gain and the weights. Nothing here mentions a program: what the kernels' blocks and the
   references' arrays are shown to hold is stated through these definitions. -/
module

public import Idealize.ShloMosaic.Lib.Pointwise

@[expose] public section

noncomputable section

open Idealize.ShloMosaic

namespace Cert.Row

/-- One over the root of the row's mean square plus the small constant (`1024`, `1e-6` by their f32 words). -/
def inv (x : Fin 1024 → EReal) : EReal :=
  Ideal.rsqrt (Ideal.div (∑ k, x k * x k) (Ideal.ofBits .f32 0x44800000#32) + Ideal.ofBits .f32 0x358637BD#32)

/-- The RMS norm of a row, with a gain. -/
def norm (x g : Fin 1024 → EReal) (j : Fin 1024) : EReal := x j * inv x * g j

/-- The gate: `a · σ(a) · b`. -/
def gate (a b : EReal) : EReal := a * Ideal.logistic a * b

/-- The hidden activation `f` of the feed-forward sub-layer on a normalised row `n`. -/
def mid (n : Fin 1024 → EReal) (wg wu : Fin 1024 → Fin 2816 → EReal) (f : Fin 2816) : EReal :=
  gate (∑ k, n k * wg k f) (∑ k, n k * wu k f)

/-- The row after the feed-forward sub-layer with its residual: `x + ½ · ((gate (norm x · Wg) (norm x · Wu)) · Wd)`. -/
def ffn (x g : Fin 1024 → EReal) (wg wu : Fin 1024 → Fin 2816 → EReal) (wd : Fin 2816 → Fin 1024 → EReal)
    (j : Fin 1024) : EReal :=
  x j + Ideal.ofBits .f32 0x3F000000#32 * ∑ f, mid (norm x g) wg wu f * wd f j

/-- A sum over the 2816 hidden columns, cut where the kernels cut it: five pieces of 512 and one of 256, added in order. -/
theorem sum_chunks (F : Fin 2816 → EReal) :
    ∑ f, F f = ∑ x : Fin 512, F ⟨x.val, by omega⟩ + ∑ x : Fin 512, F ⟨512 + x.val, by omega⟩
      + ∑ x : Fin 512, F ⟨1024 + x.val, by omega⟩ + ∑ x : Fin 512, F ⟨1536 + x.val, by omega⟩
      + ∑ x : Fin 512, F ⟨2048 + x.val, by omega⟩ + ∑ x : Fin 256, F ⟨2560 + x.val, by omega⟩ := by
  have h : ∀ (n p q : ℕ) (h : p + q = n) (G : Fin n → EReal),
      ∑ f, G f = ∑ x : Fin p, G ⟨x.val, by omega⟩ + ∑ x : Fin q, G ⟨p + x.val, by omega⟩ := by
    intro n p q h G
    subst h
    exact Fin.sum_univ_add G
  rw [h 2816 2560 256 rfl, h 2560 2048 512 rfl, h 2048 1536 512 rfl, h 1536 1024 512 rfl, h 1024 512 512 rfl]

/-- An array of 16400 token rows with 112 rows of zeros in front of it. -/
def front {n : ℕ} (x : Fin 16400 → Fin n → EReal) (i : Fin 16512) (j : Fin n) : EReal :=
  if h : i.val < 112 then 0 else x ⟨i.val - 112, by omega⟩ j

/-- The zero rows. -/
theorem front_above {n : ℕ} (x : Fin 16400 → Fin n → EReal) (i : Fin 16512) (h : i.val < 112) (k : Fin n) :
    front x i k = 0 :=
  dif_pos h

/-- Below the zero rows, the array's own rows. -/
theorem front_of {n : ℕ} (x : Fin 16400 → Fin n → EReal) (i : Fin 16512) (h : ¬ i.val < 112) :
    front x i = x ⟨i.val - 112, by omega⟩ := by
  funext k
  exact dif_neg h

/-- A function of one row that takes the zero row to the zero row may be applied before or after the zero rows are put in front. -/
theorem front_comm {n p : ℕ} (φ : (Fin n → EReal) → Fin p → EReal) (h0 : ∀ j, φ (fun _ => 0) j = 0)
    (x : Fin 16400 → Fin n → EReal) (i : Fin 16512) (j : Fin p) :
    φ (front x i) j = front (fun r => φ (x r)) i j := by
  by_cases h : i.val < 112
  · have e : front x i = fun _ => 0 := by
      funext k
      exact dif_pos h
    rw [e, h0, front, dif_pos h]
  · have e : front x i = x ⟨i.val - 112, by omega⟩ := by
      funext k
      exact dif_neg h
    rw [e, front, dif_neg h]

/-- The norm of the zero row is zero. -/
theorem norm_zero (g : Fin 1024 → EReal) : norm (fun _ => 0) g = fun _ => 0 := by
  funext j
  simp only [norm, zero_mul]

/-- The feed-forward sub-layer takes the zero row to the zero row. -/
theorem ffn_zero (g : Fin 1024 → EReal) (wg wu : Fin 1024 → Fin 2816 → EReal) (wd : Fin 2816 → Fin 1024 → EReal)
    (j : Fin 1024) : ffn (fun _ => 0) g wg wu wd j = 0 := by
  simp only [ffn, norm_zero, mid, gate, zero_mul, Finset.sum_const_zero, mul_zero, add_zero]

/-- A nonnegative real factor may be taken out of a sum of extended reals. -/
theorem sum_mul_coe {n : ℕ} (f : Fin n → EReal) (r : ℝ) (hr : 0 ≤ r) : ∑ k, f k * (r : EReal) = (∑ k, f k) * (r : EReal) := by
  have h : ∀ s : Finset (Fin n), ∑ k ∈ s, f k * (r : EReal) = (∑ k ∈ s, f k) * (r : EReal) := by
    intro s
    induction s using Finset.cons_induction with
    | empty => simp only [Finset.sum_empty, zero_mul]
    | cons a s ha ih =>
      rw [Finset.sum_cons, Finset.sum_cons, ih, mul_comm (f a + _), mul_comm (f a), mul_comm (∑ k ∈ s, f k),
        EReal.left_distrib_of_nonneg_of_ne_top (EReal.coe_nonneg.2 hr) (EReal.coe_ne_top r)]
  exact h Finset.univ

/-- The factor of the query columns: `log₂ e / 8` in f32, a positive real. -/
theorem scale_eq : Ideal.ofBits .f32 0x3E38AA3B#32 = ((12102203 / 67108864 : ℝ) : EReal) := by
  simp [Ideal.ofBits, Ideal.ieee, -EReal.coe_mul]
  norm_num

/-- A row through the norm and the projection's weight, the first 1024 columns times the factor of the queries. -/
def proj (x g : Fin 1024 → EReal) (w : Fin 1024 → Fin 4096 → EReal) (j : Fin 4096) : EReal :=
  if j.val < 1024 then (∑ k, norm x g k * w k j) * Ideal.ofBits .f32 0x3E38AA3B#32 else ∑ k, norm x g k * w k j

/-- An element of the weight's column `j`, times the factor if the column is a query's. -/
def scaled (w : EReal) (j : Fin 4096) : EReal := w * if j.val < 1024 then Ideal.ofBits .f32 0x3E38AA3B#32 else 1

/-- The factor may be put on the weight's columns instead. -/
theorem proj_eq (x g : Fin 1024 → EReal) (w : Fin 1024 → Fin 4096 → EReal) (j : Fin 4096) :
    ∑ k, norm x g k * scaled (w k j) j = proj x g w j := by
  unfold proj scaled
  by_cases h : j.val < 1024
  · simp only [h, if_true, scale_eq, ← mul_assoc]
    exact sum_mul_coe _ _ (by norm_num)
  · simp only [h, if_false, mul_one]

/-- The projection takes the zero row to the zero row. -/
theorem proj_zero (g : Fin 1024 → EReal) (w : Fin 1024 → Fin 4096 → EReal) (j : Fin 4096) : proj (fun _ => 0) g w j = 0 := by
  simp only [proj, norm_zero, zero_mul, Finset.sum_const_zero, ite_self]

/-- The tanh form of the GELU: `y · ½(1 + tanh(√(2/π) · (y + 0.044715 · y³)))`, the constants by their f32 words. -/
def gelu (y : EReal) : EReal :=
  y * (Ideal.ofBits .f32 0x3F000000#32
    * (1 + Ideal.tanh (Ideal.ofBits .f32 0x3F4C422A#32 * (y + Ideal.ofBits .f32 0x3D372713#32 * (y * y * y)))))

/-- The same with the half on the other factor. -/
theorem gelu_half (y : EReal) : Ideal.ofBits .f32 0x3F000000#32 * y
    * (1 + Ideal.tanh (Ideal.ofBits .f32 0x3F4C422A#32 * (y + Ideal.ofBits .f32 0x3D372713#32 * (y * y * y)))) = gelu y := by
  unfold gelu
  rw [mul_comm _ y, mul_assoc]

/-- The gated linear unit: `z · σ(z · W)`. -/
def glu (z : Fin 512 → EReal) (w : Fin 512 → Fin 512 → EReal) (k : Fin 512) : EReal :=
  z k * Ideal.logistic (∑ l, z l * w l k)

/-- The row after the mixing sub-layer's last part: the state-space output (both directions and the skip term) through
    the GELU and the gated linear unit, the two branches gated and added, the output weight, and the residual. -/
def merge (h : Fin 1024 → EReal) (yf yb u d : Fin 512 → EReal) (a gs ga : Fin 1024 → EReal)
    (wglu : Fin 512 → Fin 512 → EReal) (wbs : Fin 512 → Fin 1024 → EReal) (wba wout : Fin 1024 → Fin 1024 → EReal)
    (j : Fin 1024) : EReal :=
  h j + ∑ q, (Ideal.logistic (gs q) * (∑ k, glu (fun k => gelu (yf k + yb k + d k * u k)) wglu k * wbs k q)
    + Ideal.logistic (ga q) * ∑ k, a k * wba k q) * wout q j

end Cert.Row

end
-- ==== Proof.FfnFinal.lean ====
/- The kernel of the last feed-forward sub-layer: what its result array holds, row by row, in terms of `Row`. -/
module

public import proofs.«01_k».proof.Proof.Gen.KernelIdeal.Value
public import proofs.«01_k».proof.Proof.Row
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Final
open Cert.KernelIdeal Cert.KernelIdeal.Gen

/-- The normalised row, as the body computes it. -/
theorem pay3_apply (v0 : Vec Ideal S512x1024 .f32) (v2 : Vec Ideal S1x1x1024 .f32) (r : Fin 512) (j : Fin 1024) :
    k0_pay3 v0 v2 (ix2 r j) = Row.norm (fun k => v0 (ix2 r k)) (fun k => v2 (ix3 0 0 k)) j := by
  pointwise [k0_pay3, k0_pay2]
  rfl

/-- What the body stores, from the six input blocks: row `r` through the feed-forward sub-layer and the last norm. -/
theorem out_apply (x0 : Vec Ideal S512x1024 .f32) (x1 : Vec Ideal S1x1x1024 .f32) (x2 x3 : Vec Ideal S1x1024x2816 .bf16)
    (x4 : Vec Ideal S1x2816x1024 .bf16) (x5 : Vec Ideal S1x1024 .f32) (r : Fin 512) (j : Fin 1024) :
    out0_6 x0 x1 x2 x3 x4 x5 (ix2 r j)
      = Row.norm (Row.ffn (fun k => x0 (ix2 r k)) (fun k => x1 (ix3 0 0 k)) (fun k f => x2 (ix3 0 k f))
          (fun k f => x3 (ix3 0 k f)) (fun f l => x4 (ix3 0 f l))) (fun k => x5 (ix2 0 k)) j := by
  frame_out
  pointwise [k0_pay1, k0_pay2, k0_pay4, k0_pay5, k0_pay6, k0_pay7, k0_pay8, k0_pay9, k0_pay10, pay3_apply,
    Row.norm, Row.inv, Row.ffn, Row.mid, Row.gate, Row.sum_chunks]

variable (m : (ℓ : Loc nD τ sig) → Buf (Elt Ideal) ℓ) (c : Dev nD)

/-- The result, from the argument arrays: row `i` of the result is row `16 + i` of the hidden state. -/
abbrev G : S16384x1024.Idx → EReal := fun i =>
  Row.norm (Row.ffn (fun k => m ((c : Thread nD τ).loc main_arg0) (ix3 0 ⟨16 + (i 0).val, by have := (i 0).isLt; dsimp at this; omega⟩ k))
      (fun k => m ((c : Thread nD τ).loc main_arg1) (ix2 3 k)) (fun k f => m ((c : Thread nD τ).loc main_arg2) (ix3 3 k f))
      (fun k f => m ((c : Thread nD τ).loc main_arg3) (ix3 3 k f)) (fun f l => m ((c : Thread nD τ).loc main_arg4) (ix3 3 f l)))
    (fun k => m ((c : Thread nD τ).loc main_arg5) (ix1 k)) (i 1)

theorem idx : ∀ t : Fin cfg0.N, win0_0.index t = ![128 + 512 * t.val, 0] ∧ win0_1.index t = ![3, 0, 0]
    ∧ win0_2.index t = ![3, 0, 0] ∧ win0_3.index t = ![3, 0, 0] ∧ win0_4.index t = ![3, 0, 0] ∧ win0_5.index t = ![0, 0]
    ∧ win0_6.index t = ![t.val, 0] :=
  (by decide +kernel : ∀ t : Fin grid0.N, _)

/-- The block of hidden-state rows that point `t` takes, at its element offset in the padded state: 112 rows of zeros come first. -/
theorem iblk0_apply (t : Fin cfg0.N) (r : Fin 512) (k : Fin 1024) :
    iblk m c 0 t (ix2 r k) = m ((c : Thread nD τ).loc main_arg0)
      (ix3 0 ⟨16 + (t.val * 512 + r.val), by have := t.isLt; have hN : cfg0.N = 32 := N_0; omega⟩ k) := by
  obtain ⟨e0, -⟩ := idx t
  have ht : t.val < 32 := t.isLt
  have h0 : (win0_0.blk t).view.emb (ix2 r k) = ix2 ⟨128 + 512 * t.val + r.val, by omega⟩ k := by
    funext a
    apply Fin.ext
    refine (win0_0.rect_emb_val_off t (ix2 r k) a).trans ?_
    rw [e0]
    match a with
    | ⟨0, _⟩ => rfl
    | ⟨1, _⟩ => exact Nat.zero_add _
  show V m c main_v2 ((win0_0.blk t).view.emb (ix2 r k)) = _
  rw [h0]
  entry_read
  pointwise
  rw [dif_neg (by omega)]
  exact congrArg (fun q => m ((c : Thread nD τ).loc main_arg0) (ix3 0 q k)) (Fin.ext (by dsimp only; omega))

/-- What the result array holds after the run. -/
theorem final : (dats m 0 c).arrAt 6 cfg0.N = G m c := by
  refine (dats m 0 c).arrAt_eq_of_covers 6 _ (by decide +kernel) fun t hf y => ?_
  obtain ⟨e0, e1, e2, e3, e4, e5, e6⟩ := idx t
  rw [after0_6]
  idx_vars y
  blk_simp [e6]
  rw [out_apply]
  simp only [iblk0_apply]
  unfold G
  blk_point [iblk, V, e1, e2, e3, e4, e5, e6]

end Cert.KernelIdeal.Final

end
-- ==== Proof.FinalRef.lean ====
/- The plain program of the last feed-forward sub-layer: what its result holds, row by row, in terms of `Row`. -/
module

public import proofs.«01_k».proof.Proof.Gen.ReferenceIdeal.Read
public import proofs.«01_k».proof.Proof.Row
public import Idealize.ShloMosaic.Lib.Pointwise

@[expose] public section

set_option maxRecDepth 16384

noncomputable section

open Idealize.ShloMosaic Idealize.ShloMosaic.TcCoe Idealize.SL.Sem

namespace Cert.ReferenceIdeal.Final
open Cert.ReferenceIdeal Cert.ReferenceIdeal.Gen

open Cert.ReferenceIdeal.Read

variable (x0 : FVec Ideal S1x16400x1024 .f32) (x1 : FVec Ideal S4x1024 .f32) (x2 x3 : FVec Ideal S4x1024x2816 .f32)
  (x4 : FVec Ideal S4x2816x1024 .f32) (x5 : FVec Ideal S1024 .f32)

/-- The normalised hidden state. -/
theorem norm_apply (r : Fin 16400) (j : Fin 1024) :
    val_main_v14 (F := Ideal) x0 x1 (ix3 0 r j) = Row.norm (fun k => x0 (ix3 0 r k)) (fun k => x1 (ix2 3 k)) j := by
  pointwise [val_main_v0, val_main_v1, val_main_v2, val_main_v3, val_main_v4, val_main_v5, val_main_v6, val_main_v7,
    val_main_v8, val_main_v9, val_main_v10, val_main_v11, val_main_v12, val_main_v13, val_main_v14, val_main_cst,
    val_main_cst_0, val_main_cst_1]
  rfl

/-- The hidden activations. -/
theorem mid_apply (r : Fin 16400) (f : Fin 2816) :
    val_main_v24 (F := Ideal) x0 x1 x2 x3 (ix3 0 r f)
      = Row.mid (Row.norm (fun k => x0 (ix3 0 r k)) (fun k => x1 (ix2 3 k))) (fun k f => x2 (ix3 3 k f))
          (fun k f => x3 (ix3 3 k f)) f := by
  pointwise [val_main_v15, val_main_v16, val_main_v17, val_main_v18, val_main_v21, val_main_v22, val_main_v23,
    val_main_v24, val_main_call0_v0, val_main_call0_v1, val_main_call0_v2, val_main_call0_v3, val_main_call0_v4,
    val_main_call0_v5, val_main_call0_cst, val_main_call0_cst_0, norm_apply]
  unfold Row.mid Row.gate Ideal.logistic
  rfl

/-- The hidden state after the sub-layer. -/
theorem ffn_apply (r : Fin 16400) (j : Fin 1024) :
    val_main_v28 (F := Ideal) x0 x1 x2 x3 x4 (ix3 0 r j)
      = Row.ffn (fun k => x0 (ix3 0 r k)) (fun k => x1 (ix2 3 k)) (fun k f => x2 (ix3 3 k f)) (fun k f => x3 (ix3 3 k f))
          (fun f l => x4 (ix3 3 f l)) j := by
  pointwise [val_main_v19, val_main_v20, val_main_v25, val_main_v26, val_main_v27, val_main_v28, val_main_cst_2, mid_apply]
  rfl

/-- The result: its row `i` is row `16 + i` of the hidden state through the sub-layer and the last norm. -/
theorem val_apply (i : Fin 16384) (j : Fin 1024) :
    val_main_v43 (F := Ideal) x0 x1 x2 x3 x4 x5 (ix2 i j)
      = Row.norm (Row.ffn (fun k => x0 (ix3 0 ⟨16 + i.val, by omega⟩ k)) (fun k => x1 (ix2 3 k)) (fun k f => x2 (ix3 3 k f))
          (fun k f => x3 (ix3 3 k f)) (fun f l => x4 (ix3 3 f l))) (fun k => x5 (ix1 k)) j := by
  pointwise [val_main_v29, val_main_v30, val_main_v31, val_main_v32, val_main_v33, val_main_v34, val_main_v35, val_main_v36,
    val_main_v37, val_main_v38, val_main_v39, val_main_v40, val_main_v41, val_main_v42, val_main_v43, val_main_cst_3,
    val_main_cst_4, val_main_cst_5, ffn_apply]
  rfl

end Cert.ReferenceIdeal.Final

end
-- ==== Proof.Ffn.lean ====
/- The kernel of a feed-forward sub-layer: what its result array holds, row by row, in terms of `Row`. -/
module

public import proofs.«01_k».proof.Proof.Gen.Kernel2Ideal.Value
public import proofs.«01_k».proof.Proof.Row
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Ffn
open Cert.Kernel2Ideal Cert.Kernel2Ideal.Gen

/-- The normalised row, as the body computes it. -/
theorem pay3_apply (v0 : Vec Ideal S688x1024 .f32) (v2 : Vec Ideal S1x1x1024 .f32) (r : Fin 688) (j : Fin 1024) :
    k0_pay3 v0 v2 (ix2 r j) = Row.norm (fun k => v0 (ix2 r k)) (fun k => v2 (ix3 0 0 k)) j := by
  pointwise [k0_pay3, k0_pay2]
  rfl

/-- What the body stores, from the five input blocks: row `r` through the feed-forward sub-layer. -/
theorem out_apply (x0 : Vec Ideal S688x1024 .f32) (x1 : Vec Ideal S1x1x1024 .f32) (x2 x3 : Vec Ideal S1x1024x2816 .bf16)
    (x4 : Vec Ideal S1x2816x1024 .bf16) (r : Fin 688) (j : Fin 1024) :
    out0_5 x0 x1 x2 x3 x4 (ix2 r j)
      = Row.ffn (fun k => x0 (ix2 r k)) (fun k => x1 (ix3 0 0 k)) (fun k f => x2 (ix3 0 k f))
          (fun k f => x3 (ix3 0 k f)) (fun f l => x4 (ix3 0 f l)) j := by
  frame_out
  pointwise [k0_pay1, k0_pay2, k0_pay4, k0_pay5, k0_pay6, k0_pay7, k0_pay8, k0_pay9, k0_pay10, pay3_apply,
    Row.norm, Row.inv, Row.ffn, Row.mid, Row.gate, Row.sum_chunks]

variable (m : (ℓ : Loc nD τ sig) → Buf (Elt Ideal) ℓ) (c : Dev nD)

/-- The result, from the argument arrays: row `i` of the hidden state, zero rows in front, through the sub-layer. -/
abbrev G : S16512x1024.Idx → EReal := fun i =>
  Row.ffn (Row.front (fun r k => m ((c : Thread nD τ).loc main_arg0) (ix3 0 r k)) (i 0))
      (fun k => m ((c : Thread nD τ).loc main_arg1) (ix2 0 k)) (fun k f => m ((c : Thread nD τ).loc main_arg2) (ix3 0 k f))
      (fun k f => m ((c : Thread nD τ).loc main_arg3) (ix3 0 k f)) (fun f l => m ((c : Thread nD τ).loc main_arg4) (ix3 0 f l))
    (i 1)

theorem idx : ∀ t : Fin cfg0.N, win0_0.index t = ![t.val, 0] ∧ win0_1.index t = ![0, 0, 0]
    ∧ win0_2.index t = ![0, 0, 0] ∧ win0_3.index t = ![0, 0, 0] ∧ win0_4.index t = ![0, 0, 0] ∧ win0_5.index t = ![t.val, 0] :=
  (by decide +kernel : ∀ t : Fin grid0.N, _)

/-- The hidden state as the kernel takes it: zero rows in front. -/
theorem padded_apply (i : Fin 16512) (k : Fin 1024) :
    V m c main_v5 (ix2 i k) = Row.front (fun r k => m ((c : Thread nD τ).loc main_arg0) (ix3 0 r k)) i k := by
  entry_read
  pointwise
  rfl

/-- The block of hidden-state rows that point `t` takes. -/
theorem iblk0_apply (t : Fin cfg0.N) (r : Fin 688) (k : Fin 1024) :
    iblk m c 0 t (ix2 r k) = Row.front (fun r k => m ((c : Thread nD τ).loc main_arg0) (ix3 0 r k))
      ⟨t.val * 688 + r.val, by have := t.isLt; have hN : cfg0.N = 24 := N_0; omega⟩ k := by
  obtain ⟨e0, -⟩ := idx t
  rw [← padded_apply m c]
  blk_point [iblk, e0]

/-- Where row `r` of the block that point `t` writes lies in the result. -/
theorem emb5 (t : Fin cfg0.N) (r : Fin 688) (j : Fin 1024) :
    (win0_5.blk t).view.emb (ix2 r j)
      = ix2 ⟨t.val * 688 + r.val, by have := t.isLt; have hN : cfg0.N = 24 := N_0; omega⟩ j := by
  obtain ⟨-, -, -, -, -, e5⟩ := idx t
  blk_ext [e5]

/-- What the result array holds after the run. -/
theorem final : (dats m 0 c).arrAt 5 cfg0.N = G m c := by
  refine (dats m 0 c).arrAt_eq_of_covers 5 _ (by decide +kernel) fun t hf y => ?_
  obtain ⟨e0, e1, e2, e3, e4, e5⟩ := idx t
  rw [after0_5]
  idx_vars y
  refine Eq.trans ?_ (congrArg (G m c) (emb5 t y0 y1)).symm
  blk_simp
  rw [out_apply]
  simp only [iblk0_apply]
  unfold G
  generalize Row.front (fun r k => m ((c : Thread nD τ).loc main_arg0) (ix3 0 r k)) = X
  blk_point [iblk, V, e1, e2, e3, e4, e5]

end Cert.Kernel2Ideal.Ffn

end
-- ==== Proof.FfnRef.lean ====
/- The plain program of a feed-forward sub-layer: what its result holds, row by row, in terms of `Row`. -/
module

public import proofs.«01_k».proof.Proof.Gen.Reference2Ideal.Read
public import proofs.«01_k».proof.Proof.Row
public import Idealize.ShloMosaic.Lib.Pointwise

@[expose] public section

set_option maxRecDepth 16384

noncomputable section

open Idealize.ShloMosaic Idealize.ShloMosaic.TcCoe Idealize.SL.Sem

namespace Cert.Reference2Ideal.Ffn
open Cert.Reference2Ideal Cert.Reference2Ideal.Gen

open Cert.Reference2Ideal.Read

variable (x0 : FVec Ideal S1x16400x1024 .f32) (x1 : FVec Ideal S4x1024 .f32) (x2 x3 : FVec Ideal S4x1024x2816 .f32)
  (x4 : FVec Ideal S4x2816x1024 .f32)

/-- The normalised hidden state. -/
theorem norm_apply (r : Fin 16400) (j : Fin 1024) :
    val_main_v14 (F := Ideal) x0 x1 (ix3 0 r j) = Row.norm (fun k => x0 (ix3 0 r k)) (fun k => x1 (ix2 0 k)) j := by
  pointwise [val_main_v0, val_main_v1, val_main_v2, val_main_v3, val_main_v4, val_main_v5, val_main_v6, val_main_v7,
    val_main_v8, val_main_v9, val_main_v10, val_main_v11, val_main_v12, val_main_v13, val_main_v14, val_main_cst,
    val_main_cst_0, val_main_cst_1]
  rfl

/-- The hidden activations. -/
theorem mid_apply (r : Fin 16400) (f : Fin 2816) :
    val_main_v24 (F := Ideal) x0 x1 x2 x3 (ix3 0 r f)
      = Row.mid (Row.norm (fun k => x0 (ix3 0 r k)) (fun k => x1 (ix2 0 k))) (fun k f => x2 (ix3 0 k f))
          (fun k f => x3 (ix3 0 k f)) f := by
  pointwise [val_main_v15, val_main_v16, val_main_v17, val_main_v18, val_main_v21, val_main_v22, val_main_v23,
    val_main_v24, val_main_call0_v0, val_main_call0_v1, val_main_call0_v2, val_main_call0_v3, val_main_call0_v4,
    val_main_call0_v5, val_main_call0_cst, val_main_call0_cst_0, norm_apply]
  unfold Row.mid Row.gate Ideal.logistic
  rfl

/-- The hidden state after the sub-layer. -/
theorem ffn_apply (r : Fin 16400) (j : Fin 1024) :
    val_main_v28 (F := Ideal) x0 x1 x2 x3 x4 (ix3 0 r j)
      = Row.ffn (fun k => x0 (ix3 0 r k)) (fun k => x1 (ix2 0 k)) (fun k f => x2 (ix3 0 k f)) (fun k f => x3 (ix3 0 k f))
          (fun f l => x4 (ix3 0 f l)) j := by
  pointwise [val_main_v19, val_main_v20, val_main_v25, val_main_v26, val_main_v27, val_main_v28, val_main_cst_2, mid_apply]
  rfl

/-- The result: zero rows, then the token rows through the sub-layer. -/
theorem val_apply (i : Fin 16512) (j : Fin 1024) :
    val_main_v31 (F := Ideal) x0 x1 x2 x3 x4 (ix2 i j)
      = Row.ffn (Row.front (fun r k => x0 (ix3 0 r k)) i) (fun k => x1 (ix2 0 k)) (fun k f => x2 (ix3 0 k f))
          (fun k f => x3 (ix3 0 k f)) (fun f l => x4 (ix3 0 f l)) j := by
  rw [Row.front_comm (fun x => Row.ffn x (fun k => x1 (ix2 0 k)) (fun k f => x2 (ix3 0 k f)) (fun k f => x3 (ix3 0 k f))
    (fun f l => x4 (ix3 0 f l))) (fun j => Row.ffn_zero _ _ _ _ j)]
  pointwise [val_main_v29, val_main_v30, val_main_v31, val_main_cst_3, ffn_apply]
  rfl

end Cert.Reference2Ideal.Ffn

end
-- ==== Proof.Inproj.lean ====
/- The kernel of an input projection: what its two result arrays hold, row by row, in terms of `Row`. -/
module

public import proofs.«01_k».proof.Proof.Gen.Kernel3Ideal.Value
public import proofs.«01_k».proof.Proof.Row
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Inproj
open Cert.Kernel3Ideal Cert.Kernel3Ideal.Gen

/-- The normalised row, as the body computes it. -/
theorem pay6_apply (v0 : Vec Ideal S688x1024 .f32) (v2 : Vec Ideal S1x1x1024 .f32) (r : Fin 688) (j : Fin 1024) :
    k0_pay6 v0 v2 (ix2 r j) = Row.norm (fun k => v0 (ix2 r k)) (fun k => v2 (ix3 0 0 k)) j := by
  pointwise [k0_pay6]
  rfl

/-- What the body stores in the projection's block: row `r` through the norm and the weight's column `j`. -/
theorem out3_apply (x0 : Vec Ideal S688x1024 .f32) (x1 : Vec Ideal S1x1x1024 .f32) (x2 : Vec Ideal S1x1024x4096 .bf16)
    (y : S688x4096.Idx) :
    out0_3 x0 x1 x2 y = ∑ k, Row.norm (fun k => x0 (ix2 (y 0) k)) (fun k => x1 (ix3 0 0 k)) k * x2 (ix3 0 k (y 1)) := by
  unfold out0_3
  canon_tiles x h
  all_goals
    obtain ⟨r, j, rfl⟩ : ∃ r j, x = ix2 r j := ⟨x 0, x 1, eq_ix2 x⟩
    pointwise [k0_pay4, k0_pay5, k0_pay7, k0_pay8, k0_pay9, k0_pay12, pay6_apply]
    have er : (ix2 r j 0).val = r.val := rfl
    have ej : (ix2 r j 1).val = j.val := rfl
    rw [er] at h0
    rw [ej] at h1
    blk_point <;> omega

/-- What the body stores in the block of slabs: the 512 state-space columns of the projection, 128 to a slab. -/
theorem out4_apply (x0 : Vec Ideal S688x1024 .f32) (x1 : Vec Ideal S1x1x1024 .f32) (x2 : Vec Ideal S1x1024x4096 .bf16)
    (y : S4x688x128.Idx) :
    out0_4 x0 x1 x2 y = ∑ k, Row.norm (fun k => x0 (ix2 (y 1) k)) (fun k => x1 (ix3 0 0 k)) k
      * x2 (ix3 0 k ⟨1536 + (y 0).val * 128 + (y 2).val, by have h0 := (y 0).isLt; have h2 := (y 2).isLt; dsimp at h0 h2; omega⟩) := by
  unfold out0_4
  canon_tiles x h
  all_goals
    obtain ⟨s, r, j, rfl⟩ : ∃ s r j, x = ix3 s r j := ⟨x 0, x 1, x 2, eq_ix3 x⟩
    pointwise [k0_pay1, k0_pay2, k0_pay3, k0_pay10, k0_pay11, k0_pay13, k0_pay8, pay6_apply]
    have es : (ix3 s r j 0).val = s.val := rfl
    have er : (ix3 s r j 1).val = r.val := rfl
    have ej : (ix3 s r j 2).val = j.val := rfl
    rw [es] at h0
    rw [er] at h1
    rw [ej] at h2
    blk_point <;> omega

variable (m : (ℓ : Loc nD τ sig) → Buf (Elt Ideal) ℓ) (c : Dev nD)

/-- The projection, from the argument arrays: row `i` of the hidden state, zero rows in front, through norm and weight. -/
abbrev G3 : S16512x4096.Idx → EReal := fun i =>
  Row.proj (Row.front (fun r k => m ((c : Thread nD τ).loc main_arg0) (ix3 0 r k)) (i 0))
    (fun k => m ((c : Thread nD τ).loc main_arg1) (ix2 0 k)) (fun k j => m ((c : Thread nD τ).loc main_arg2) (ix3 0 k j)) (i 1)

/-- The slabs, from the argument arrays: the projection's columns 1536 to 2047, 128 to a slab. -/
abbrev G4 : S4x16512x128.Idx → EReal := fun i =>
  Row.proj (Row.front (fun r k => m ((c : Thread nD τ).loc main_arg0) (ix3 0 r k)) (i 1))
    (fun k => m ((c : Thread nD τ).loc main_arg1) (ix2 0 k)) (fun k j => m ((c : Thread nD τ).loc main_arg2) (ix3 0 k j))
    ⟨1536 + (i 0).val * 128 + (i 2).val, by have h0 := (i 0).isLt; have h2 := (i 2).isLt; dsimp at h0 h2; omega⟩

theorem idx : ∀ t : Fin cfg0.N, win0_0.index t = ![t.val, 0] ∧ win0_1.index t = ![0, 0, 0]
    ∧ win0_2.index t = ![0, 0, 0] ∧ win0_3.index t = ![t.val, 0] ∧ win0_4.index t = ![0, t.val, 0] :=
  (by decide +kernel : ∀ t : Fin grid0.N, _)

/-- The hidden state as the kernel takes it: zero rows in front. -/
theorem padded_apply (i : Fin 16512) (k : Fin 1024) :
    V m c main_v11 (ix2 i k) = Row.front (fun r k => m ((c : Thread nD τ).loc main_arg0) (ix3 0 r k)) i k := by
  unfold V
  simp only [hostOps0, hostOps0_1, hostOps0_2, List.flatten_cons, List.flatten_nil, List.append_nil, List.cons_append,
    List.nil_append, StableHlo.TRef.unary, StableHlo.TRef.ternary]
  entry_read
  pointwise
  rfl

/-- The block of hidden-state rows that point `t` takes. -/
theorem iblk0_apply (t : Fin cfg0.N) (r : Fin 688) (k : Fin 1024) :
    iblk m c 0 t (ix2 r k) = Row.front (fun r k => m ((c : Thread nD τ).loc main_arg0) (ix3 0 r k))
      ⟨t.val * 688 + r.val, by have := t.isLt; have hN : cfg0.N = 24 := N_0; omega⟩ k := by
  obtain ⟨e0, -⟩ := idx t
  rw [← padded_apply m c]
  blk_point [iblk, e0]

/-- The gain as the kernel takes it. -/
theorem gain_apply (k : Fin 1024) : V m c main_v12 (ix3 0 0 k) = m ((c : Thread nD τ).loc main_arg1) (ix2 0 k) := by
  unfold V
  simp only [hostOps0, hostOps0_1, hostOps0_2, List.flatten_cons, List.flatten_nil, List.append_nil, List.cons_append,
    List.nil_append, StableHlo.TRef.unary, StableHlo.TRef.ternary]
  entry_read
  pointwise

/-- The gain that point `t` takes. -/
theorem iblk1_apply (t : Fin cfg0.N) (k : Fin 1024) :
    iblk m c 1 t (ix3 0 0 k) = m ((c : Thread nD τ).loc main_arg1) (ix2 0 k) := by
  obtain ⟨-, e1, -⟩ := idx t
  rw [← gain_apply m c]
  blk_point [iblk, e1]

/-- The word of a column number below 4096 compares with 1024 as the number does. -/
theorem lt_word : ∀ j : Fin 4096,
    IntOp.cmpi CmpIPredicate.slt (BitVec.ofNat 32 j.val) 1024#32 = if j.val < 1024 then 1#1 else 0#1 := by
  decide +kernel

/-- The weight as the kernel takes it: its query columns times the factor. -/
theorem weight_apply (k : Fin 1024) (j : Fin 4096) :
    V m c main_v8 (ix3 0 k j) = Row.scaled (m ((c : Thread nD τ).loc main_arg2) (ix3 0 k j)) j := by
  unfold V
  simp only [hostOps0, hostOps0_1, hostOps0_2, List.flatten_cons, List.flatten_nil, List.append_nil, List.cons_append,
    List.nil_append, StableHlo.TRef.unary, StableHlo.TRef.ternary]
  entry_read
  simp only [StableHlo.TRef.toBuf, StableHlo.TRef.ofBuf, cast_eq]
  unfold Row.scaled
  pointwise
  rw [lt_word]
  refine congrArg (HMul.hMul (α := EReal) (β := EReal) (γ := EReal) _) ?_
  by_cases h : j.val < 1024
  · rw [if_pos h, if_pos h]
    rfl
  · rw [if_neg h, if_neg h]
    rfl

/-- The weight's block, the same at every point. -/
theorem iblk2_apply (t : Fin cfg0.N) (k : Fin 1024) (j : Fin 4096) :
    iblk m c 2 t (ix3 0 k j) = Row.scaled (m ((c : Thread nD τ).loc main_arg2) (ix3 0 k j)) j := by
  obtain ⟨-, -, e2, -⟩ := idx t
  rw [← weight_apply m c]
  blk_point [iblk, e2]

/-- Where an element of the projection's block lies in the result. -/
theorem emb3 (t : Fin cfg0.N) (r : Fin 688) (j : Fin 4096) :
    (win0_3.blk t).view.emb (ix2 r j)
      = ix2 ⟨t.val * 688 + r.val, by have := t.isLt; have hN : cfg0.N = 24 := N_0; omega⟩ j := by
  obtain ⟨-, -, -, e3, -⟩ := idx t
  blk_ext [e3]

/-- Where an element of the slabs' block lies in the result. -/
theorem emb4 (t : Fin cfg0.N) (s : Fin 4) (r : Fin 688) (j : Fin 128) :
    (win0_4.blk t).view.emb (ix3 s r j)
      = ix3 s ⟨t.val * 688 + r.val, by have := t.isLt; have hN : cfg0.N = 24 := N_0; omega⟩ j := by
  obtain ⟨-, -, -, -, e4⟩ := idx t
  blk_ext [e4]

theorem point3 (t : Fin cfg0.N) (r : Fin 688) (j : Fin 4096) :
    out0_3 (iblk m c 0 t) (iblk m c 1 t) (iblk m c 2 t) (ix2 r j)
      = G3 m c (ix2 ⟨t.val * 688 + r.val, by have := t.isLt; have hN : cfg0.N = 24 := N_0; omega⟩ j) := by
  refine (out3_apply _ _ _ _).trans ?_
  refine Eq.trans ?_ (Row.proj_eq _ _ _ _)
  refine Finset.sum_congr rfl fun k _ => congrArg₂ (· * ·) (congrArg₂ (fun x g => Row.norm x g k) ?_ ?_) ?_
  · funext k
    exact iblk0_apply m c t r k
  · funext k
    exact iblk1_apply m c t k
  · exact iblk2_apply m c t k j

theorem point4 (t : Fin cfg0.N) (s : Fin 4) (r : Fin 688) (j : Fin 128) :
    out0_4 (iblk m c 0 t) (iblk m c 1 t) (iblk m c 2 t) (ix3 s r j)
      = G4 m c (ix3 s ⟨t.val * 688 + r.val, by have := t.isLt; have hN : cfg0.N = 24 := N_0; omega⟩ j) := by
  refine (out4_apply _ _ _ _).trans ?_
  refine Eq.trans ?_ (Row.proj_eq _ _ _ _)
  refine Finset.sum_congr rfl fun k _ => congrArg₂ (· * ·) (congrArg₂ (fun x g => Row.norm x g k) ?_ ?_) ?_
  · funext k
    exact iblk0_apply m c t r k
  · funext k
    exact iblk1_apply m c t k
  · refine (iblk2_apply m c t k _).trans ?_
    exact congrArg (fun w => Row.scaled w _) rfl

/-- What the projection holds after the run. -/
theorem final3 : (dats m 0 c).arrAt 3 cfg0.N = G3 m c := by
  refine (dats m 0 c).arrAt_eq_of_covers 3 _ (by decide +kernel) fun t hf y => ?_
  rw [after0_3]
  idx_vars y
  refine Eq.trans ?_ (congrArg (G3 m c) (emb3 t y0 y1)).symm
  refine Eq.trans ?_ (point3 m c t y0 y1)
  blk_simp

/-- What the slabs hold after the run. -/
theorem final4 : (dats m 0 c).arrAt 4 cfg0.N = G4 m c := by
  refine (dats m 0 c).arrAt_eq_of_covers 4 _ (by decide +kernel) fun t hf y => ?_
  rw [after0_4]
  idx_vars y
  refine Eq.trans ?_ (congrArg (G4 m c) (emb4 t y0 y1 y2)).symm
  refine Eq.trans ?_ (point4 m c t y0 y1 y2)
  blk_simp

end Cert.Kernel3Ideal.Inproj

end
-- ==== Proof.InprojRef.lean ====
/- The plain program of an input projection: what its two results hold, row by row, in terms of `Row`. -/
module

public import proofs.«01_k».proof.Proof.Gen.Reference3Ideal.Read
public import proofs.«01_k».proof.Proof.Row
public import Idealize.ShloMosaic.Lib.Pointwise

@[expose] public section

set_option maxRecDepth 16384

noncomputable section

open Idealize.ShloMosaic Idealize.ShloMosaic.TcCoe Idealize.SL.Sem

namespace Cert.Reference3Ideal.Inproj
open Cert.Reference3Ideal Cert.Reference3Ideal.Gen

open Cert.Reference3Ideal.Read

variable (x0 : FVec Ideal S1x16400x1024 .f32) (x1 : FVec Ideal S4x1024 .f32) (x2 : FVec Ideal S4x1024x4096 .f32)

/-- The normalised hidden state. -/
theorem norm_apply (r : Fin 16400) (j : Fin 1024) :
    val_main_v14 (F := Ideal) x0 x1 (ix3 0 r j) = Row.norm (fun k => x0 (ix3 0 r k)) (fun k => x1 (ix2 0 k)) j := by
  pointwise [val_main_v0, val_main_v1, val_main_v2, val_main_v3, val_main_v4, val_main_v5, val_main_v6, val_main_v7,
    val_main_v8, val_main_v9, val_main_v10, val_main_v11, val_main_v12, val_main_v13, val_main_v14, val_main_cst,
    val_main_cst_0, val_main_cst_1]
  rfl

/-- The projection before the factor of the queries. -/
theorem dot_apply (r : Fin 16400) (j : Fin 4096) :
    val_main_v17 (F := Ideal) x0 x1 x2 (ix3 0 r j)
      = ∑ k, Row.norm (fun k => x0 (ix3 0 r k)) (fun k => x1 (ix2 0 k)) k * x2 (ix3 0 k j) := by
  pointwise [val_main_v15, val_main_v16, val_main_v17, norm_apply]

/-- The projection's row, its query columns times the factor. -/
theorem proj_apply (r : Fin 16400) (j : Fin 4096) :
    val_main_v24 (F := Ideal) x0 x1 x2 (ix2 r j)
      = Row.proj (fun k => x0 (ix3 0 r k)) (fun k => x1 (ix2 0 k)) (fun k j => x2 (ix3 0 k j)) j := by
  have hj := j.isLt
  pointwise [val_main_v18, val_main_v19, val_main_v20, val_main_v21, val_main_v22, val_main_v23, val_main_v24, val_main_cst_2,
    dot_apply]
  unfold Row.proj
  by_cases h : j.val < 1024
  · rw [dif_pos h, if_pos h]
  · rw [dif_neg h, if_neg h]
    refine Finset.sum_congr rfl fun k _ => congrArg (fun q => _ * x2 (ix3 0 k q)) (Fin.ext ?_)
    dsimp only
    omega

/-- The first result: zero rows, then the projection's rows. -/
theorem val0_apply (i : Fin 16512) (j : Fin 4096) :
    val_main_v30 (F := Ideal) x0 x1 x2 (ix2 i j)
      = Row.proj (Row.front (fun r k => x0 (ix3 0 r k)) i) (fun k => x1 (ix2 0 k)) (fun k j => x2 (ix3 0 k j)) j := by
  rw [Row.front_comm (fun x => Row.proj x (fun k => x1 (ix2 0 k)) (fun k j => x2 (ix3 0 k j))) (fun j => Row.proj_zero _ _ j)]
  pointwise [val_main_v28, val_main_v29, val_main_v30, val_main_cst_3, proj_apply]
  rfl

/-- The second result: the projection's columns 1536 to 2047, 128 to a slab, zero rows first. -/
theorem val1_apply (s : Fin 4) (i : Fin 16512) (j : Fin 128) :
    val_main_v33 (F := Ideal) x0 x1 x2 (ix3 s i j)
      = Row.proj (Row.front (fun r k => x0 (ix3 0 r k)) i) (fun k => x1 (ix2 0 k)) (fun k j => x2 (ix3 0 k j))
          ⟨1536 + s.val * 128 + j.val, by omega⟩ := by
  rw [Row.front_comm (fun x => Row.proj x (fun k => x1 (ix2 0 k)) (fun k j => x2 (ix3 0 k j))) (fun j => Row.proj_zero _ _ j)]
  pointwise [val_main_v25, val_main_v26, val_main_v27, val_main_v31, val_main_v32, val_main_v33, val_main_cst_4, dot_apply]
  unfold Row.front Row.proj
  refine dite_congr rfl (fun _ => rfl) fun h => ?_
  refine Eq.trans ?_ (if_neg (by dsimp only; omega)).symm
  refine Finset.sum_congr rfl fun k _ => congrArg (fun q => _ * x2 (ix3 0 k q)) (Fin.ext ?_)
  dsimp only
  omega

end Cert.Reference3Ideal.Inproj

end
-- ==== Proof.Merge.lean ====
/- The kernel of the mixing sub-layer's last part: what its result array holds, row by row, in terms of `Row`. -/
module

public import proofs.«01_k».proof.Proof.Gen.Kernel4Ideal.Value
public import proofs.«01_k».proof.Proof.Row
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Merge
open Cert.Kernel4Ideal Cert.Kernel4Ideal.Gen

/-- Row `r` of a block of slabs, its 512 columns in order. -/
def slabRow (x : Vec Ideal S4x688x128 .f32) (r : Fin 688) (k : Fin 512) : EReal :=
  x (ix3 ⟨k.val / 128, by omega⟩ r ⟨k.val % 128, by omega⟩)

/-- Four slabs of 128 columns side by side, as a ladder of cases over the column, are the row. -/
theorem ladder (x : Vec Ideal S4x688x128 .f32) (r : Fin 688) (k : Fin 512) :
    (if h : k.val < 128 then x (ix3 0 r ⟨k.val, h⟩)
      else if h : k.val - 128 < 128 then x (ix3 1 r ⟨k.val - 128, h⟩)
      else if h : k.val - 128 - 128 < 128 then x (ix3 2 r ⟨k.val - 128 - 128, h⟩)
      else x (ix3 3 r ⟨k.val - 128 - 128 - 128, by omega⟩)) = slabRow x r k := by
  have key : ∀ (s : Fin 4) (l : Fin 128), k.val = s.val * 128 + l.val → x (ix3 s r l) = slabRow x r k := by
    intro s l h
    refine congrArg₂ (fun a b => x (ix3 a r b)) (Fin.ext ?_) (Fin.ext ?_) <;> dsimp only <;> omega
  split_ifs
  · exact key 0 _ (by dsimp only; omega)
  · exact key 1 _ (by dsimp only; omega)
  · exact key 2 _ (by dsimp only; omega)
  · exact key 3 _ (by dsimp only; omega)

/-- The two directions' outputs, added. -/
theorem pay2_apply (x1 x2 : Vec Ideal S4x688x128 .f32) (r : Fin 688) (k : Fin 512) :
    k0_pay2 (View.ld x1 r0_0) (View.ld x1 r0_1) (View.ld x1 r0_2) (View.ld x1 r0_3) (View.ld x2 r0_0) (View.ld x2 r0_1)
      (View.ld x2 r0_2) (View.ld x2 r0_3) (ix2 r k) = slabRow x1 r k + slabRow x2 r k := by
  pointwise [k0_pay2]
  rw [ladder, ladder]

/-- The skip term's rows: four slabs side by side. -/
theorem cat_apply (x : Vec Ideal S4x688x128 .f32) (r : Fin 688) (k : Fin 512) :
    concatenate S688x512 1 [⟨S688x128, shapeCast S688x128 (View.ld x r0_0) shapeCasts_S1x688x128_S688x128⟩,
      ⟨S688x128, shapeCast S688x128 (View.ld x r0_1) shapeCasts_S1x688x128_S688x128⟩,
      ⟨S688x128, shapeCast S688x128 (View.ld x r0_2) shapeCasts_S1x688x128_S688x128⟩,
      ⟨S688x128, shapeCast S688x128 (View.ld x r0_3) shapeCasts_S1x688x128_S688x128⟩]
      concatenates_S688x128_S688x128_S688x128_S688x128_S688x512_d1 (ix2 r k) = slabRow x r k := by
  pointwise
  rw [ladder]

/-- The state-space branch before its gate. -/
theorem pay6_apply (v18 : FVec Ideal S688x512 .f32) (x7 : Vec Ideal S1x1x512 .f32) (x3 : Vec Ideal S4x688x128 .f32)
    (v47 : Vec Ideal S1x512x512 .bf16) (v53 : Vec Ideal S1x512x1024 .bf16) (r : Fin 688) (q : Fin 1024) :
    k0_pay6 v18 (k0_pay3 x7) (k0_pay4 (View.ld x3 r0_0)) (k0_pay5 (View.ld x3 r0_1)) (View.ld x3 r0_2) (View.ld x3 r0_3)
      v47 v53 (ix2 r q)
      = ∑ k, Row.glu (fun k => Row.gelu (v18 (ix2 r k) + x7 (ix3 0 0 k) * slabRow x3 r k)) (fun l k => v47 (ix3 0 l k)) k
          * v53 (ix3 0 k q) := by
  unfold k0_pay6 k0_pay3 k0_pay4 k0_pay5
  have hC := cat_apply x3
  generalize concatenate S688x512 1 [⟨S688x128, shapeCast S688x128 (View.ld x3 r0_0) shapeCasts_S1x688x128_S688x128⟩,
      ⟨S688x128, shapeCast S688x128 (View.ld x3 r0_1) shapeCasts_S1x688x128_S688x128⟩,
      ⟨S688x128, shapeCast S688x128 (View.ld x3 r0_2) shapeCasts_S1x688x128_S688x128⟩,
      ⟨S688x128, shapeCast S688x128 (View.ld x3 r0_3) shapeCasts_S1x688x128_S688x128⟩]
      concatenates_S688x128_S688x128_S688x128_S688x128_S688x512_d1 = C at hC ⊢
  pointwise [hC]
  simp only [Row.gelu_half]
  rfl

/-- The word of a row number compares with 112 as the number does. -/
theorem ge_word : ∀ (i : Fin 24) (r : Fin 688),
    IntOp.cmpi CmpIPredicate.sge (IntOp.addi (Scalar.muli (BitVec.ofNat 32 i.val) 688#32) (BitVec.ofNat 32 r.val)) 112#32
      = if i.val * 688 + r.val < 112 then 0#1 else 1#1 := by
  decide +kernel

/-- What the body stores, from its twelve input blocks: the row, or zero in the rows before the tokens. -/
theorem out_apply (i : grid0.Coords) (x0 : Vec Ideal S688x1024 .f32) (x1 x2 x3 : Vec Ideal S4x688x128 .f32)
    (x4 x5 x6 : Vec Ideal S688x1024 .bf16) (x7 : Vec Ideal S1x1x512 .f32) (x8 : Vec Ideal S1x512x512 .bf16)
    (x9 : Vec Ideal S1x512x1024 .bf16) (x10 x11 : Vec Ideal S1x1024x1024 .bf16) (r : Fin 688) (j : Fin 1024) :
    out0_12 i x0 x1 x2 x3 x4 x5 x6 x7 x8 x9 x10 x11 (ix2 r j)
      = if (i 0).val * 688 + r.val < 112 then 0
        else Row.merge (fun k => x0 (ix2 r k)) (slabRow x1 r) (slabRow x2 r) (slabRow x3 r) (fun k => x7 (ix3 0 0 k))
          (fun k => x4 (ix2 r k)) (fun k => x5 (ix2 r k)) (fun k => x6 (ix2 r k)) (fun l k => x8 (ix3 0 l k))
          (fun k q => x9 (ix3 0 k q)) (fun k q => x10 (ix3 0 k q)) (fun k q => x11 (ix3 0 k q)) j := by
  frame_out
  pointwise [k0_pay1, k0_pay7, pay6_apply, pay2_apply]
  have hi : (i 0).val < 24 := (i 0).isLt
  have hw := ge_word ⟨(i 0).val, hi⟩ r
  dsimp only at hw
  rw [hw]
  by_cases h : (i 0).val * 688 + r.val < 112
  · rw [if_pos h, if_pos h]
    rfl
  · rw [if_neg h, if_neg h]
    rfl

variable (m : (ℓ : Loc nD τ sig) → Buf (Elt Ideal) ℓ) (c : Dev nD)

/-- The token rows of the result, from the argument arrays. -/
def rows (r : Fin 16400) (j : Fin 1024) : EReal :=
  Row.merge (fun k => m ((c : Thread nD τ).loc main_arg0) (ix3 0 r k)) (fun k => m ((c : Thread nD τ).loc main_arg2) (ix3 0 r k)) (fun k => m ((c : Thread nD τ).loc main_arg3) (ix3 0 r k))
    (fun k => m ((c : Thread nD τ).loc main_arg1) (ix3 0 r ⟨1536 + k.val, by omega⟩)) (fun k => m ((c : Thread nD τ).loc main_arg5) (ix2 0 k)) (fun k => m ((c : Thread nD τ).loc main_arg4) (ix3 0 r k))
    (fun k => m ((c : Thread nD τ).loc main_arg1) (ix3 0 r ⟨2048 + k.val, by omega⟩)) (fun k => m ((c : Thread nD τ).loc main_arg1) (ix3 0 r ⟨3072 + k.val, by omega⟩))
    (fun l k => m ((c : Thread nD τ).loc main_arg6) (ix3 0 l k)) (fun k q => m ((c : Thread nD τ).loc main_arg7) (ix3 0 k q)) (fun k q => m ((c : Thread nD τ).loc main_arg8) (ix3 0 k q)) (fun k q => m ((c : Thread nD τ).loc main_arg9) (ix3 0 k q)) j

/-- The result: zero rows, then the token rows. -/
abbrev G : S16512x1024.Idx → EReal := fun i => Row.front (rows m c) (i 0) (i 1)

theorem idx : ∀ t : Fin cfg0.N, (win0_0.index t = ![t.val, 0] ∧ win0_1.index t = ![0, t.val, 0]
    ∧ win0_2.index t = ![0, t.val, 0] ∧ win0_3.index t = ![0, t.val, 0] ∧ win0_4.index t = ![t.val, 0])
    ∧ (win0_5.index t = ![t.val, 2] ∧ win0_6.index t = ![t.val, 3]) ∧ win0_7.index t = ![0, 0, 0] ∧ win0_8.index t = ![0, 0, 0]
    ∧ win0_9.index t = ![0, 0, 0] ∧ win0_10.index t = ![0, 0, 0] ∧ win0_11.index t = ![0, 0, 0] ∧ win0_12.index t = ![t.val, 0]
    ∧ (grid0.coords t 0).val = t.val :=
  (by decide +kernel : ∀ t : Fin grid0.N, _)

/-- The hidden state as the kernel takes it: zero rows in front. -/
theorem hidden_apply (i : Fin 16512) (k : Fin 1024) :
    V m c main_v6 (ix2 i k) = Row.front (fun r k => m ((c : Thread nD τ).loc main_arg0) (ix3 0 r k)) i k := by
  entry_read
  pointwise
  rfl

/-- The projection as the kernel takes it. -/
theorem proj_apply (i : Fin 16512) (k : Fin 4096) :
    V m c main_v26 (ix2 i k) = Row.front (fun r k => m ((c : Thread nD τ).loc main_arg1) (ix3 0 r k)) i k := by
  entry_read
  pointwise
  rfl

/-- The attention's output as the kernel takes it. -/
theorem attn_apply (i : Fin 16512) (k : Fin 1024) :
    V m c main_v30 (ix2 i k) = Row.front (fun r k => m ((c : Thread nD τ).loc main_arg4) (ix3 0 r k)) i k := by
  entry_read
  pointwise
  rfl

/-- The forward scan's output as the kernel takes it: four slabs, zero rows in front. -/
theorem fwd_apply (s : Fin 4) (i : Fin 16512) (l : Fin 128) :
    V m c main_v11 (ix3 s i l) = Row.front (fun r k => m ((c : Thread nD τ).loc main_arg2) (ix3 0 r k)) i ⟨s.val * 128 + l.val, by omega⟩ := by
  entry_read
  pointwise
  rfl

/-- The backward scan's output as the kernel takes it. -/
theorem bwd_apply (s : Fin 4) (i : Fin 16512) (l : Fin 128) :
    V m c main_v16 (ix3 s i l) = Row.front (fun r k => m ((c : Thread nD τ).loc main_arg3) (ix3 0 r k)) i ⟨s.val * 128 + l.val, by omega⟩ := by
  entry_read
  pointwise
  rfl

/-- The state-space input as the kernel takes it. -/
theorem skip_apply (s : Fin 4) (i : Fin 16512) (l : Fin 128) :
    V m c main_v22 (ix3 s i l) = Row.front (fun r (k : Fin 512) => m ((c : Thread nD τ).loc main_arg1) (ix3 0 r ⟨1536 + k.val, by omega⟩)) i ⟨s.val * 128 + l.val, by omega⟩ := by
  entry_read
  pointwise
  rfl

/-- The rows of the hidden state that point `t` takes. -/
theorem row0 (t : Fin cfg0.N) (r : Fin 688) (k : Fin 1024) :
    iblk m c 0 t (ix2 r k) = Row.front (fun r k => m ((c : Thread nD τ).loc main_arg0) (ix3 0 r k))
      ⟨t.val * 688 + r.val, by have := t.isLt; have hN : cfg0.N = 24 := N_0; omega⟩ k := by
  obtain ⟨⟨e, -⟩, -⟩ := idx t
  rw [← hidden_apply m c]
  blk_point [iblk, e]

/-- The rows of the attention's output that point `t` takes. -/
theorem row4 (t : Fin cfg0.N) (r : Fin 688) (k : Fin 1024) :
    iblk m c 4 t (ix2 r k) = Row.front (fun r k => m ((c : Thread nD τ).loc main_arg4) (ix3 0 r k))
      ⟨t.val * 688 + r.val, by have := t.isLt; have hN : cfg0.N = 24 := N_0; omega⟩ k := by
  obtain ⟨⟨-, -, -, -, e⟩, -⟩ := idx t
  rw [← attn_apply m c]
  blk_point [iblk, e]

/-- The state-space gate's columns that point `t` takes. -/
theorem row5 (t : Fin cfg0.N) (r : Fin 688) (k : Fin 1024) :
    iblk m c 5 t (ix2 r k) = Row.front (fun r k => m ((c : Thread nD τ).loc main_arg1) (ix3 0 r k))
      ⟨t.val * 688 + r.val, by have := t.isLt; have hN : cfg0.N = 24 := N_0; omega⟩ ⟨2048 + k.val, by omega⟩ := by
  obtain ⟨-, ⟨e, -⟩, -⟩ := idx t
  rw [← proj_apply m c]
  blk_point [iblk, e]

/-- The attention gate's columns that point `t` takes. -/
theorem row6 (t : Fin cfg0.N) (r : Fin 688) (k : Fin 1024) :
    iblk m c 6 t (ix2 r k) = Row.front (fun r k => m ((c : Thread nD τ).loc main_arg1) (ix3 0 r k))
      ⟨t.val * 688 + r.val, by have := t.isLt; have hN : cfg0.N = 24 := N_0; omega⟩ ⟨3072 + k.val, by omega⟩ := by
  obtain ⟨-, ⟨-, e⟩, -⟩ := idx t
  rw [← proj_apply m c]
  blk_point [iblk, e]

/-- The rows of the forward scan's output that point `t` takes. -/
theorem row1 (t : Fin cfg0.N) (r : Fin 688) (k : Fin 512) :
    slabRow (iblk m c 1 t) r k = Row.front (fun r k => m ((c : Thread nD τ).loc main_arg2) (ix3 0 r k))
      ⟨t.val * 688 + r.val, by have := t.isLt; have hN : cfg0.N = 24 := N_0; omega⟩ k := by
  obtain ⟨⟨-, e, -⟩, -⟩ := idx t
  have hk : k = ⟨(⟨k.val / 128, by omega⟩ : Fin 4).val * 128 + (⟨k.val % 128, by omega⟩ : Fin 128).val, by dsimp only; omega⟩ :=
    Fin.ext (by dsimp only; omega)
  refine Eq.trans ?_ (congrArg (Row.front _ _) hk).symm
  rw [← fwd_apply m c]
  unfold slabRow
  blk_point [iblk, e]

/-- The rows of the backward scan's output that point `t` takes. -/
theorem row2 (t : Fin cfg0.N) (r : Fin 688) (k : Fin 512) :
    slabRow (iblk m c 2 t) r k = Row.front (fun r k => m ((c : Thread nD τ).loc main_arg3) (ix3 0 r k))
      ⟨t.val * 688 + r.val, by have := t.isLt; have hN : cfg0.N = 24 := N_0; omega⟩ k := by
  obtain ⟨⟨-, -, e, -⟩, -⟩ := idx t
  have hk : k = ⟨(⟨k.val / 128, by omega⟩ : Fin 4).val * 128 + (⟨k.val % 128, by omega⟩ : Fin 128).val, by dsimp only; omega⟩ :=
    Fin.ext (by dsimp only; omega)
  refine Eq.trans ?_ (congrArg (Row.front _ _) hk).symm
  rw [← bwd_apply m c]
  unfold slabRow
  blk_point [iblk, e]

/-- The rows of the state-space input that point `t` takes. -/
theorem row3 (t : Fin cfg0.N) (r : Fin 688) (k : Fin 512) :
    slabRow (iblk m c 3 t) r k = Row.front (fun r (k : Fin 512) => m ((c : Thread nD τ).loc main_arg1) (ix3 0 r ⟨1536 + k.val, by omega⟩))
      ⟨t.val * 688 + r.val, by have := t.isLt; have hN : cfg0.N = 24 := N_0; omega⟩ k := by
  obtain ⟨⟨-, -, -, e, -⟩, -⟩ := idx t
  have hk : k = ⟨(⟨k.val / 128, by omega⟩ : Fin 4).val * 128 + (⟨k.val % 128, by omega⟩ : Fin 128).val, by dsimp only; omega⟩ :=
    Fin.ext (by dsimp only; omega)
  refine Eq.trans ?_ (congrArg (Row.front _ _) hk).symm
  rw [← skip_apply m c]
  unfold slabRow
  blk_point [iblk, e]

/-- The skip gain that point `t` takes. -/
theorem gain7 (t : Fin cfg0.N) (k : Fin 512) : iblk m c 7 t (ix3 0 0 k) = m ((c : Thread nD τ).loc main_arg5) (ix2 0 k) := by
  obtain ⟨-, -, e, -⟩ := idx t
  blk_point [iblk, V, e]

theorem weight8 (t : Fin cfg0.N) (k : Fin 512) (q : Fin 512) : iblk m c 8 t (ix3 0 k q) = m ((c : Thread nD τ).loc main_arg6) (ix3 0 k q) := by
  obtain ⟨-, -, -, e, -⟩ := idx t
  blk_point [iblk, V, e]

theorem weight9 (t : Fin cfg0.N) (k : Fin 512) (q : Fin 1024) : iblk m c 9 t (ix3 0 k q) = m ((c : Thread nD τ).loc main_arg7) (ix3 0 k q) := by
  obtain ⟨-, -, -, -, e, -⟩ := idx t
  blk_point [iblk, V, e]

theorem weight10 (t : Fin cfg0.N) (k : Fin 1024) (q : Fin 1024) : iblk m c 10 t (ix3 0 k q) = m ((c : Thread nD τ).loc main_arg8) (ix3 0 k q) := by
  obtain ⟨-, -, -, -, -, e, -⟩ := idx t
  blk_point [iblk, V, e]

theorem weight11 (t : Fin cfg0.N) (k : Fin 1024) (q : Fin 1024) : iblk m c 11 t (ix3 0 k q) = m ((c : Thread nD τ).loc main_arg9) (ix3 0 k q) := by
  obtain ⟨-, -, -, -, -, -, e, -⟩ := idx t
  blk_point [iblk, V, e]

/-- Where an element of the block that point `t` writes lies in the result. -/
theorem emb12 (t : Fin cfg0.N) (r : Fin 688) (j : Fin 1024) :
    (win0_12.blk t).view.emb (ix2 r j) = ix2 ⟨t.val * 688 + r.val, by have := t.isLt; have hN : cfg0.N = 24 := N_0; omega⟩ j := by
  obtain ⟨-, -, -, -, -, -, -, e, -⟩ := idx t
  blk_ext [e]

/-- What point `t` writes. -/
theorem point (t : Fin cfg0.N) (r : Fin 688) (j : Fin 1024) :
    out0_12 (grid0.coords t) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (ix2 r j)
      = G m c (ix2 ⟨t.val * 688 + r.val, by have := t.isLt; have hN : cfg0.N = 24 := N_0; omega⟩ j) := by
  obtain ⟨-, -, -, -, -, -, -, -, ht⟩ := idx t
  refine (out_apply _ _ _ _ _ _ _ _ _ _ _ _ _ _ _).trans ?_
  rw [ht]
  by_cases h : t.val * 688 + r.val < 112
  · rw [if_pos h]
    exact (Row.front_above (rows m c) ⟨t.val * 688 + r.val, _⟩ h j).symm
  · rw [if_neg h]
    refine Eq.trans ?_ (congrFun (Row.front_of (rows m c) ⟨t.val * 688 + r.val, by have := t.isLt; have hN : cfg0.N = 24 := N_0; omega⟩ h) j).symm
    unfold rows
    have f : ∀ {n : ℕ} (x : Fin 16400 → Fin n → EReal), Row.front x ⟨t.val * 688 + r.val, by have := t.isLt; have hN : cfg0.N = 24 := N_0; omega⟩ = _ := fun x => Row.front_of x ⟨t.val * 688 + r.val, by have := t.isLt; have hN : cfg0.N = 24 := N_0; omega⟩ h
    congr 1 <;> funext k
    · exact (row0 m c t r k).trans (congrFun (f _) _)
    · exact (row1 m c t r k).trans (congrFun (f _) _)
    · exact (row2 m c t r k).trans (congrFun (f _) _)
    · exact (row3 m c t r k).trans (congrFun (f _) _)
    · exact gain7 m c t k
    · exact (row4 m c t r k).trans (congrFun (f _) _)
    · exact (row5 m c t r k).trans (congrFun (f _) _)
    · exact (row6 m c t r k).trans (congrFun (f _) _)
    · funext q
      exact weight8 m c t k q
    · funext q
      exact weight9 m c t k q
    · funext q
      exact weight10 m c t k q
    · funext q
      exact weight11 m c t k q

/-- What the result array holds after the run. -/
theorem final : (dats m 0 c).arrAt 12 cfg0.N = G m c := by
  refine (dats m 0 c).arrAt_eq_of_covers 12 _ (by decide +kernel) fun t hf y => ?_
  rw [after0_12]
  idx_vars y
  refine Eq.trans ?_ (congrArg (G m c) (emb12 t y0 y1)).symm
  refine Eq.trans ?_ (point m c t y0 y1)
  blk_simp

end Cert.Kernel4Ideal.Merge

end
-- ==== Proof.MergeRef.lean ====
/- The plain program of the mixing sub-layer's last part: what its result holds, row by row, in terms of `Row`. -/
module

public import proofs.«01_k».proof.Proof.Gen.Reference4Ideal.Read
public import proofs.«01_k».proof.Proof.Row
public import Idealize.ShloMosaic.Lib.Pointwise

@[expose] public section

set_option maxRecDepth 16384

noncomputable section

open Idealize.ShloMosaic Idealize.ShloMosaic.TcCoe Idealize.SL.Sem

namespace Cert.Reference4Ideal.Merge
open Cert.Reference4Ideal Cert.Reference4Ideal.Gen

open Cert.Reference4Ideal.Read

variable (x0 : FVec Ideal S1x16400x1024 .f32) (x1 : FVec Ideal S1x16400x4096 .f32) (x2 x3 : FVec Ideal S1x16400x512 .f32)
  (x4 : FVec Ideal S1x16400x1024 .f32) (x5 : FVec Ideal S4x512 .f32) (x6 : FVec Ideal S4x512x512 .f32)
  (x7 : FVec Ideal S4x512x1024 .f32) (x8 x9 : FVec Ideal S4x1024x1024 .f32)

/-- The GELU of the state-space output. -/
theorem gelu_apply (r : Fin 16400) (k : Fin 512) :
    val_main_v22 (F := Ideal) x1 x2 x3 x5 (ix3 0 r k)
      = Row.gelu (x2 (ix3 0 r k) + x3 (ix3 0 r k) + x5 (ix2 0 k) * x1 (ix3 0 r ⟨1536 + k.val, by omega⟩)) := by
  pointwise [val_main_v0, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_cst, val_main_cst_0, val_main_cst_1, val_main_cst_2]
  rfl

/-- The gated linear unit. -/
theorem glu_apply (r : Fin 16400) (k : Fin 512) :
    val_main_v32 (F := Ideal) x1 x2 x3 x5 x6 (ix3 0 r k)
      = Row.glu (fun k => Row.gelu (x2 (ix3 0 r k) + x3 (ix3 0 r k) + x5 (ix2 0 k) * x1 (ix3 0 r ⟨1536 + k.val, by omega⟩)))
          (fun l k => x6 (ix3 0 l k)) k := by
  pointwise [val_main_v23, val_main_v24, val_main_v25, val_main_v26, val_main_v27, val_main_v28, val_main_v29, val_main_v30, val_main_v31, val_main_v32, val_main_cst_3, val_main_cst_4, gelu_apply]
  unfold Row.glu Ideal.logistic
  rfl

/-- The two branches, gated and added. -/
theorem merged_apply (r : Fin 16400) (q : Fin 1024) :
    val_main_v53 (F := Ideal) x1 x2 x3 x4 x5 x6 x7 x8 (ix3 0 r q)
      = Ideal.logistic (x1 (ix3 0 r ⟨2048 + q.val, by omega⟩)) * (∑ k, Row.glu (fun k => Row.gelu (x2 (ix3 0 r k) + x3 (ix3 0 r k)
            + x5 (ix2 0 k) * x1 (ix3 0 r ⟨1536 + k.val, by omega⟩))) (fun l k => x6 (ix3 0 l k)) k * x7 (ix3 0 k q))
        + Ideal.logistic (x1 (ix3 0 r ⟨3072 + q.val, by omega⟩)) * ∑ k, x4 (ix3 0 r k) * x8 (ix3 0 k q) := by
  pointwise [val_main_v1, val_main_v2, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_cst_5, val_main_cst_6, val_main_cst_7, val_main_cst_8, glu_apply]
  unfold Ideal.logistic
  rfl

/-- The result: zero rows, then the token rows. -/
theorem val_apply (i : Fin 16512) (j : Fin 1024) :
    val_main_v60 (F := Ideal) x0 x1 x2 x3 x4 x5 x6 x7 x8 x9 (ix2 i j)
      = Row.front (fun r j => Row.merge (fun k => x0 (ix3 0 r k)) (fun k => x2 (ix3 0 r k)) (fun k => x3 (ix3 0 r k))
          (fun k => x1 (ix3 0 r ⟨1536 + k.val, by omega⟩)) (fun k => x5 (ix2 0 k)) (fun k => x4 (ix3 0 r k))
          (fun k => x1 (ix3 0 r ⟨2048 + k.val, by omega⟩)) (fun k => x1 (ix3 0 r ⟨3072 + k.val, by omega⟩))
          (fun l k => x6 (ix3 0 l k)) (fun k q => x7 (ix3 0 k q)) (fun k q => x8 (ix3 0 k q)) (fun k q => x9 (ix3 0 k q)) j) i j := by
  pointwise [val_main_v54, val_main_v55, val_main_v56, val_main_v57, val_main_v58, val_main_v59, val_main_v60, val_main_cst_9, merged_apply]
  rfl

end Cert.Reference4Ideal.Merge

end
-- ==== Proof.Softmax.lean ====
/- One row of the attention: the weights taken to base two over 512 lanes, with the division after the product, agree with the
   plain softmax over the 401 logits that stand in those lanes. -/
module

public import proofs.«01_k».proof.Proof.Row
public import Idealize.ShloMosaic.Lib.Pointwise

@[expose] public section

noncomputable section

open Idealize.ShloMosaic Idealize.ShloMosaic.TcCoe Idealize.SL.Sem

namespace Softmax

/-- A sum of reals is the extended reals' sum of them. -/
theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

/-- The greatest of a row. -/
def top {n : ℕ} (f : Fin n → EReal) : EReal := Finset.univ.fold max ⊥ f

/-- The kernel's row: logits `y` to base two, values `v`, the division last. -/
def attend (y v : Fin 512 → EReal) : EReal :=
  Ideal.div (∑ j, Ideal.exp2 (y j - top y) * v j) (∑ j, Ideal.exp2 (y j - top y))

/-- The plain softmax of a row of 401 logits. -/
def soft (x : Fin 401 → EReal) (j : Fin 401) : EReal :=
  Ideal.div (Ideal.exp (x j - max ⊥ (top x))) (∑ k, Ideal.exp (x k - max ⊥ (top x)))

/-- The plain row: the band's values and the meta rows' values under the softmax's weights. -/
def plain (x : Fin 401 → EReal) (w : Fin 384 → EReal) (z : Fin 16 → EReal) : EReal :=
  (∑ j : Fin 384, w j * soft x ⟨j.val, by omega⟩) + ∑ j : Fin 16, z j * soft x ⟨384 + j.val, by omega⟩

/-- The factor between the two bases. -/
def base : ℝ := (Real.log 2)⁻¹

theorem base_pos : 0 < base := inv_pos.2 (Real.log_pos (by norm_num))

theorem rpow_base (r : ℝ) : (2 : ℝ) ^ (base * r) = Real.exp r := by
  rw [Real.rpow_def_of_pos (by norm_num), base, ← mul_assoc, mul_inv_cancel₀ (Real.log_pos (by norm_num)).ne', one_mul]

/-- A row with a real entry and none `⊤` has a real greatest entry, and it is attained. -/
theorem top_real {n : ℕ} (x : Fin n → EReal) (hx : ∀ j, x j ≠ ⊤) (s : ℝ) (k : Fin n) (hs : x k = s) :
    ∃ μ : ℝ, top x = μ ∧ (∀ j, x j ≤ μ) ∧ ∃ j, x j = μ := by
  have hlt : top x < ⊤ := (Finset.fold_max_lt _).2 ⟨bot_lt_top, fun j _ => lt_top_iff_ne_top.2 (hx j)⟩
  have hle : ∀ j, x j ≤ top x := fun j => (Finset.le_fold_max _).2 (.inr ⟨j, Finset.mem_univ j, le_rfl⟩)
  have hbot : ⊥ < top x := lt_of_lt_of_le (by rw [hs]; exact EReal.bot_lt_coe s) (hle k)
  lift top x to ℝ using ⟨hlt.ne, hbot.ne'⟩ with μ hμ
  refine ⟨μ, rfl, hle, ?_⟩
  rcases (Finset.le_fold_max _).1 (le_of_eq hμ) with h | ⟨j, _, h⟩
  · exact absurd h (not_le.2 hbot)
  · exact ⟨j, le_antisymm (hle j) h⟩

/-- The greatest entry scales with the entries. -/
theorem top_scaled {n p : ℕ} (x : Fin n → EReal) (y : Fin p → EReal) (μ : ℝ) (hle : ∀ j, x j ≤ μ) (hat : ∃ j, x j = μ)
    (hy : ∀ j, y j = ⊥ ∨ ∃ k, y j = (base : EReal) * x k) (hx : ∀ k, ∃ j, y j = (base : EReal) * x k) :
    top y = ((base * μ : ℝ) : EReal) := by
  refine le_antisymm ((Finset.fold_max_le _).2 ⟨bot_le, fun j _ => ?_⟩) ?_
  · rcases hy j with h | ⟨k, h⟩
    · rw [h]; exact bot_le
    · rw [h]
      have hk := hle k
      generalize x k = a at hk ⊢
      induction a with
      | bot => rw [EReal.coe_mul_bot_of_pos base_pos]; exact bot_le
      | coe r =>
        rw [← EReal.coe_mul]
        exact EReal.coe_le_coe_iff.2 (mul_le_mul_of_nonneg_left (EReal.coe_le_coe_iff.1 hk) base_pos.le)
      | top => exact absurd hk (by simp)
  · obtain ⟨k, hk⟩ := hat
    obtain ⟨j, hj⟩ := hx k
    refine (Finset.le_fold_max _).2 (.inr ⟨j, Finset.mem_univ j, ?_⟩)
    rw [hj, hk, EReal.coe_mul]

/-- One weight: the real number it is, `0` at a masked lane. -/
theorem weight (x : EReal) (hx : x ≠ ⊤) (μ : ℝ) :
    ∃ r : ℝ, 0 ≤ r ∧ Ideal.exp (x - μ) = r ∧ Ideal.exp2 ((base : EReal) * x - ((base * μ : ℝ) : EReal)) = r
      ∧ (x = ⊥ → r = 0) ∧ (∀ s : ℝ, x = s → 0 < r) := by
  induction x with
  | bot =>
    refine ⟨0, le_rfl, ?_, ?_, fun _ => rfl, fun s h => absurd h (EReal.bot_ne_coe s)⟩
    · rw [EReal.bot_sub, Ideal.exp_bot, EReal.coe_zero]
    · rw [EReal.coe_mul_bot_of_pos base_pos, EReal.bot_sub, Ideal.exp2_bot, EReal.coe_zero]
  | coe r =>
    refine ⟨Real.exp (r - μ), (Real.exp_pos _).le, ?_, ?_, fun h => absurd h (EReal.coe_ne_bot r), fun _ _ => Real.exp_pos _⟩
    · rw [← EReal.coe_sub, Ideal.exp_coe]
    · rw [← EReal.coe_mul, ← EReal.coe_sub, Ideal.exp2_coe, ← mul_sub]
      exact congrArg _ (rpow_base _)
  | top => exact absurd rfl hx

/-- A sum over the 512 lanes of a row that is `0` on the 111 padding lanes. -/
theorem sum_lanes (f : Fin 512 → EReal) (h0 : ∀ j : Fin 512, 385 ≤ j.val → j.val < 496 → f j = 0) :
    ∑ j, f j = (∑ j : Fin 384, f ⟨j.val, by omega⟩) + (f ⟨384, by omega⟩ + ∑ j : Fin 16, f ⟨496 + j.val, by omega⟩) := by
  have e1 := Fin.sum_univ_add (a := 384) (b := 128) f
  have e2 := Fin.sum_univ_add (a := 1) (b := 127) fun i => f (Fin.natAdd 384 i)
  have e3 := Fin.sum_univ_add (a := 111) (b := 16) fun i => f (Fin.natAdd 384 (Fin.natAdd 1 i))
  have z : ∑ i : Fin 111, f (Fin.natAdd 384 (Fin.natAdd 1 (Fin.castAdd 16 i))) = 0 :=
    Finset.sum_eq_zero fun i _ => h0 _ (by simp; omega) (by simp; omega)
  refine e1.trans ?_
  refine congrArg₂ (· + ·) rfl (e2.trans ?_)
  refine congrArg₂ (· + ·) ?_ (e3.trans ?_)
  · rw [Fin.sum_univ_one]; rfl
  · rw [z, zero_add]
    exact Finset.sum_congr rfl fun i _ => congrArg f (Fin.ext (by change 384 + (1 + (111 + i.val)) = 496 + i.val; omega))

/-- A sum over the 401 logits: the band, the meta rows, the sink. -/
theorem sum_logits (f : Fin 401 → EReal) :
    ∑ j, f j = (∑ j : Fin 384, f ⟨j.val, by omega⟩) + ((∑ j : Fin 16, f ⟨384 + j.val, by omega⟩) + f ⟨400, by omega⟩) := by
  have e1 := Fin.sum_univ_add (a := 384) (b := 17) f
  have e2 := Fin.sum_univ_add (a := 16) (b := 1) fun i => f (Fin.natAdd 384 i)
  refine e1.trans ?_
  refine congrArg₂ (· + ·) rfl (e2.trans ?_)
  refine congrArg₂ (· + ·) rfl ?_
  rw [Fin.sum_univ_one]; rfl

/-- THE ROW: where the lanes hold the logits to base two — the band, the sink, padding, the meta rows —, and the values agree
    wherever a logit is not masked, the kernel's row is the plain one. -/
theorem attend_eq (x : Fin 401 → EReal) (y v : Fin 512 → EReal) (w : Fin 384 → EReal) (z : Fin 16 → EReal) (s : ℝ)
    (hx : ∀ j, x j ≠ ⊤) (hs : x ⟨400, by omega⟩ = s)
    (yb : ∀ j : Fin 384, y ⟨j.val, by omega⟩ = (base : EReal) * x ⟨j.val, by omega⟩)
    (ys : y ⟨384, by omega⟩ = (base : EReal) * x ⟨400, by omega⟩)
    (yp : ∀ j : Fin 512, 385 ≤ j.val → j.val < 496 → y j = ⊥)
    (ym : ∀ j : Fin 16, y ⟨496 + j.val, by omega⟩ = (base : EReal) * x ⟨384 + j.val, by omega⟩)
    (vb : ∀ j : Fin 384, x ⟨j.val, by omega⟩ = ⊥ ∨ v ⟨j.val, by omega⟩ = w j)
    (vs : v ⟨384, by omega⟩ = 0)
    (vm : ∀ j : Fin 16, v ⟨496 + j.val, by omega⟩ = z j) :
    attend y v = plain x w z := by
  obtain ⟨μ, hμ, hle, hat⟩ := top_real x hx s _ hs
  have hy : top y = ((base * μ : ℝ) : EReal) := by
    refine top_scaled x y μ hle hat (fun j => ?_) (fun k => ?_)
    · by_cases h1 : j.val < 384
      · exact .inr ⟨_, yb ⟨j.val, h1⟩⟩
      by_cases h2 : j.val = 384
      · exact .inr ⟨_, (congrArg y (Fin.ext h2)).trans ys⟩
      by_cases h3 : j.val < 496
      · exact .inl (yp j (by omega) h3)
      · exact .inr ⟨_, (congrArg y (Fin.ext (by dsimp only; omega))).trans (ym ⟨j.val - 496, by omega⟩)⟩
    · by_cases h1 : k.val < 384
      · exact ⟨_, yb ⟨k.val, h1⟩⟩
      by_cases h2 : k.val < 400
      · exact ⟨_, (ym ⟨k.val - 384, by omega⟩).trans (congrArg (fun k => (base : EReal) * x k) (Fin.ext (by dsimp only; omega)))⟩
      · exact ⟨_, ys.trans (congrArg (fun k => (base : EReal) * x k) (Fin.ext (by dsimp only; omega)))⟩
  choose r r0 re r2 rb rp using fun j => weight (x j) (hx j) μ
  have hm : max ⊥ (top x) = (μ : EReal) := by rw [hμ]; exact max_eq_right bot_le
  have hD : (∑ k, Ideal.exp (x k - max ⊥ (top x))) = ((∑ k, r k : ℝ) : EReal) := by
    rw [hm, coe_sum]; exact Finset.sum_congr rfl fun k _ => re k
  have hpos : 0 < ∑ k, r k := lt_of_lt_of_le (rp _ s hs) (Finset.single_le_sum (fun k _ => r0 k) (Finset.mem_univ _))
  have eb : ∀ j : Fin 384, Ideal.exp2 (y ⟨j.val, by omega⟩ - top y) = r ⟨j.val, by omega⟩ := fun j => by rw [hy, yb]; exact r2 _
  have es : Ideal.exp2 (y ⟨384, by omega⟩ - top y) = r ⟨400, by omega⟩ := by rw [hy, ys]; exact r2 _
  have em : ∀ j : Fin 16, Ideal.exp2 (y ⟨496 + j.val, by omega⟩ - top y) = r ⟨384 + j.val, by omega⟩ := fun j => by
    rw [hy, ym]; exact r2 _
  have ep : ∀ j : Fin 512, 385 ≤ j.val → j.val < 496 → Ideal.exp2 (y j - top y) = 0 := fun j h1 h2 => by
    rw [hy, yp j h1 h2, EReal.bot_sub, Ideal.exp2_bot]
  have den : (∑ j, Ideal.exp2 (y j - top y)) = ((∑ k, r k : ℝ) : EReal) := by
    rw [sum_lanes _ ep, coe_sum, sum_logits, es]
    simp only [eb, em]
    rw [add_comm (r ⟨400, _⟩ : EReal)]
  have num : (∑ j, Ideal.exp2 (y j - top y) * v j)
      = (∑ j : Fin 384, (r ⟨j.val, by omega⟩ : EReal) * w j) + ∑ j : Fin 16, (r ⟨384 + j.val, by omega⟩ : EReal) * z j := by
    rw [sum_lanes _ fun j h1 h2 => by rw [ep j h1 h2, zero_mul], vs, mul_zero, zero_add]
    simp only [eb, em, vm]
    refine congrArg (· + _) (Finset.sum_congr rfl fun j _ => ?_)
    rcases vb j with h | h
    · rw [rb _ h, EReal.coe_zero, zero_mul, zero_mul]
    · rw [h]
  have hsoft : ∀ j, soft x j = (r j : EReal) * ((1 / ∑ k, r k : ℝ) : EReal) := fun j => by
    unfold soft
    rw [hD, Ideal.div_coe hpos.ne', hm, re]
  unfold attend plain
  rw [den, num, Ideal.div_coe hpos.ne', mul_comm, EReal.left_distrib_of_nonneg_of_ne_top (EReal.coe_nonneg.2 (by positivity)) (EReal.coe_ne_top _),
    mul_comm, mul_comm _ (∑ j : Fin 16, _), ← Cert.Row.sum_mul_coe _ _ (by positivity), ← Cert.Row.sum_mul_coe _ _ (by positivity)]
  simp only [hsoft]
  refine congrArg₂ (· + ·) (Finset.sum_congr rfl fun j _ => ?_) (Finset.sum_congr rfl fun j _ => ?_)
  · rw [mul_comm (r _ : EReal), mul_assoc]
  · rw [mul_comm (r _ : EReal), mul_assoc]

end Softmax
-- ==== Proof.AttnRow.lean ====
/- One entry of the windowed attention as a function of the projected rows: which logits a query row takes (its band of three
   blocks, the meta rows, the sink), and the softmax over them. -/
module

public import proofs.«01_k».proof.Proof.Softmax

@[expose] public section

noncomputable section

open Idealize.ShloMosaic Idealize.ShloMosaic.TcCoe Idealize.SL.Sem

namespace Cert.Attn

/-- Equal numbers, equal indices. -/
theorem fin_congr {n a b : ℕ} {ha : a < n} {hb : b < n} (h : a = b) : (⟨a, ha⟩ : Fin n) = ⟨b, hb⟩ := Fin.ext h

/-- The word of −∞. -/
theorem neg_inf : Ideal.ofBits .f32 0xFF800000#32 = ⊥ := by
  simp [Ideal.ofBits, Ideal.ieee]

/-- Row `n` of the projected rows with 240 rows of zeros in front (one block and the 112 rows of padding) and zeros behind. -/
def key (X : Fin 16400 → Fin 4096 → EReal) (n : ℕ) (c : Fin 4096) : EReal :=
  if h : 240 ≤ n ∧ n < 16640 then X ⟨n - 240, by omega⟩ c else 0

theorem key_in {X : Fin 16400 → Fin 4096 → EReal} {n : ℕ} {c c' : Fin 4096} {i : Fin 16400} (h1 : 240 ≤ n) (h2 : n < 16640)
    (hi : i.val = n - 240) (hc : c'.val = c.val) : key X n c = X i c' := by
  unfold key
  rw [dif_pos ⟨h1, h2⟩]
  exact congrArg₂ X (Fin.ext hi.symm) (Fin.ext hc.symm)

theorem key_out {X : Fin 16400 → Fin 4096 → EReal} {n : ℕ} {c : Fin 4096} (h : ¬(240 ≤ n ∧ n < 16640)) : key X n c = 0 := by
  unfold key
  rw [dif_neg h]

/-- The distance of a query row from a row of its band, a word. -/
def dist (r s : ℕ) : BitVec 32 :=
  IntOp.absi (IntOp.subi (IntOp.addi (BitVec.ofNat 32 r) 128#32) (BitVec.ofNat 32 s))

/-- Whether row `s` of block `b`'s band is a token row. -/
def inside (b s : ℕ) : BitVec 1 :=
  IntOp.andi
    (IntOp.cmpi .sge (IntOp.addi (IntOp.muli (IntOp.subi (BitVec.ofNat 32 b) 1#32) 128#32) (BitVec.ofNat 32 s)) 128#32)
    (IntOp.cmpi .slt (IntOp.addi (IntOp.muli (IntOp.subi (BitVec.ofNat 32 b) 1#32) 128#32) (BitVec.ofNat 32 s)) 16512#32)

/-- A head's slope. -/
def slope (h : ℕ) : EReal :=
  Ideal.exp (Ideal.ofBits .f32 0x3F317218#32 * (Ideal.ofBits .f32 0xBF000000#32
    * FloatOps.sitofp (F := Ideal) .f32 (IntOp.addi (BitVec.ofNat 32 h) 1#32)))

/-- The logit of query row `r` of block `b`, head `h`, at row `s` of the band. -/
def band (X : Fin 16400 → Fin 4096 → EReal) (b : Fin 129) (r : Fin 128) (h : Fin 16) (s : Fin 384) : EReal :=
  Scalar.select (IntOp.andi (IntOp.cmpi .sle (dist r.val s.val) 128#32) (inside b.val s.val))
    ((∑ d : Fin 64, key X (128 * b.val + s.val) ⟨1024 + (64 * (h.val / 4) + d.val), by omega⟩
        * key X (128 * b.val + r.val + 128) ⟨64 * h.val + d.val, by omega⟩) * Ideal.ofBits .f32 0x3E000000#32
      - slope h.val * FloatOps.sitofp (F := Ideal) .f32 (dist r.val s.val)) ⊥

/-- The logit at a meta row. -/
def metaLogit (X : Fin 16400 → Fin 4096 → EReal) (b : Fin 129) (r : Fin 128) (h : Fin 16) (j : Fin 16) : EReal :=
  (∑ d : Fin 64, X ⟨j.val, by omega⟩ ⟨1024 + (64 * (h.val / 4) + d.val), by omega⟩
    * key X (128 * b.val + r.val + 128) ⟨64 * h.val + d.val, by omega⟩) * Ideal.ofBits .f32 0x3E000000#32

/-- All 401 logits: the band, the meta rows, the sink. -/
def logit (X : Fin 16400 → Fin 4096 → EReal) (sink : Fin 16 → EReal) (b : Fin 129) (r : Fin 128) (h : Fin 16) (j : Fin 401) : EReal :=
  if h1 : j.val < 384 then band X b r h ⟨j.val, h1⟩
  else if h2 : j.val < 400 then metaLogit X b r h ⟨j.val - 384, by omega⟩ else sink h

/-- The entry at row `i` and column `j` of the attention's result. -/
def entry (X : Fin 16400 → Fin 4096 → EReal) (sink : Fin 16 → EReal) (i : Fin 16512) (j : Fin 1024) : EReal :=
  Softmax.plain (logit X sink ⟨i.val / 128, by omega⟩ ⟨i.val % 128, by omega⟩ ⟨j.val / 64, by omega⟩)
    (fun s => key X (128 * (i.val / 128) + s.val) ⟨1280 + (64 * (j.val / 256) + j.val % 64), by omega⟩)
    (fun s => X ⟨s.val, by omega⟩ ⟨1280 + (64 * (j.val / 256) + j.val % 64), by omega⟩)

end Cert.Attn
-- ==== Proof.AttnItem.lean ====
/- One item of the attention kernel: the attention of two query heads at one block of 128 rows, entry by entry. Every
   store of the body holds an item; the attention's arithmetic is `Softmax.attend` on a row of 512 lanes. -/
module

public import proofs.«01_k».proof.Proof.Gen.Kernel5Ideal.Value
public import proofs.«01_k».proof.Proof.AttnRow
public import Idealize.ShloMosaic.Lib.Pointwise

@[expose] public section

set_option maxRecDepth 16384

noncomputable section

open Idealize.ShloMosaic Idealize.ShloMosaic.TcCoe Idealize.SL.Sem

namespace Cert.Kernel5Ideal.Attn
open Cert.Kernel5Ideal Cert.Kernel5Ideal.Gen

/-- The body's log2 e. -/
theorem log2e : (Named.named κ "log2e" 0x3FB8AA3B#32 : Ideal .f32) = ((Softmax.base : ℝ) : EReal) :=
  IdealRules.named_const.ideal_named_scalar _ _ _ _ rfl

/-- Four blocks of 128 rows, one above the other. -/
def stack (a0 a1 a2 a3 : Vec Ideal S128x64 .bf16) (j : Fin 512) (d : Fin 64) : EReal :=
  if _ : j.val < 128 then a0 (ix2 ⟨j.val, by omega⟩ d) else if _ : j.val < 256 then a1 (ix2 ⟨j.val - 128, by omega⟩ d)
  else if _ : j.val < 384 then a2 (ix2 ⟨j.val - 256, by omega⟩ d) else a3 (ix2 ⟨j.val - 384, by omega⟩ d)

/-- The 512 lanes of row `r` of one head: products with the keys, the bias added, lane 384 the sink's. -/
def lanes (k : Fin 512 → Fin 64 → EReal) (q : Vec Ideal S128x64 .bf16) (b : Vec Ideal S1x1x128x512 .f32) (s : EReal) (r : Fin 128) (j : Fin 512) : EReal :=
  if j.val = 384 then s * ((Softmax.base : ℝ) : EReal) else (∑ d, q (ix2 r d) * k j d) + b (ix4 0 0 r j)

/-- What one store of the body holds. -/
def item (k0 k1 k2 k3 v0 v1 v2 v3 qa qb : Vec Ideal S128x64 .bf16) (ba bb : Vec Ideal S1x1x128x512 .f32) (sa sb : Elt Ideal .f32) :
    Vec Ideal S128x128 .bf16 :=
  k0_pay54 (k0_pay2 v0 v1 v2 v3) (k0_pay41 (k0_pay40 (k0_pay1 k0 k1 k2 k3) k0_pay11 qa qb ba sa))
    (k0_pay43 k0_pay11 (k0_pay37 (k0_pay1 k0 k1 k2 k3) qa qb) bb sb)
    (k0_pay44 k0_pay11 (k0_pay37 (k0_pay1 k0 k1 k2 k3) qa qb) (k0_pay39 (k0_pay1 k0 k1 k2 k3) k0_pay11 qa qb ba sa) bb sb)

variable (k0 k1 k2 k3 v0 v1 v2 v3 qa qb : Vec Ideal S128x64 .bf16) (ba bb : Vec Ideal S1x1x128x512 .f32) (sa sb : Elt Ideal .f32)

theorem keys_apply (j : Fin 512) (d : Fin 64) : k0_pay1 (F := Ideal) k0 k1 k2 k3 (ix2 j d) = stack k0 k1 k2 k3 j d := by
  pointwise [k0_pay1]
  unfold stack
  split_ifs <;> first
    | rfl
    | (exfalso; omega)
    | rw [dif_pos (show j.val < 256 by omega)]
    | (rw [dif_neg (show ¬j.val < 256 by omega), dif_pos (show j.val < 384 by omega)]
       exact congrArg (fun i : Fin 128 => k2 (ix2 i d)) (Attn.fin_congr (by omega)))
    | (rw [dif_neg (show ¬j.val < 256 by omega), dif_neg (show ¬j.val < 384 by omega)]
       exact congrArg (fun i : Fin 128 => k3 (ix2 i d)) (Attn.fin_congr (by omega)))
    | exact absurd rfl (by assumption)

theorem values_apply (j : Fin 512) (d : Fin 64) : k0_pay2 (F := Ideal) v0 v1 v2 v3 (ix2 j d) = stack v0 v1 v2 v3 j d := keys_apply v0 v1 v2 v3 j d

variable (K : FVec Ideal S512x64 .bf16)

theorem products_a (r : Fin 128) (j : Fin 512) : k0_pay37 (F := Ideal) K qa qb (ix2 ⟨r.val, by omega⟩ j) = ∑ d, qa (ix2 r d) * K (ix2 j d) := by
  pointwise [k0_pay37]

theorem products_b (r : Fin 128) (j : Fin 512) : k0_pay37 (F := Ideal) K qa qb (ix2 ⟨128 + r.val, by omega⟩ j) = ∑ d, qb (ix2 r d) * K (ix2 j d) := by
  pointwise [k0_pay37]

/-- The lanes as `lanes` has them, of keys `K`. -/
abbrev L (q : Vec Ideal S128x64 .bf16) (b : Vec Ideal S1x1x128x512 .f32) (s : EReal) (r : Fin 128) : Fin 512 → EReal := lanes (fun j d => K (ix2 j d)) q b s r

/-- The comparison that finds the sink's lane. -/
theorem first_lane (i : Fin 128) : IntOp.cmpi CmpIPredicate.eq (BitVec.ofNat 32 i.val) 0#32 = if i.val = 0 then 1#1 else 0#1 := by
  revert i
  decide +kernel

/-- The lanes as the body makes them: 384 as they are, and 128 of which the first is the sink's. -/
theorem lane_eq (P : Fin 512 → EReal) (b : Vec Ideal S1x1x128x512 .f32) (s : EReal) (r : Fin 128) (j : Fin 512) :
    (if h : j.val < 384 then P j + b (ix4 0 0 r j)
      else Scalar.select (IntOp.cmpi CmpIPredicate.eq (BitVec.ofNat 32 (j.val - 384)) 0#32) (s * (Named.named κ "log2e" 1069066811#32 : Ideal .f32))
        (P ⟨384 + (j.val - 384), by omega⟩ + b (ix4 0 0 r ⟨384 + (j.val - 384), by omega⟩)))
      = if j.val = 384 then s * ((Softmax.base : ℝ) : EReal) else P j + b (ix4 0 0 r j) := by
  by_cases h : j.val < 384
  · rw [dif_pos h, if_neg (by omega)]
  · rw [dif_neg h, log2e, first_lane ⟨j.val - 384, by omega⟩]
    have e : (⟨384 + (j.val - 384), by omega⟩ : Fin 512) = j := Fin.ext (by dsimp only; omega)
    rw [e]
    by_cases h0 : j.val = 384
    · rw [if_pos (show (⟨j.val - 384, by omega⟩ : Fin 128).val = 0 by dsimp only; omega), if_pos h0]; rfl
    · rw [if_neg (show ¬(⟨j.val - 384, by omega⟩ : Fin 128).val = 0 by dsimp only; omega), if_neg h0]; rfl

theorem weights_a (r : Fin 128) (j : Fin 512) :
    k0_pay39 (F := Ideal) K k0_pay11 qa qb ba sa (ix2 r j) = Ideal.exp2 (L K qa ba sa r j - Softmax.top (L K qa ba sa r)) := by
  have e := products_a qa qb K
  pointwise [k0_pay39, k0_pay11, e]
  simp only [fun j => lane_eq (fun j => ∑ d, qa (ix2 r d) * K (ix2 j d)) ba sa r j, Attn.neg_inf, L, lanes, Softmax.top]
  rfl

theorem weights_b (P : FVec Ideal S256x512 .f32) (hP : ∀ r j, P (ix2 ⟨128 + (r : Fin 128).val, by omega⟩ j) = ∑ d, qb (ix2 r d) * K (ix2 j d)) (r : Fin 128) (j : Fin 512) :
    k0_pay42 (F := Ideal) k0_pay11 P bb sb (ix2 r j) = Ideal.exp2 (L K qb bb sb r j - Softmax.top (L K qb bb sb r)) := by
  pointwise [k0_pay42, k0_pay11, hP]
  simp only [fun j => lane_eq (fun j => ∑ d, qb (ix2 r d) * K (ix2 j d)) bb sb r j, Attn.neg_inf, L, lanes, Softmax.top]
  rfl

theorem item_a (r : Fin 128) (d : Fin 64) :
    item k0 k1 k2 k3 v0 v1 v2 v3 qa qb ba bb sa sb (ix2 r ⟨d.val, by omega⟩)
      = Softmax.attend (lanes (stack k0 k1 k2 k3) qa ba sa r) (fun j => stack v0 v1 v2 v3 j d) := by
  have ea := weights_a qa qb ba sa (k0_pay1 k0 k1 k2 k3)
  have eb := weights_b qb bb sb (k0_pay1 k0 k1 k2 k3) (k0_pay37 (k0_pay1 k0 k1 k2 k3) qa qb) (products_b qa qb _)
  pointwise [item, k0_pay54, k0_pay41, k0_pay40, k0_pay43, k0_pay44, ea, eb, values_apply, L, keys_apply]
  rfl

theorem item_b (r : Fin 128) (d : Fin 64) :
    item k0 k1 k2 k3 v0 v1 v2 v3 qa qb ba bb sa sb (ix2 r ⟨64 + d.val, by omega⟩)
      = Softmax.attend (lanes (stack k0 k1 k2 k3) qb bb sb r) (fun j => stack v0 v1 v2 v3 j d) := by
  have ea := weights_a qa qb ba sa (k0_pay1 k0 k1 k2 k3)
  have eb := weights_b qb bb sb (k0_pay1 k0 k1 k2 k3) (k0_pay37 (k0_pay1 k0 k1 k2 k3) qa qb) (products_b qa qb _)
  pointwise [item, k0_pay54, k0_pay41, k0_pay40, k0_pay43, k0_pay44, ea, eb, values_apply, L, keys_apply]
  rfl

end Cert.Kernel5Ideal.Attn
-- ==== Proof.AttnMath.lean ====
/- The attention of one query row, both ways: where the scaled products, the bias and the sink stand in 512 lanes as the kernel
   lays them out, the row is the plain softmax over the 401 logits. -/
module

public import proofs.«01_k».proof.Proof.AttnRow

@[expose] public section

set_option maxRecDepth 16384

noncomputable section

open Idealize.ShloMosaic Idealize.ShloMosaic.TcCoe Idealize.SL.Sem

namespace Cert.Attn

open Softmax (base)

/-- Whether query row `r` of block `b` attends to row `s` of its band: within 128 rows, and a token row. -/
abbrev live (b r s : ℕ) : Prop := (r ≤ s ∧ s ≤ r + 256) ∧ 256 ≤ 128 * b + s ∧ 128 * b + s < 16640

/-- A word difference, by one number. -/
theorem diff_word (r s : ℕ) (hs : s < 384) :
    IntOp.subi (IntOp.addi (BitVec.ofNat 32 r) 128#32) (BitVec.ofNat 32 s) = BitVec.ofNat 32 (r + 384 - s) - 256#32 := by
  unfold IntOp.subi IntOp.addi
  apply BitVec.eq_of_toNat_eq
  simp only [BitVec.toNat_sub, BitVec.toNat_add, BitVec.toNat_ofNat]
  omega

theorem near_word : ∀ e : Fin 512, IntOp.cmpi .sle (IntOp.absi (BitVec.ofNat 32 e.val - 256#32)) 128#32 = if 128 ≤ e.val ∧ e.val ≤ 384 then 1#1 else 0#1 := by
  decide +kernel

theorem near_eq (r s : ℕ) (hr : r < 128) (hs : s < 384) :
    IntOp.cmpi .sle (dist r s) 128#32 = if r ≤ s ∧ s ≤ r + 256 then 1#1 else 0#1 := by
  unfold dist
  rw [diff_word r s hs, near_word ⟨r + 384 - s, by omega⟩]
  exact if_congr (by dsimp only; omega) rfl rfl

theorem place_word (b s : ℕ) :
    IntOp.addi (IntOp.muli (IntOp.subi (BitVec.ofNat 32 b) 1#32) 128#32) (BitVec.ofNat 32 s) = BitVec.ofNat 32 (128 * b + s) - 128#32 := by
  unfold IntOp.subi IntOp.addi IntOp.muli
  apply BitVec.eq_of_toNat_eq
  simp only [BitVec.toNat_sub, BitVec.toNat_add, BitVec.toNat_ofNat, BitVec.toNat_mul]
  omega

theorem place_sge : ∀ n : Fin 16896, IntOp.cmpi .sge (BitVec.ofNat 32 n.val - 128#32) 128#32 = if 256 ≤ n.val then 1#1 else 0#1 := by
  decide +kernel

theorem place_slt : ∀ n : Fin 16896, IntOp.cmpi .slt (BitVec.ofNat 32 n.val - 128#32) 16512#32 = if n.val < 16640 then 1#1 else 0#1 := by
  decide +kernel

theorem inside_eq (b s : ℕ) (hb : b < 129) (hs : s < 384) : inside b s = if 256 ≤ 128 * b + s ∧ 128 * b + s < 16640 then 1#1 else 0#1 := by
  unfold inside
  rw [place_word, place_sge ⟨128 * b + s, by omega⟩, place_slt ⟨128 * b + s, by omega⟩]
  dsimp only
  split_ifs <;> first | rfl | omega

theorem live_eq (b r s : ℕ) (hb : b < 129) (hr : r < 128) (hs : s < 384) :
    IntOp.andi (IntOp.cmpi .sle (dist r s) 128#32) (inside b s) = if live b r s then 1#1 else 0#1 := by
  rw [near_eq r s hr hs, inside_eq b s hb hs]
  unfold live
  split_ifs <;> first | rfl | omega

theorem eighth : Ideal.ofBits .f32 0x3E000000#32 = ((1 / 8 : ℝ) : EReal) := by
  simp [Ideal.ofBits, Ideal.ieee, -EReal.coe_mul]
  norm_num

/-- The slopes are real. -/
theorem slope_real (h : ℕ) : ∃ x : ℝ, slope h = x := by
  have e1 : ∃ x : ℝ, Ideal.ofBits .f32 0x3F317218#32 = x := ⟨_, by simp [Ideal.ofBits, Ideal.ieee, -EReal.coe_mul]; rfl⟩
  have e2 : ∃ x : ℝ, Ideal.ofBits .f32 0xBF000000#32 = x := ⟨_, by simp [Ideal.ofBits, Ideal.ieee, -EReal.coe_mul]; rfl⟩
  obtain ⟨x1, h1⟩ := e1
  obtain ⟨x2, h2⟩ := e2
  refine ⟨Real.exp (x1 * (x2 * ((IntOp.addi (BitVec.ofNat 32 h) 1#32).toInt : ℝ))), ?_⟩
  unfold slope
  rw [h1, h2]
  show Ideal.exp ((x1 : EReal) * ((x2 : EReal) * (((IntOp.addi (BitVec.ofNat 32 h) 1#32).toInt : ℝ) : EReal))) = _
  rw [← EReal.coe_mul, ← EReal.coe_mul, Ideal.exp_coe]

variable (X : Fin 16400 → Fin 4096 → EReal) (sink : Fin 16 → EReal)

/-- The bias of a head at a lane, to base two: the band's, with −∞ wherever a row is not attended to, then padding, then the meta rows'. -/
def bias (b r h : ℕ) (j : ℕ) : EReal :=
  if j < 384 then (if live b r j then -((base : ℝ) : EReal) * slope h * FloatOps.sitofp (F := Ideal) .f32 (dist r j) else ⊥)
  else if j < 496 then ⊥ else 0

/-- What is wanted of the arguments: the query and key columns and the sinks hold real numbers. -/
structure Finite : Prop where
  rows : ∀ (i : Fin 16400) (c : Fin 4096), c.val < 1280 → ∃ x : ℝ, X i c = x
  sinks : ∀ h, ∃ x : ℝ, sink h = x

variable {X sink}

theorem Finite.key (F : Finite X sink) (n : ℕ) (c : Fin 4096) (hc : c.val < 1280) : ∃ x : ℝ, key X n c = x := by
  unfold Attn.key
  split_ifs
  · exact F.rows _ c hc
  · exact ⟨0, rfl⟩

/-- A scaled product with a bias, in the real numbers. -/
theorem product (q k : Fin 64 → ℝ) (s d : ℝ) :
    (∑ i, ((q i : EReal) * ((base * (1 / 8) : ℝ) : EReal)) * (k i : EReal)) + -((base : ℝ) : EReal) * (s : EReal) * (d : EReal)
      = ((base : ℝ) : EReal) * ((∑ i, (k i : EReal) * (q i : EReal)) * ((1 / 8 : ℝ) : EReal) - (s : EReal) * (d : EReal)) := by
  simp only [← EReal.coe_mul, ← EReal.coe_neg, ← Softmax.coe_sum, ← EReal.coe_add, ← EReal.coe_sub]
  refine congrArg _ ?_
  have e : ∑ i, q i * (base * (1 / 8)) * k i = base * (1 / 8) * ∑ i, k i * q i := by
    rw [Finset.mul_sum]
    exact Finset.sum_congr rfl fun i _ => by ring
  rw [e]
  ring

theorem band_eq (b : Fin 129) (r : Fin 128) (h : Fin 16) (s : Fin 384) :
    band X b r h s = if live b.val r.val s.val then
      ((∑ d : Fin 64, Attn.key X (128 * b.val + s.val) ⟨1024 + (64 * (h.val / 4) + d.val), by omega⟩
        * Attn.key X (128 * b.val + r.val + 128) ⟨64 * h.val + d.val, by omega⟩) * Ideal.ofBits .f32 0x3E000000#32
      - slope h.val * FloatOps.sitofp (F := Ideal) .f32 (dist r.val s.val)) else ⊥ := by
  unfold band
  rw [live_eq b.val r.val s.val b.isLt r.isLt s.isLt]
  split_ifs <;> rfl

theorem row_eq (F : Finite X sink) (b : Fin 129) (r : Fin 128) (h : Fin 16) (d : Fin 64) (y v : Fin 512 → EReal) (k : Fin 512 → Fin 64 → EReal)
    (q : Fin 64 → EReal)
    (hy : ∀ j : Fin 512, y j = if j.val = 384 then sink h * ((base : ℝ) : EReal) else (∑ d, q d * k j d) + bias b.val r.val h.val j.val)
    (hq : ∀ d : Fin 64, q d = Attn.key X (128 * b.val + r.val + 128) ⟨64 * h.val + d.val, by omega⟩ * ((base * (1 / 8) : ℝ) : EReal))
    (hk : ∀ j : Fin 512, j.val < 384 → 256 ≤ 128 * b.val + j.val → 128 * b.val + j.val < 16640 → ∀ d : Fin 64,
      k j d = Attn.key X (128 * b.val + j.val) ⟨1024 + (64 * (h.val / 4) + d.val), by omega⟩)
    (hkm : ∀ (j : Fin 16) (d : Fin 64), k ⟨496 + j.val, by omega⟩ d = X ⟨j.val, by omega⟩ ⟨1024 + (64 * (h.val / 4) + d.val), by omega⟩)
    (hv : ∀ j : Fin 512, j.val < 384 → 256 ≤ 128 * b.val + j.val → 128 * b.val + j.val < 16640 →
      v j = Attn.key X (128 * b.val + j.val) ⟨1280 + (64 * (h.val / 4) + d.val), by omega⟩)
    (hv0 : v ⟨384, by omega⟩ = 0)
    (hvm : ∀ j : Fin 16, v ⟨496 + j.val, by omega⟩ = X ⟨j.val, by omega⟩ ⟨1280 + (64 * (h.val / 4) + d.val), by omega⟩) :
    Softmax.attend y v = Softmax.plain (logit X sink b r h)
      (fun s => Attn.key X (128 * b.val + s.val) ⟨1280 + (64 * (h.val / 4) + d.val), by omega⟩)
      (fun s => X ⟨s.val, by omega⟩ ⟨1280 + (64 * (h.val / 4) + d.val), by omega⟩) := by
  obtain ⟨s, hs⟩ := F.sinks h
  obtain ⟨sl, hsl⟩ := slope_real h.val
  choose qr hqr using fun d : Fin 64 => F.key (128 * b.val + r.val + 128) ⟨64 * h.val + d.val, by omega⟩ (by dsimp only; omega)
  choose kr hkr using fun (j : Fin 384) (d : Fin 64) => F.key (128 * b.val + j.val) ⟨1024 + (64 * (h.val / 4) + d.val), by omega⟩ (by dsimp only; omega)
  choose mr hmr using fun (j : Fin 16) (d : Fin 64) => F.rows ⟨j.val, by omega⟩ ⟨1024 + (64 * (h.val / 4) + d.val), by omega⟩ (by dsimp only; omega)
  have lb : ∀ j : Fin 384, logit X sink b r h ⟨j.val, by omega⟩ = band X b r h j := fun j => dif_pos j.isLt
  have lm : ∀ j : Fin 16, logit X sink b r h ⟨384 + j.val, by omega⟩ = metaLogit X b r h j := fun j => by
    unfold logit
    rw [dif_neg (by dsimp only; omega), dif_pos (by dsimp only; omega)]
    exact congrArg _ (Fin.ext (by dsimp only; omega))
  have ls : logit X sink b r h ⟨400, by omega⟩ = sink h := by
    unfold logit
    rw [dif_neg (by dsimp only; omega), dif_neg (by dsimp only; omega)]
  have bv : ∀ j : Fin 384, band X b r h j = if live b.val r.val j.val then
      (((∑ d, kr j d * qr d) * (1 / 8) - sl * ((dist r.val j.val).toInt : ℝ) : ℝ) : EReal) else ⊥ := fun j => by
    rw [band_eq, eighth, hsl]
    refine if_congr Iff.rfl ?_ rfl
    simp only [hqr, hkr, EReal.coe_sub, EReal.coe_mul, Softmax.coe_sum]
    rfl
  have mv : ∀ j : Fin 16, metaLogit X b r h j = (((∑ d, mr j d * qr d) * (1 / 8) : ℝ) : EReal) := fun j => by
    unfold metaLogit
    rw [eighth]
    simp only [hqr, hmr, EReal.coe_mul, Softmax.coe_sum]
  refine Softmax.attend_eq (logit X sink b r h) y v _ _ s ?_ (ls.trans hs) ?_ ?_ ?_ ?_ ?_ hv0 hvm
  · intro j
    by_cases h1 : j.val < 384
    · rw [show logit X sink b r h j = band X b r h ⟨j.val, h1⟩ from lb ⟨j.val, h1⟩, bv]
      split_ifs
      · exact EReal.coe_ne_top _
      · exact bot_ne_top
    · by_cases h2 : j.val < 400
      · rw [show j = ⟨384 + (⟨j.val - 384, by omega⟩ : Fin 16).val, by dsimp only; omega⟩ from Fin.ext (by dsimp only; omega), lm, mv]
        exact EReal.coe_ne_top _
      · rw [show j = ⟨400, by omega⟩ from Fin.ext (by dsimp only; omega), ls, hs]
        exact EReal.coe_ne_top _
  · intro j
    rw [hy, if_neg (by dsimp only; omega), lb, bv]
    unfold bias
    rw [if_pos (by dsimp only; omega)]
    by_cases hl : live b.val r.val j.val
    · rw [if_pos hl, if_pos hl, hsl]
      have e : ∀ d, k ⟨j.val, by omega⟩ d = kr j d := fun d => (hk ⟨j.val, by omega⟩ j.isLt hl.2.1 hl.2.2 d).trans (hkr j d)
      simp only [hq, hqr, e]
      refine (product qr (kr j) sl _).trans ?_
      simp only [EReal.coe_sub, EReal.coe_mul, Softmax.coe_sum]
    · rw [if_neg hl, if_neg hl, EReal.add_bot, EReal.coe_mul_bot_of_pos Softmax.base_pos]
  · rw [hy, if_pos rfl, ls, mul_comm]
  · intro j h1 h2
    rw [hy, if_neg (by omega)]
    unfold bias
    rw [if_neg (by omega), if_pos (by omega), EReal.add_bot]
  · intro j
    rw [hy, if_neg (by dsimp only; omega), lm, mv]
    unfold bias
    rw [if_neg (by dsimp only; omega), if_neg (by dsimp only; omega), add_zero]
    simp only [hq, hqr, hkm, hmr]
    have := product qr (mr j) 0 0
    simp only [EReal.coe_zero, mul_zero, add_zero, sub_zero] at this
    refine this.trans ?_
    simp only [EReal.coe_mul, Softmax.coe_sum]
  · intro j
    by_cases hl : live b.val r.val j.val
    · exact .inr (hv ⟨j.val, by omega⟩ j.isLt hl.2.1 hl.2.2)
    · exact .inl (by rw [lb, bv, if_neg hl])

end Cert.Attn
-- ==== Proof.AttnEntry.lean ====
/- What the attention kernel's launch finds in its arrays, in terms of the arguments, and the blocks its points take. -/
module

public import proofs.«01_k».proof.Proof.AttnItem
public import proofs.«01_k».proof.Proof.AttnMath
public import Idealize.ShloMosaic.Lib.Pipeline.ValueKit

@[expose] public section

set_option maxRecDepth 16384

noncomputable section

open Idealize.ShloMosaic Idealize.ShloMosaic.TcCoe Idealize.SL.Sem

namespace Cert.Kernel5Ideal.Attn
open Cert.Kernel5Ideal Cert.Kernel5Ideal.Gen
open Cert.Attn (key)

variable (m : (ℓ : Loc nD τ sig) → Buf (Elt Ideal) ℓ) (c : Dev nD)

/-- The projected rows. -/
abbrev X : Fin 16400 → Fin 4096 → EReal := fun i k => m ((c : Thread nD τ).loc main_arg0) (ix3 0 i k)

/-- The sinks. -/
abbrev sink : Fin 16 → EReal := fun h => m ((c : Thread nD τ).loc main_arg1) (ix2 0 h)

theorem sinks_apply (h : Fin 16) : V m c main_v15 (ix1 h) = sink m c h := by
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append,
    StableHlo.TRef.unary, StableHlo.TRef.binary, StableHlo.TRef.ternary]
  entry_read
  pointwise

theorem lt_word : ∀ j : Fin 4096, IntOp.cmpi CmpIPredicate.slt (BitVec.ofNat 32 j.val) 1024#32 = if j.val < 1024 then 1#1 else 0#1 := by
  decide +kernel

/-- The host's log2 e. -/
theorem log2e_host : Ideal.div 1 (Ideal.log (Ideal.ofBits FTy.f32 0x40000000#32)) = ((Softmax.base : ℝ) : EReal) := by
  have e : Ideal.ofBits FTy.f32 0x40000000#32 = ((2 : ℝ) : EReal) := by
    simp [Ideal.ofBits, Ideal.ieee, -EReal.coe_mul]
    norm_num
  have h2 : Real.log 2 ≠ 0 := (Real.log_pos (by norm_num)).ne'
  rw [e, Ideal.log_coe, if_neg (by norm_num), Ideal.div_coe h2, one_mul, one_div]
  rfl

theorem rows_apply (n : Fin 16512) (k : Fin 4096) :
    V m c main_v13 (ix2 n k) = key (X m c) (n.val + 128) k * (if k.val < 1024 then ((Softmax.base * (1 / 8) : ℝ) : EReal) else 1) := by
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append,
    StableHlo.TRef.unary, StableHlo.TRef.binary, StableHlo.TRef.ternary]
  entry_read
  simp only [StableHlo.TRef.toBuf, StableHlo.TRef.ofBuf, cast_eq]
  pointwise
  by_cases h : n.val < 112
  · rw [dif_pos h, Attn.key_out (by omega), zero_mul]
  · rw [dif_neg h, Attn.key_in (X := X m c) (i := ⟨n.val - 112, by omega⟩) (c' := k) (by omega) (by omega) (by dsimp only; omega) rfl,
      log2e_host, Attn.eighth, ← EReal.coe_mul, lt_word k]
    by_cases hk : k.val < 1024
    · rw [if_pos hk, if_pos hk]; rfl
    · rw [if_neg hk, if_neg hk]; rfl

end Cert.Kernel5Ideal.Attn
-- ==== Proof.AttnBias.lean ====
/- What the attention kernel's launch finds in its bias array: the host's line in parts, each part read at an entry. -/
module

public import proofs.«01_k».proof.Proof.AttnEntry
public import proofs.«01_k».proof.Proof.Gen.Kernel5Ideal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel5Ideal.Attn
open Cert.Kernel5Ideal Cert.Kernel5Ideal.Gen

variable (m : (ℓ : Loc nD τ sig) → Buf (Elt Ideal) ℓ) (c : Dev nD)

/-- One bias variant: the band where its lanes are live, `−∞` elsewhere, and the meta block's lanes. -/
def variant (lo hi : BitVec 32) (band : Vec Ideal S16x128x384 .f32) (near : Vec Ideal S1x128x384 .i1) (lane : Vec Ideal S1x384 .i32)
    (tail : Vec Ideal S16x128x128 .f32) : Vec Ideal S16x128x512 .f32 :=
  concatenate S16x128x512 2
    [⟨S16x128x384, select (broadcastInDim S16x128x384 ![0, 1, 2] bcast_S1x128x384_S16x128x384_0_1_2
        (andi near (broadcastInDim S1x128x384 ![0, 1, 2] bcast_S1x1x384_S1x128x384_0_1_2
          (broadcastInDim S1x1x384 ![1, 2] bcast_S1x384_S1x1x384_1_2
            (andi (cmpi .sge lane (broadcastInDim S1x384 ![] bcast_S_S1x384 (constantI S_ 32 lo)))
              (cmpi .slt lane (broadcastInDim S1x384 ![] bcast_S_S1x384 (constantI S_ 32 hi))))))))
      band (broadcastInDim S16x128x384 ![] bcast_S_S16x128x384 (constant (F := Ideal) S_ .f32 0xFF800000#32 : Vec Ideal S_ .f32))⟩, ⟨S16x128x128, tail⟩]
    concatenates_S16x128x384_S16x128x128_S16x128x512_d2

/-- The four variants, stacked. -/
def stacked (w0 w1 w2 w3 : Vec Ideal S16x128x512 .f32) : Vec Ideal S4x16x128x512 .f32 :=
  concatenate S4x16x128x512 0
    [⟨S1x16x128x512, broadcastInDim S1x16x128x512 ![1, 2, 3] bcast_S16x128x512_S1x16x128x512_1_2_3 w0⟩,
     ⟨S1x16x128x512, broadcastInDim S1x16x128x512 ![1, 2, 3] bcast_S16x128x512_S1x16x128x512_1_2_3 w1⟩,
     ⟨S1x16x128x512, broadcastInDim S1x16x128x512 ![1, 2, 3] bcast_S16x128x512_S1x16x128x512_1_2_3 w2⟩,
     ⟨S1x16x128x512, broadcastInDim S1x16x128x512 ![1, 2, 3] bcast_S16x128x512_S1x16x128x512_1_2_3 w3⟩]
    concatenates_S1x16x128x512_S1x16x128x512_S1x16x128x512_S1x16x128x512_S4x16x128x512_d0

theorem flat {α : Type*} (a0 a1 a2 a3 a4 a5 a6 a7 a8 a9 a10 a11 a12 : List α) :
    List.flatten [a0, a1, a2, a3, a4, a5, a6, a7, a8, a9, a10, a11, a12] = List.flatten [a0, a1, a2, a3, a4, a5, a6, a7, a8, a9, a10, a11] ++ a12 := by
  simp

theorem after_two (l₁ l₂ : List (HloOp τ sig (Elt Ideal))) : ∀ σ, StableHlo.after (l₁ ++ l₂) σ = StableHlo.after l₂ (StableHlo.after l₁ σ) := by
  induction l₁ with
  | nil => exact fun _ => rfl
  | cons op l ih => exact fun _ => ih _

/-- The contents before the host's last part. -/
def before :=
  StableHlo.after (List.flatten [hostOps0, hostOps0_1, hostOps0_2, hostOps0_3, hostOps0_4, hostOps0_5, hostOps0_6, hostOps0_7, hostOps0_8, hostOps0_9, hostOps0_10, hostOps0_11]) (fun b => m (c, b))

theorem V_eq (b : Ref sig .tc) : V m c b = StableHlo.after hostOps0_12 (before m c) b := by
  unfold V before
  rw [flat, after_two]

theorem nary_self {n : ℕ} (xs : Fin n → Ref sig .tc) (y : Ref sig .tc) (f : ((k : Fin n) → (xs k).ty.Contents (Elt Ideal)) → y.ty.Contents (Elt Ideal))
    (hxs hy) (F) (h : ∀ k, xs k ≠ y) :
    (StableHlo.nary (τ := τ) xs y f hxs hy).result F (Proc.devRef .tc y)
      = f (fun k => (StableHlo.nary (τ := τ) xs y f hxs hy).result F (Proc.devRef .tc (xs k))) := by
  rw [StableHlo.nary_result]
  exact congrArg f (funext fun k => (StableHlo.nary_result_ne y xs f hxs hy F (h k)).symm)

theorem join_eq : V m c main_v103 = concatenate S4x16x128x512 0
    [⟨S1x16x128x512, V m c main_v99⟩, ⟨S1x16x128x512, V m c main_v100⟩, ⟨S1x16x128x512, V m c main_v101⟩, ⟨S1x16x128x512, V m c main_v102⟩]
    concatenates_S1x16x128x512_S1x16x128x512_S1x16x128x512_S1x16x128x512_S4x16x128x512_d0 := by
  rw [V_eq m c main_v103, V_eq m c main_v99, V_eq m c main_v100, V_eq m c main_v101, V_eq m c main_v102]
  generalize before m c = σ
  dsimp only [hostOps0_12, StableHlo.after_cons, StableHlo.after_nil]
  refine (nary_self _ _ _ _ _ _ ?_).trans ?_
  · decide
  · rfl

theorem v99_eq : V m c main_v99 = broadcastInDim S1x16x128x512 ![1, 2, 3] bcast_S16x128x512_S1x16x128x512_1_2_3 (V m c main_v65) := by
  rw [V_eq m c main_v99, V_eq m c main_v65]
  generalize before m c = σ
  unfold hostOps0_12
  entry_read
  rfl

theorem v100_eq : V m c main_v100 = broadcastInDim S1x16x128x512 ![1, 2, 3] bcast_S16x128x512_S1x16x128x512_1_2_3 (V m c main_v76) := by
  rw [V_eq m c main_v100, V_eq m c main_v76]
  generalize before m c = σ
  unfold hostOps0_12
  entry_read
  rfl

theorem v101_eq : V m c main_v101 = broadcastInDim S1x16x128x512 ![1, 2, 3] bcast_S16x128x512_S1x16x128x512_1_2_3 (V m c main_v87) := by
  rw [V_eq m c main_v101, V_eq m c main_v87]
  generalize before m c = σ
  unfold hostOps0_12
  entry_read
  rfl

theorem v102_eq : V m c main_v102 = broadcastInDim S1x16x128x512 ![1, 2, 3] bcast_S16x128x512_S1x16x128x512_1_2_3 (V m c main_v98) := by
  rw [V_eq m c main_v102, V_eq m c main_v98]
  generalize before m c = σ
  unfold hostOps0_12
  entry_read
  rfl

theorem stack_eq : V m c main_v103 = stacked (V m c main_v65) (V m c main_v76) (V m c main_v87) (V m c main_v98) := by
  rw [join_eq, v99_eq, v100_eq, v101_eq, v102_eq]
  rfl

set_option maxHeartbeats 16000000 in
theorem v65_eq : V m c main_v65 = variant 256#32 384#32 (V m c main_v45) (V m c main_v48) (V m c main_v19) (V m c main_v54) := by
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append,
    StableHlo.TRef.unary, StableHlo.TRef.binary, StableHlo.TRef.ternary]
  entry_read
  rfl

set_option maxHeartbeats 16000000 in
theorem v76_eq : V m c main_v76 = variant 128#32 384#32 (V m c main_v45) (V m c main_v48) (V m c main_v19) (V m c main_v54) := by
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append,
    StableHlo.TRef.unary, StableHlo.TRef.binary, StableHlo.TRef.ternary]
  entry_read
  rfl

set_option maxHeartbeats 16000000 in
theorem v87_eq : V m c main_v87 = variant 0#32 384#32 (V m c main_v45) (V m c main_v48) (V m c main_v19) (V m c main_v54) := by
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append,
    StableHlo.TRef.unary, StableHlo.TRef.binary, StableHlo.TRef.ternary]
  entry_read
  rfl

set_option maxHeartbeats 16000000 in
theorem v98_eq : V m c main_v98 = variant 0#32 256#32 (V m c main_v45) (V m c main_v48) (V m c main_v19) (V m c main_v54) := by
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append,
    StableHlo.TRef.unary, StableHlo.TRef.binary, StableHlo.TRef.ternary]
  entry_read
  rfl

theorem lane_apply (j : Fin 384) : V m c main_v19 (ix2 0 j) = BitVec.ofNat 32 j.val := by
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append,
    StableHlo.TRef.unary, StableHlo.TRef.binary, StableHlo.TRef.ternary]
  entry_read
  pointwise

theorem meta_word : ∀ j : Fin 128, IntOp.cmpi CmpIPredicate.sge (BitVec.ofNat 32 j.val) 112#32 = if j.val < 112 then 0#1 else 1#1 := by
  decide +kernel

theorem near_apply (r : Fin 128) (j : Fin 384) : V m c main_v48 (ix3 0 r j) = IntOp.cmpi .sle (Cert.Attn.dist r.val j.val) 128#32 := by
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append,
    StableHlo.TRef.unary, StableHlo.TRef.binary, StableHlo.TRef.ternary]
  entry_read
  pointwise
  rfl

theorem tail_apply (h : Fin 16) (r : Fin 128) (j : Fin 128) : V m c main_v54 (ix3 h r j) = if j.val < 112 then (⊥ : EReal) else 0 := by
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append,
    StableHlo.TRef.unary, StableHlo.TRef.binary, StableHlo.TRef.ternary]
  entry_read
  simp only [StableHlo.TRef.toBuf, StableHlo.TRef.ofBuf, cast_eq]
  pointwise
  rw [meta_word j, Attn.neg_inf]
  by_cases h : j.val < 112
  · rw [if_pos h, if_pos h]; rfl
  · rw [if_neg h, if_neg h]; rfl

theorem band_apply (h : Fin 16) (r : Fin 128) (j : Fin 384) : V m c main_v45 (ix3 h r j) = -((Softmax.base : ℝ) : EReal) * Attn.slope h.val * FloatOps.sitofp (F := Ideal) .f32 (Attn.dist r.val j.val) := by
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append,
    StableHlo.TRef.unary, StableHlo.TRef.binary, StableHlo.TRef.ternary]
  entry_read
  pointwise
  rw [log2e_host]
  rfl

theorem variant_apply (lo hi : BitVec 32) (band : Vec Ideal S16x128x384 .f32) (near : Vec Ideal S1x128x384 .i1) (lane : Vec Ideal S1x384 .i32)
    (tail : Vec Ideal S16x128x128 .f32) (h : Fin 16) (r : Fin 128) (j : Fin 512) :
    variant lo hi band near lane tail (ix3 h r j) = if h_1 : j.val < 384 then
      Scalar.select
        (IntOp.andi (near (ix3 0 r ⟨j.val, h_1⟩))
          (IntOp.andi (IntOp.cmpi CmpIPredicate.sge (lane (ix2 0 ⟨j.val, h_1⟩)) lo)
            (IntOp.cmpi CmpIPredicate.slt (lane (ix2 0 ⟨j.val, h_1⟩)) hi)))
        (band (ix3 h r ⟨j.val, h_1⟩)) ⊥
    else tail (ix3 h r ⟨j.val - 384, by omega⟩) := by
  unfold variant
  pointwise
  rw [Attn.neg_inf]

theorem stacked_apply (w0 w1 w2 w3 : Vec Ideal S16x128x512 .f32) (v : Fin 4) (h : Fin 16) (r : Fin 128) (j : Fin 512) :
    stacked w0 w1 w2 w3 (ix4 v h r j) = if v.val = 0 then w0 (ix3 h r j)
      else if v.val = 1 then w1 (ix3 h r j) else if v.val = 2 then w2 (ix3 h r j) else w3 (ix3 h r j) := by
  unfold stacked
  pointwise
  fin_cases v <;> rfl

theorem lanes_word (lo hi : ℕ) (hlo : lo ≤ 384) (hhi : hi ≤ 384) (j : ℕ) (hj : j < 384) :
    IntOp.andi (IntOp.cmpi CmpIPredicate.sge (BitVec.ofNat 32 j) (BitVec.ofNat 32 lo)) (IntOp.cmpi CmpIPredicate.slt (BitVec.ofNat 32 j) (BitVec.ofNat 32 hi))
      = if lo ≤ j ∧ j < hi then 1#1 else 0#1 := by
  have e : ∀ n, n ≤ 384 → (BitVec.ofNat 32 n).toInt = n := fun n h => by
    rw [BitVec.toInt_eq_toNat_of_lt (by rw [BitVec.toNat_ofNat, Nat.mod_eq_of_lt (by omega)]; omega), BitVec.toNat_ofNat, Nat.mod_eq_of_lt (by omega)]
  have h1 : IntOp.cmpi CmpIPredicate.sge (BitVec.ofNat 32 j) (BitVec.ofNat 32 lo) = if lo ≤ j then 1#1 else 0#1 := by
    show BitVec.ofBool (BitVec.sle _ _) = _
    rw [BitVec.sle_eq_decide, e j (by omega), e lo hlo]
    by_cases h : lo ≤ j
    · rw [if_pos h, decide_eq_true (by omega)]; rfl
    · rw [if_neg h, decide_eq_false (by omega)]; rfl
  have h2 : IntOp.cmpi CmpIPredicate.slt (BitVec.ofNat 32 j) (BitVec.ofNat 32 hi) = if j < hi then 1#1 else 0#1 := by
    show BitVec.ofBool (BitVec.slt _ _) = _
    rw [BitVec.slt_eq_decide, e j (by omega), e hi hhi]
    by_cases h : j < hi
    · rw [if_pos h, decide_eq_true (by omega)]; rfl
    · rw [if_neg h, decide_eq_false (by omega)]; rfl
  rw [h1, h2]
  by_cases h : lo ≤ j <;> by_cases h' : j < hi <;> simp [h, h', IntOp.andi]

/-- A variant, at a lane. -/
theorem variant_at (lo hi : ℕ) (hlo : lo ≤ 384) (hhi : hi ≤ 384) (h : Fin 16) (r : Fin 128) (j : Fin 512) :
    variant (BitVec.ofNat 32 lo) (BitVec.ofNat 32 hi) (V m c main_v45) (V m c main_v48) (V m c main_v19) (V m c main_v54) (ix3 h r j)
      = if j.val < 384 then (if (r.val ≤ j.val ∧ j.val ≤ r.val + 256) ∧ lo ≤ j.val ∧ j.val < hi then
          -((Softmax.base : ℝ) : EReal) * Attn.slope h.val * FloatOps.sitofp (F := Ideal) .f32 (Attn.dist r.val j.val) else ⊥)
        else if j.val < 496 then ⊥ else 0 := by
  rw [variant_apply]
  by_cases hj : j.val < 384
  · rw [dif_pos hj, if_pos hj, near_apply, lane_apply, band_apply, lanes_word lo hi hlo hhi j.val hj, Attn.near_eq r.val j.val r.isLt hj]
    by_cases h1 : r.val ≤ j.val ∧ j.val ≤ r.val + 256
    · rw [if_pos h1]
      by_cases h2 : lo ≤ j.val ∧ j.val < hi
      · rw [if_pos h2, if_pos ⟨h1, h2⟩]; rfl
      · rw [if_neg h2, if_neg fun h => h2 h.2]; rfl
    · rw [if_neg h1, if_neg (show ¬((r.val ≤ j.val ∧ j.val ≤ r.val + 256) ∧ lo ≤ j.val ∧ j.val < hi) from fun h => h1 h.1)]
      by_cases h2 : lo ≤ j.val ∧ j.val < hi
      · rw [if_pos h2]; rfl
      · rw [if_neg h2]; rfl
  · rw [dif_neg hj, if_neg hj, tail_apply]
    exact if_congr (by dsimp only; omega) rfl rfl

/-- The variant a block takes holds the block's bias. -/
theorem bias_apply (b : Fin 129) (v : Fin 4) (hv : v.val = if b.val = 0 then 0 else if b.val = 1 then 1 else if b.val = 128 then 3 else 2)
    (h : Fin 16) (r : Fin 128) (j : Fin 512) : V m c main_v103 (ix4 v h r j) = Attn.bias b.val r.val h.val j.val := by
  have e : ∀ lo hi : ℕ, (j.val < 384 → ((lo ≤ j.val ∧ j.val < hi) ↔ 256 ≤ 128 * b.val + j.val ∧ 128 * b.val + j.val < 16640)) →
      (if j.val < 384 then (if (r.val ≤ j.val ∧ j.val ≤ r.val + 256) ∧ lo ≤ j.val ∧ j.val < hi then
          -((Softmax.base : ℝ) : EReal) * Attn.slope h.val * FloatOps.sitofp (F := Ideal) .f32 (Attn.dist r.val j.val) else ⊥)
        else if j.val < 496 then ⊥ else 0) = Attn.bias b.val r.val h.val j.val := fun lo hi hl => by
    unfold Attn.bias
    by_cases hj : j.val < 384
    · rw [if_pos hj, if_pos hj]
      exact if_congr (by unfold Attn.live; rw [hl hj]) rfl rfl
    · rw [if_neg hj, if_neg hj]
  have hb := b.isLt
  have hj' := j.isLt
  rw [stack_eq, stacked_apply]
  by_cases h0 : b.val = 0
  · rw [if_pos h0] at hv
    rw [if_pos hv, v65_eq]
    exact (variant_at m c 256 384 (by omega) (by omega) h r j).trans (e 256 384 fun _ => by omega)
  rw [if_neg h0] at hv
  by_cases h1 : b.val = 1
  · rw [if_pos h1] at hv
    rw [if_neg (by omega), if_pos hv, v76_eq]
    exact (variant_at m c 128 384 (by omega) (by omega) h r j).trans (e 128 384 fun _ => by omega)
  rw [if_neg h1] at hv
  by_cases h2 : b.val = 128
  · rw [if_pos h2] at hv
    rw [if_neg (by omega), if_neg (by omega), if_neg (by omega), v98_eq]
    exact (variant_at m c 0 256 (by omega) (by omega) h r j).trans (e 0 256 fun _ => by omega)
  · rw [if_neg h2] at hv
    rw [if_neg (by omega), if_neg (by omega), if_pos hv, v87_eq]
    exact (variant_at m c 0 384 (by omega) (by omega) h r j).trans (e 0 384 fun _ => by omega)

end Cert.Kernel5Ideal.Attn
-- ==== Proof.AttnWin.lean ====
/- The blocks a grid point of the attention kernel takes, and the slices of them that one store of its body reads, in terms of
   the arguments. -/
module

public import proofs.«01_k».proof.Proof.AttnBias

@[expose] public section

set_option maxRecDepth 16384

noncomputable section

open Idealize.ShloMosaic Idealize.ShloMosaic.TcCoe Idealize.SL.Sem

namespace Cert.Kernel5Ideal.Attn
open Cert.Kernel5Ideal Cert.Kernel5Ideal.Gen
open Cert.Attn (key)

variable (m : (ℓ : Loc nD τ sig) → Buf (Elt Ideal) ℓ) (c : Dev nD)

/-- Which bias variant block `b` takes. -/
abbrev which (b : ℕ) : ℕ := if b = 0 then 0 else if b = 1 then 1 else if b = 128 then 3 else 2

theorem idx0 : ∀ t : Fin cfg0.N, win0_0.index t = ![0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![min 128 (3 * t.val - 1), 4] := (by decide +kernel : ∀ t : Fin grid0.N, _)
theorem idx3 : ∀ t : Fin cfg0.N, win0_3.index t = ![min 128 (3 * t.val + 1 - 1), 4] := (by decide +kernel : ∀ t : Fin grid0.N, _)
theorem idx4 : ∀ t : Fin cfg0.N, win0_4.index t = ![min 128 (3 * t.val + 2 - 1), 4] := (by decide +kernel : ∀ t : Fin grid0.N, _)
theorem idx5 : ∀ t : Fin cfg0.N, win0_5.index t = ![min 128 (3 * t.val + 3 - 1), 4] := (by decide +kernel : ∀ t : Fin grid0.N, _)
theorem idx6 : ∀ t : Fin cfg0.N, win0_6.index t = ![min 128 (3 * t.val + 4 - 1), 4] := (by decide +kernel : ∀ t : Fin grid0.N, _)
theorem idx7 : ∀ t : Fin cfg0.N, win0_7.index t = ![0, 4] := (by decide +kernel : ∀ t : Fin grid0.N, _)
theorem idx8 : ∀ t : Fin cfg0.N, win0_8.index t = ![min 128 (3 * t.val - 1), 5] := (by decide +kernel : ∀ t : Fin grid0.N, _)
theorem idx9 : ∀ t : Fin cfg0.N, win0_9.index t = ![min 128 (3 * t.val + 1 - 1), 5] := (by decide +kernel : ∀ t : Fin grid0.N, _)
theorem idx10 : ∀ t : Fin cfg0.N, win0_10.index t = ![min 128 (3 * t.val + 2 - 1), 5] := (by decide +kernel : ∀ t : Fin grid0.N, _)
theorem idx11 : ∀ t : Fin cfg0.N, win0_11.index t = ![min 128 (3 * t.val + 3 - 1), 5] := (by decide +kernel : ∀ t : Fin grid0.N, _)
theorem idx12 : ∀ t : Fin cfg0.N, win0_12.index t = ![min 128 (3 * t.val + 4 - 1), 5] := (by decide +kernel : ∀ t : Fin grid0.N, _)
theorem idx13 : ∀ t : Fin cfg0.N, win0_13.index t = ![0, 5] := (by decide +kernel : ∀ t : Fin grid0.N, _)
theorem idx14 : ∀ t : Fin cfg0.N, win0_14.index t = ![which (3 * t.val + 0), 0, 0, 0] := (by decide +kernel : ∀ t : Fin grid0.N, _)
theorem idx15 : ∀ t : Fin cfg0.N, win0_15.index t = ![which (3 * t.val + 1), 0, 0, 0] := (by decide +kernel : ∀ t : Fin grid0.N, _)
theorem idx16 : ∀ t : Fin cfg0.N, win0_16.index t = ![which (3 * t.val + 2), 0, 0, 0] := (by decide +kernel : ∀ t : Fin grid0.N, _)
theorem idx17 : ∀ t : Fin cfg0.N, win0_17.index t = ![t.val, 0] := (by decide +kernel : ∀ t : Fin grid0.N, _)

variable (t : Fin cfg0.N)

theorem t_lt (t : Fin cfg0.N) : t.val < 43 := t.isLt

/-- The sinks' block. -/
theorem sinks_block (h : Fin 16) : iblk m c 0 t (ix1 h) = sink m c h := by
  have e := idx0 t
  rw [← sinks_apply m c]
  blk_point [iblk, e]

/-- The query block. -/
theorem queries_block (r : Fin 384) (k : Fin 1024) :
    iblk m c 1 t (ix2 r k) = key (X m c) (384 * t.val + r.val + 128) ⟨k.val, by omega⟩ * ((Softmax.base * (1 / 8) : ℝ) : EReal) := by
  have e := idx1 t
  have ht := t_lt t
  have h := rows_apply m c ⟨384 * t.val + r.val, by omega⟩ ⟨k.val, by omega⟩
  rw [if_pos (show k.val < 1024 from k.isLt)] at h
  rw [← h]
  blk_point [iblk, e]

/-- A key or value block: row `r` of block `n` of the padded rows, 256 columns from `o`. -/
def IsRows (o n : ℕ) (x : Vec Ideal S128x256 .bf16) : Prop :=
  ∀ (r : Fin 128) (k : Fin 256) (h : o + k.val < 4096), x (ix2 r k) = key (X m c) (128 * n + r.val + 128) ⟨o + k.val, h⟩

/-- Rows of the padded array, right of the queries. -/
theorem rows_right (n : Fin 16512) (k : Fin 4096) (h : ¬k.val < 1024) : V m c main_v13 (ix2 n k) = key (X m c) (n.val + 128) k := by
  rw [rows_apply, if_neg h, mul_one]

/-- Block `n` of the padded rows, 256 columns from `256 q`, whichever the index map. -/
theorem rows_of (tr : grid0.Coords → Fin 2 → ℕ) (reads : Fin grid0.rank → Bool) (nbuf : ℕ) (stage : Fin nbuf → Memref sig .tc .vmem S128x256 .bf16)
    (sem : Fin nbuf → DmaSem sig) (hrank hreads hinb hnbuf harr hwx hstage) (t : Fin grid0.N) (n q : ℕ) (hn : n ≤ 128) (hq : 4 ≤ q)
    (e : (Pipeline.Window.ofSpec (Memref.whole main_v13) S128x256.size tr reads false false nbuf stage sem hrank hreads hinb hnbuf harr hwx hstage).index t
      = ![n, q]) (o : ℕ) (ho : o = 256 * q) :
    IsRows m c o n (((Pipeline.Window.ofSpec (Memref.whole main_v13) S128x256.size tr reads false false nbuf stage sem hrank hreads hinb hnbuf harr hwx
      hstage).blk t).view.read (Elt Ideal) (V m c main_v13)) := fun r k h => by
  have h0 : ((Pipeline.Window.ofSpec (Memref.whole main_v13) S128x256.size tr reads false false nbuf stage sem hrank hreads hinb hnbuf harr hwx
      hstage).blk t).view.emb (ix2 r k) = ix2 ⟨128 * n + r.val, by omega⟩ ⟨o + k.val, h⟩ := by
    funext a
    apply Fin.ext
    refine (Pipeline.Window.rect_emb_val (Pipeline.Window.ofSpec (Memref.whole main_v13) S128x256.size tr reads false false nbuf stage sem hrank hreads hinb hnbuf harr hwx
      hstage) t (ix2 r k) a).trans ?_
    rw [e]
    match a with
    | ⟨0, _⟩ => exact congrArg (· + r.val) (Nat.mul_comm n 128)
    | ⟨1, _⟩ => exact congrArg (· + k.val) ((Nat.mul_comm q 256).trans ho.symm)
  exact (congrArg (V m c main_v13) h0).trans (rows_right m c ⟨128 * n + r.val, by omega⟩ ⟨o + k.val, h⟩ (by dsimp only; omega))

theorem rows2 : IsRows m c 1024 (min 128 (3 * t.val - 1)) (iblk m c 2 t) :=
  rows_of m c cc0_transform_2 reads0_2 2 stage0_2 sem0_2 hrank0 hreads0_2 hinb0_2 nbuf0_2 (Memref.isWhole_whole _) hwx0_2 hstage0_2 t _ _
    (by have ht := t_lt t; omega) (by omega) (idx2 t) _ rfl

theorem rows3 : IsRows m c 1024 (min 128 (3 * t.val + 1 - 1)) (iblk m c 3 t) :=
  rows_of m c cc0_transform_3 reads0_3 2 stage0_3 sem0_3 hrank0 hreads0_3 hinb0_3 nbuf0_3 (Memref.isWhole_whole _) hwx0_3 hstage0_3 t _ _
    (by have ht := t_lt t; omega) (by omega) (idx3 t) _ rfl

theorem rows4 : IsRows m c 1024 (min 128 (3 * t.val + 2 - 1)) (iblk m c 4 t) :=
  rows_of m c cc0_transform_4 reads0_4 2 stage0_4 sem0_4 hrank0 hreads0_4 hinb0_4 nbuf0_4 (Memref.isWhole_whole _) hwx0_4 hstage0_4 t _ _
    (by have ht := t_lt t; omega) (by omega) (idx4 t) _ rfl

theorem rows5 : IsRows m c 1024 (min 128 (3 * t.val + 3 - 1)) (iblk m c 5 t) :=
  rows_of m c cc0_transform_5 reads0_5 2 stage0_5 sem0_5 hrank0 hreads0_5 hinb0_5 nbuf0_5 (Memref.isWhole_whole _) hwx0_5 hstage0_5 t _ _
    (by have ht := t_lt t; omega) (by omega) (idx5 t) _ rfl

theorem rows6 : IsRows m c 1024 (min 128 (3 * t.val + 4 - 1)) (iblk m c 6 t) :=
  rows_of m c cc0_transform_6 reads0_6 2 stage0_6 sem0_6 hrank0 hreads0_6 hinb0_6 nbuf0_6 (Memref.isWhole_whole _) hwx0_6 hstage0_6 t _ _
    (by have ht := t_lt t; omega) (by omega) (idx6 t) _ rfl

theorem rows7 : IsRows m c 1024 0 (iblk m c 7 t) :=
  rows_of m c cc0_transform_7 reads0_7 1 stage0_7 sem0_7 hrank0 hreads0_7 hinb0_7 nbuf0_7 (Memref.isWhole_whole _) hwx0_7 hstage0_7 t _ _
    (by have ht := t_lt t; omega) (by omega) (idx7 t) _ rfl

theorem rows8 : IsRows m c 1280 (min 128 (3 * t.val - 1)) (iblk m c 8 t) :=
  rows_of m c cc0_transform_8 reads0_8 2 stage0_8 sem0_8 hrank0 hreads0_8 hinb0_8 nbuf0_8 (Memref.isWhole_whole _) hwx0_8 hstage0_8 t _ _
    (by have ht := t_lt t; omega) (by omega) (idx8 t) _ rfl

theorem rows9 : IsRows m c 1280 (min 128 (3 * t.val + 1 - 1)) (iblk m c 9 t) :=
  rows_of m c cc0_transform_9 reads0_9 2 stage0_9 sem0_9 hrank0 hreads0_9 hinb0_9 nbuf0_9 (Memref.isWhole_whole _) hwx0_9 hstage0_9 t _ _
    (by have ht := t_lt t; omega) (by omega) (idx9 t) _ rfl

theorem rows10 : IsRows m c 1280 (min 128 (3 * t.val + 2 - 1)) (iblk m c 10 t) :=
  rows_of m c cc0_transform_10 reads0_10 2 stage0_10 sem0_10 hrank0 hreads0_10 hinb0_10 nbuf0_10 (Memref.isWhole_whole _) hwx0_10 hstage0_10 t _ _
    (by have ht := t_lt t; omega) (by omega) (idx10 t) _ rfl

theorem rows11 : IsRows m c 1280 (min 128 (3 * t.val + 3 - 1)) (iblk m c 11 t) :=
  rows_of m c cc0_transform_11 reads0_11 2 stage0_11 sem0_11 hrank0 hreads0_11 hinb0_11 nbuf0_11 (Memref.isWhole_whole _) hwx0_11 hstage0_11 t _ _
    (by have ht := t_lt t; omega) (by omega) (idx11 t) _ rfl

theorem rows12 : IsRows m c 1280 (min 128 (3 * t.val + 4 - 1)) (iblk m c 12 t) :=
  rows_of m c cc0_transform_12 reads0_12 2 stage0_12 sem0_12 hrank0 hreads0_12 hinb0_12 nbuf0_12 (Memref.isWhole_whole _) hwx0_12 hstage0_12 t _ _
    (by have ht := t_lt t; omega) (by omega) (idx12 t) _ rfl

theorem rows13 : IsRows m c 1280 0 (iblk m c 13 t) :=
  rows_of m c cc0_transform_13 reads0_13 1 stage0_13 sem0_13 hrank0 hreads0_13 hinb0_13 nbuf0_13 (Memref.isWhole_whole _) hwx0_13 hstage0_13 t _ _
    (by have ht := t_lt t; omega) (by omega) (idx13 t) _ rfl

theorem bias14 (h : Fin 16) (r : Fin 128) (j : Fin 512) : iblk m c 14 t (ix4 0 h r j) = Attn.bias (3 * t.val + 0) r.val h.val j.val := by
  have e := idx14 t
  have ht := t_lt t
  have hw : which (3 * t.val + 0) < 4 := by unfold which; split_ifs <;> omega
  rw [← bias_apply m c ⟨3 * t.val + 0, by omega⟩ ⟨which (3 * t.val + 0), hw⟩ rfl h r j]
  blk_point [iblk, e]

theorem bias15 (h : Fin 16) (r : Fin 128) (j : Fin 512) : iblk m c 15 t (ix4 0 h r j) = Attn.bias (3 * t.val + 1) r.val h.val j.val := by
  have e := idx15 t
  have ht := t_lt t
  have hw : which (3 * t.val + 1) < 4 := by unfold which; split_ifs <;> omega
  rw [← bias_apply m c ⟨3 * t.val + 1, by omega⟩ ⟨which (3 * t.val + 1), hw⟩ rfl h r j]
  blk_point [iblk, e]

theorem bias16 (h : Fin 16) (r : Fin 128) (j : Fin 512) : iblk m c 16 t (ix4 0 h r j) = Attn.bias (3 * t.val + 2) r.val h.val j.val := by
  have e := idx16 t
  have ht := t_lt t
  have hw : which (3 * t.val + 2) < 4 := by unfold which; split_ifs <;> omega
  rw [← bias_apply m c ⟨3 * t.val + 2, by omega⟩ ⟨which (3 * t.val + 2), hw⟩ rfl h r j]
  blk_point [iblk, e]

end Cert.Kernel5Ideal.Attn
-- ==== Proof.AttnPlace.lean ====
/- What one store of the attention kernel's body reads, in terms of the arguments, and that the item it stores is the
   attention of two heads at a block of rows. -/
module

public import proofs.«01_k».proof.Proof.AttnWin
public import Idealize.ShloMosaic.Lib.Pipeline.ValueKit.Tiles

@[expose] public section

set_option maxRecDepth 16384

noncomputable section

open Idealize.ShloMosaic Idealize.ShloMosaic.TcCoe Idealize.SL.Sem

namespace Cert.Kernel5Ideal.Attn
open Cert.Kernel5Ideal Cert.Kernel5Ideal.Gen
open Cert.Attn (key)

variable (m : (ℓ : Loc nD τ sig) → Buf (Elt Ideal) ℓ) (c : Dev nD)

/-- Key-value head `g`'s keys or values (columns from `o`) at the `i`-th third of block `b`'s band, where that band has token rows. -/
def IsBand (o g b i : ℕ) (x : Vec Ideal S128x64 .bf16) : Prop :=
  ∀ (s : Fin 128) (d : Fin 64) (h : o + (64 * g + d.val) < 4096), 256 ≤ 128 * b + (128 * i + s.val) → 128 * b + (128 * i + s.val) < 16640 →
    x (ix2 s d) = key (X m c) (128 * b + (128 * i + s.val)) ⟨o + (64 * g + d.val), h⟩

/-- Key-value head `g`'s keys or values at the first block: a row of zeros at its head, the meta rows at its foot. -/
def IsMeta (o g : ℕ) (x : Vec Ideal S128x64 .bf16) : Prop :=
  ∀ (d : Fin 64) (h : o + (64 * g + d.val) < 4096), (∀ s : Fin 16, x (ix2 ⟨112 + s.val, by omega⟩ d) = X m c ⟨s.val, by omega⟩ ⟨o + (64 * g + d.val), h⟩)
    ∧ x (ix2 0 d) = 0

/-- Head `h`'s queries at block `b`. -/
def IsQueries (b h : ℕ) (x : Vec Ideal S128x64 .bf16) : Prop :=
  ∀ (r : Fin 128) (d : Fin 64) (hd : 64 * h + d.val < 4096),
    x (ix2 r d) = key (X m c) (128 * b + r.val + 128) ⟨64 * h + d.val, hd⟩ * ((Softmax.base * (1 / 8) : ℝ) : EReal)

/-- Head `h`'s bias at block `b`. -/
def IsBias (b h : ℕ) (x : Vec Ideal S1x1x128x512 .f32) : Prop :=
  ∀ (r : Fin 128) (j : Fin 512), x (ix4 0 0 r j) = Attn.bias b r.val h j.val

variable {m c}

theorem slice_at (x : Vec Ideal S128x256 .bf16) (off : ℕ) (inb) (s : Fin 128) (d : Fin 64) (h : off + d.val < 256) :
    View.ld x (Rect.unit (s := S128x256) ![0, off] ![128, 64] inb) (ix2 s d) = x (ix2 s ⟨off + d.val, h⟩) :=
  View.ld_unit_apply_of x _ _ _ (ix2 s d) _ fun a => by
    match a with
    | ⟨0, _⟩ => exact (Nat.zero_add _).symm
    | ⟨1, _⟩ => rfl

theorem band_of {o n : ℕ} {x : Vec Ideal S128x256 .bf16} (hx : IsRows m c o n x) (g off : ℕ) (hg : g < 4) (ho : off = 64 * g) (inb) (b i : ℕ)
    (hn : 1 ≤ b + i → b + i ≤ 129 → n + 1 = b + i) : IsBand m c o g b i (View.ld x (Rect.unit (s := S128x256) ![0, off] ![128, 64] inb)) := fun s d h h1 h2 => by
  have e := hn (by omega) (by omega)
  subst ho
  rw [slice_at x _ inb s d (by omega), hx s ⟨64 * g + d.val, by omega⟩ h]
  exact congrArg (fun k => key (X m c) k _) (by omega)

theorem meta_of {o : ℕ} {x : Vec Ideal S128x256 .bf16} (hx : IsRows m c o 0 x) (g off : ℕ) (hg : g < 4) (ho : off = 64 * g) (inb) :
    IsMeta m c o g (View.ld x (Rect.unit (s := S128x256) ![0, off] ![128, 64] inb)) := fun d h => by
  subst ho
  refine ⟨fun s => ?_, ?_⟩
  · rw [slice_at x _ inb _ d (by omega), hx _ ⟨64 * g + d.val, by omega⟩ h]
    exact Attn.key_in (i := ⟨s.val, by omega⟩) (by dsimp only; omega) (by dsimp only; omega) (by dsimp only; omega) rfl
  · rw [slice_at x _ inb _ d (by omega), hx _ ⟨64 * g + d.val, by omega⟩ h]
    exact Attn.key_out (by show ¬(240 ≤ 128 * 0 + 0 + 128 ∧ 128 * 0 + 0 + 128 < 16640); omega)

theorem queries_of (t : Fin cfg0.N) (j ro h off : ℕ) (hj : j < 3) (hro : ro = 128 * j) (hh : h < 16) (ho : off = 64 * h) (inb inb') :
    IsQueries m c (3 * t.val + j) h (View.ld (View.ld (iblk m c 1 t) (Rect.unit (s := S384x1024) ![ro, 0] ![128, 1024] inb))
      (Rect.unit (s := S128x1024) ![0, off] ![128, 64] inb')) := fun r d hd => by
  subst hro ho
  have e1 := View.ld_unit_apply_of (View.ld (iblk m c 1 t) (Rect.unit (s := S384x1024) ![128 * j, 0] ![128, 1024] inb)) ![0, 64 * h] ![128, 64] inb' (ix2 r d)
    (ix2 r ⟨64 * h + d.val, by omega⟩) fun a => by
      match a with
      | ⟨0, _⟩ => exact (Nat.zero_add _).symm
      | ⟨1, _⟩ => rfl
  have e2 := View.ld_unit_apply_of (iblk m c 1 t) ![128 * j, 0] ![128, 1024] inb (ix2 r ⟨64 * h + d.val, by omega⟩)
    (ix2 ⟨128 * j + r.val, by omega⟩ ⟨64 * h + d.val, by omega⟩) fun a => by
      match a with
      | ⟨0, _⟩ => rfl
      | ⟨1, _⟩ => exact (Nat.zero_add _).symm
  refine e1.trans (e2.trans ((queries_block m c t _ _).trans ?_))
  exact congrArg (fun k => key (X m c) k _ * _) (by dsimp only; omega)

theorem bias_of (b : ℕ) (x : Vec Ideal S1x16x128x512 .f32) (hx : ∀ (h : Fin 16) (r : Fin 128) (j : Fin 512), x (ix4 0 h r j) = Attn.bias b r.val h.val j.val)
    (h : ℕ) (hh : h < 16) (inb) : IsBias b h (View.ld x (Rect.unit (s := S1x16x128x512) ![0, h, 0, 0] ![1, 1, 128, 512] inb)) := fun r j => by
  refine (View.ld_unit_apply_of x ![0, h, 0, 0] ![1, 1, 128, 512] inb (ix4 0 0 r j) (ix4 0 ⟨h, hh⟩ r j) fun a => ?_).trans (hx ⟨h, hh⟩ r j)
  match a with
  | ⟨0, _⟩ => rfl
  | ⟨1, _⟩ => rfl
  | ⟨2, _⟩ => exact (Nat.zero_add _).symm
  | ⟨3, _⟩ => exact (Nat.zero_add _).symm

theorem one_pos : 0 < S1.numel := by rw [numel1_S1]; exact Nat.one_pos

theorem sink_of (t : Fin cfg0.N) (h : ℕ) (hh : h < 16) (inb) :
    View.ld (iblk m c 0 t) (Rect.unit (s := S16) ![h] ![1] inb) (Shape.Idx.first (s := S1) one_pos) = sink m c ⟨h, hh⟩ := by
  refine (View.ld_unit_apply_of (iblk m c 0 t) ![h] ![1] inb (Shape.Idx.first (s := S1) one_pos) (ix1 ⟨h, hh⟩) fun a => ?_).trans (sinks_block m c t ⟨h, hh⟩)
  match a with
  | ⟨0, _⟩ => rfl

/-- The lanes of a head, from its slices. -/
theorem attend_of (F : Attn.Finite (X m c) (sink m c)) (b : Fin 129) (h : Fin 16) {k0 k1 k2 k3 v0 v1 v2 v3 q : Vec Ideal S128x64 .bf16}
    {w : Vec Ideal S1x1x128x512 .f32} {s : EReal}
    (hk0 : IsBand m c 1024 (h.val / 4) b.val 0 k0) (hk1 : IsBand m c 1024 (h.val / 4) b.val 1 k1) (hk2 : IsBand m c 1024 (h.val / 4) b.val 2 k2)
    (hk3 : IsMeta m c 1024 (h.val / 4) k3)
    (hv0 : IsBand m c 1280 (h.val / 4) b.val 0 v0) (hv1 : IsBand m c 1280 (h.val / 4) b.val 1 v1) (hv2 : IsBand m c 1280 (h.val / 4) b.val 2 v2)
    (hv3 : IsMeta m c 1280 (h.val / 4) v3)
    (hq : IsQueries m c b.val h.val q) (hw : IsBias b.val h.val w) (hs : s = sink m c h) (r : Fin 128) (d : Fin 64) :
    Softmax.attend (lanes (stack k0 k1 k2 k3) q w s r) (fun j => stack v0 v1 v2 v3 j d)
      = Attn.entry (X m c) (sink m c) ⟨128 * b.val + r.val, by omega⟩ ⟨64 * h.val + d.val, by omega⟩ := by
  have hst : ∀ (o : ℕ) (ho : o ≤ 1280) (a0 a1 a2 a3 : Vec Ideal S128x64 .bf16), IsBand m c o (h.val / 4) b.val 0 a0 → IsBand m c o (h.val / 4) b.val 1 a1 →
      IsBand m c o (h.val / 4) b.val 2 a2 → ∀ j : Fin 512, j.val < 384 → 256 ≤ 128 * b.val + j.val → 128 * b.val + j.val < 16640 → ∀ d : Fin 64,
      stack a0 a1 a2 a3 j d = key (X m c) (128 * b.val + j.val) ⟨o + (64 * (h.val / 4) + d.val), by omega⟩ := by
    intro o ho a0 a1 a2 a3 h0 h1 h2 j hj l1 l2 d
    unfold stack
    by_cases j1 : j.val < 128
    · rw [dif_pos j1, h0 ⟨j.val, j1⟩ d (by omega) (by dsimp only; omega) (by dsimp only; omega)]
      exact congrArg (fun k => key (X m c) k _) (by dsimp only; omega)
    by_cases j2 : j.val < 256
    · rw [dif_neg j1, dif_pos j2, h1 ⟨j.val - 128, by omega⟩ d (by omega) (by dsimp only; omega) (by dsimp only; omega)]
      exact congrArg (fun k => key (X m c) k _) (by dsimp only; omega)
    · rw [dif_neg j1, dif_neg j2, dif_pos hj, h2 ⟨j.val - 256, by omega⟩ d (by omega) (by dsimp only; omega) (by dsimp only; omega)]
      exact congrArg (fun k => key (X m c) k _) (by dsimp only; omega)
  have hsm : ∀ (o : ℕ) (ho : o ≤ 1280) (a0 a1 a2 a3 : Vec Ideal S128x64 .bf16), IsMeta m c o (h.val / 4) a3 → ∀ (j : Fin 16) (d : Fin 64),
      stack a0 a1 a2 a3 ⟨496 + j.val, by omega⟩ d = X m c ⟨j.val, by omega⟩ ⟨o + (64 * (h.val / 4) + d.val), by omega⟩ := by
    intro o ho a0 a1 a2 a3 h3 j d
    unfold stack
    rw [dif_neg (by dsimp only; omega), dif_neg (by dsimp only; omega), dif_neg (by dsimp only; omega), ← (h3 d (by omega)).1 j]
    exact congrArg (fun i : Fin 128 => a3 (ix2 i d)) (Fin.ext (by dsimp only; omega))
  refine (Attn.row_eq F b r h d (lanes (stack k0 k1 k2 k3) q w s r) (fun j => stack v0 v1 v2 v3 j d) (stack k0 k1 k2 k3) (fun d => q (ix2 r d))
    (fun j => ?_) (fun d => hq r d (by omega)) (hst 1024 (by omega) k0 k1 k2 k3 hk0 hk1 hk2) (hsm 1024 (by omega) k0 k1 k2 k3 hk3)
    (fun j hj l1 l2 => hst 1280 (by omega) v0 v1 v2 v3 hv0 hv1 hv2 j hj l1 l2 d) ?_ (fun j => hsm 1280 (by omega) v0 v1 v2 v3 hv3 j d)).trans ?_
  · unfold lanes
    rw [hw r j, hs]
  · unfold stack
    rw [dif_neg (by dsimp only; omega), dif_neg (by dsimp only; omega), dif_neg (by dsimp only; omega)]
    exact (hv3 d (by omega)).2
  · unfold Attn.entry
    simp only [show (128 * b.val + r.val) / 128 = b.val by omega, show (128 * b.val + r.val) % 128 = r.val by omega,
      show (64 * h.val + d.val) / 64 = h.val by omega, show (64 * h.val + d.val) % 64 = d.val by omega,
      show (64 * h.val + d.val) / 256 = h.val / 4 by omega]

/-- One store: two heads at a block of rows. -/
theorem item_entry (F : Attn.Finite (X m c) (sink m c)) (b : ℕ) (hb : b < 129) (p ha hb' g : ℕ) (hp : p < 8) (ea : ha = 2 * p) (eb : hb' = 2 * p + 1) (eg : g = p / 2)
    {k0 k1 k2 k3 v0 v1 v2 v3 qa qb : Vec Ideal S128x64 .bf16} {wa wb : Vec Ideal S1x1x128x512 .f32} {sa sb : EReal}
    (hk0 : IsBand m c 1024 g b 0 k0) (hk1 : IsBand m c 1024 g b 1 k1) (hk2 : IsBand m c 1024 g b 2 k2) (hk3 : IsMeta m c 1024 g k3)
    (hv0 : IsBand m c 1280 g b 0 v0) (hv1 : IsBand m c 1280 g b 1 v1) (hv2 : IsBand m c 1280 g b 2 v2) (hv3 : IsMeta m c 1280 g v3)
    (hqa : IsQueries m c b ha qa) (hqb : IsQueries m c b hb' qb) (hwa : IsBias b ha wa) (hwb : IsBias b hb' wb)
    (hsa : sa = sink m c ⟨ha, by omega⟩) (hsb : sb = sink m c ⟨hb', by omega⟩)
    (x : S128x128.Idx) (n : Fin 16512) (l : Fin 1024) (hn : n.val = 128 * b + (x 0).val) (hl : l.val = 128 * p + (x 1).val) :
    item k0 k1 k2 k3 v0 v1 v2 v3 qa qb wa wb sa sb x = Attn.entry (X m c) (sink m c) n l := by
  subst ea eb eg
  have e1 : (2 * p) / 4 = p / 2 := by omega
  have e2 : (2 * p + 1) / 4 = p / 2 := by omega
  idx_vars x
  rename' x0 => r, x1 => j
  have hr := r.isLt
  have hj := j.isLt
  have en : n = ⟨128 * b + r.val, by omega⟩ := Fin.ext hn
  by_cases h : j.val < 64
  · have el : l = ⟨64 * (2 * p) + j.val, by omega⟩ := Fin.ext (hl.trans (by show 128 * p + j.val = 64 * (2 * p) + j.val; omega))
    rw [en, el]
    refine (item_a k0 k1 k2 k3 v0 v1 v2 v3 qa qb wa wb sa sb r ⟨j.val, h⟩).trans ?_
    rw [← e1] at hk0 hk1 hk2 hk3 hv0 hv1 hv2 hv3
    exact attend_of F ⟨b, hb⟩ ⟨2 * p, by omega⟩ hk0 hk1 hk2 hk3 hv0 hv1 hv2 hv3 hqa hwa hsa r ⟨j.val, h⟩
  · have el : l = ⟨64 * (2 * p + 1) + (j.val - 64), by omega⟩ := Fin.ext (hl.trans (by show 128 * p + j.val = 64 * (2 * p + 1) + (j.val - 64); omega))
    have ej : j = ⟨64 + (j.val - 64), by omega⟩ := Fin.ext (by dsimp only; omega)
    rw [en, el]
    refine (congrArg (fun j => item k0 k1 k2 k3 v0 v1 v2 v3 qa qb wa wb sa sb (ix2 r j)) ej).trans
      ((item_b k0 k1 k2 k3 v0 v1 v2 v3 qa qb wa wb sa sb r ⟨j.val - 64, by omega⟩).trans ?_)
    rw [← e2] at hk0 hk1 hk2 hk3 hv0 hv1 hv2 hv3
    exact attend_of F ⟨b, hb⟩ ⟨2 * p + 1, by omega⟩ hk0 hk1 hk2 hk3 hv0 hv1 hv2 hv3 hqb hwb hsb r ⟨j.val - 64, by omega⟩

end Cert.Kernel5Ideal.Attn
-- ==== Proof.AttnBlock.lean ====
/- The attention kernel's result. Each of the 24 stores of its body holds an item: at row block `j` of the three a point has, and
   column block `p` of eight, the attention of heads `2 p` and `2 p + 1`. -/
module

public import proofs.«01_k».proof.Proof.AttnPlace

@[expose] public section

set_option maxRecDepth 16384

noncomputable section

open Idealize.ShloMosaic Idealize.ShloMosaic.TcCoe Idealize.SL.Sem

namespace Cert.Kernel5Ideal.Attn
open Cert.Kernel5Ideal Cert.Kernel5Ideal.Gen

/-- A load of a slice, of whole contents, is a load of a load. -/
theorem readAt_within {κ : Kind} {sp : Space} {s : Shape} {e : EltTy} (M : Memref sig κ sp s e) (hM : M.IsWhole) (x : s.Idx → Elt Ideal e)
    (r : Rect s) (r2 : Rect r.shape) (h0 : ∀ a, r.stride a = 1) :
    M.view.readAt (Elt Ideal) (r.withinL r2.toLoadRect h0) (hM.unread x) = View.ld (View.ld x r) r2 := by
  funext y
  show M.view.read (Elt Ideal) (hM.unread x) ((r.withinL _ h0).idx y) = _
  rw [hM.read_unread]
  exact congrArg x (Rect.idx_withinL _ _ h0 y)

theorem at_row (t j q a b : ℕ) (hq : q = 128 * j) (h : a = q + b) : 384 * t + a = 128 * (3 * t + j) + b := by omega

theorem at_row0 (t a b : ℕ) (h : a = b) : 384 * t + a = 128 * (3 * t + 0) + b := by omega

theorem at_col (p q a b : ℕ) (hq : q = 128 * p) (h : a = q + b) : a = 128 * p + b := by omega

theorem at_col0 (a b : ℕ) (h : a = b) : a = 128 * 0 + b := by omega

variable (m : (ℓ : Loc nD τ sig) → Buf (Elt Ideal) ℓ) (c : Dev nD) (t : Fin cfg0.N)

set_option maxHeartbeats 8000000 in
/-- A block of the result, entry by entry. -/
theorem block (F : Attn.Finite (X m c) (sink m c)) (V : S384x1024.Idx → EReal)
    (hV : ∀ y, V y = Attn.entry (X m c) (sink m c) ⟨384 * t.val + (y 0).val, by have := (y 0).isLt; dsimp at this; have := t_lt t; omega⟩ (y 1))
    (y : S384x1024.Idx) : outsAt0 m c t y = V y := by
  have ht := t_lt t
  unfold outsAt0 out0_A_17
  rw [View.read_writes_eq_canon _ _ _ (cover0_A_17 c _ _ _ _ _ _ _ _ _ _ _ _ _ _ _ _ _ _ _ _ _ _ _ _ _ _ _ _ _ _ _ _ _ _ _ _ _ _ _ _ _ _ _ _ _ _ _ _ _ _ _ _ _ _ )]
  unfold kernelRun0_A
  dsimp only
  sl_unfold_words
  simp only [View.readAt_eq_ld, readAt_within, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread]
  canon_tiles x h
  case piece0 =>
    refine (congrFun (?_ : _ = item (View.ld (iblk m c 4 t) (Rect.unit ![0, 192] ![128, 64] inb_S128x256_S128x64_0_192)) (View.ld (iblk m c 5 t) (Rect.unit ![0, 192] ![128, 64] inb_S128x256_S128x64_0_192)) (View.ld (iblk m c 6 t) (Rect.unit ![0, 192] ![128, 64] inb_S128x256_S128x64_0_192)) (View.ld (iblk m c 7 t) (Rect.unit ![0, 192] ![128, 64] inb_S128x256_S128x64_0_192)) (View.ld (iblk m c 10 t) (Rect.unit ![0, 192] ![128, 64] inb_S128x256_S128x64_0_192)) (View.ld (iblk m c 11 t) (Rect.unit ![0, 192] ![128, 64] inb_S128x256_S128x64_0_192)) (View.ld (iblk m c 12 t) (Rect.unit ![0, 192] ![128, 64] inb_S128x256_S128x64_0_192)) (View.ld (iblk m c 13 t) (Rect.unit ![0, 192] ![128, 64] inb_S128x256_S128x64_0_192)) (View.ld (View.ld (iblk m c 1 t) (Rect.unit ![256, 0] ![128, 1024] inb_S384x1024_S128x1024_256_0)) (Rect.unit ![0, 896] ![128, 64] inb_S128x1024_S128x64_0_896)) (View.ld (View.ld (iblk m c 1 t) (Rect.unit ![256, 0] ![128, 1024] inb_S384x1024_S128x1024_256_0)) (Rect.unit ![0, 960] ![128, 64] inb_S128x1024_S128x64_0_960)) (View.ld (iblk m c 16 t) (Rect.unit ![0, 14, 0, 0] ![1, 1, 128, 512] inb_S1x16x128x512_S1x1x128x512_0_14_0_0)) (View.ld (iblk m c 16 t) (Rect.unit ![0, 15, 0, 0] ![1, 1, 128, 512] inb_S1x16x128x512_S1x1x128x512_0_15_0_0)) (View.ld (iblk m c 0 t) (Rect.unit ![14] ![1] inb_S16_S1_14) (Shape.Idx.first (s := S1) one_pos)) (View.ld (iblk m c 0 t) (Rect.unit ![15] ![1] inb_S16_S1_15) (Shape.Idx.first (s := S1) one_pos))) x).trans (?_ : item (View.ld (iblk m c 4 t) (Rect.unit ![0, 192] ![128, 64] inb_S128x256_S128x64_0_192)) (View.ld (iblk m c 5 t) (Rect.unit ![0, 192] ![128, 64] inb_S128x256_S128x64_0_192)) (View.ld (iblk m c 6 t) (Rect.unit ![0, 192] ![128, 64] inb_S128x256_S128x64_0_192)) (View.ld (iblk m c 7 t) (Rect.unit ![0, 192] ![128, 64] inb_S128x256_S128x64_0_192)) (View.ld (iblk m c 10 t) (Rect.unit ![0, 192] ![128, 64] inb_S128x256_S128x64_0_192)) (View.ld (iblk m c 11 t) (Rect.unit ![0, 192] ![128, 64] inb_S128x256_S128x64_0_192)) (View.ld (iblk m c 12 t) (Rect.unit ![0, 192] ![128, 64] inb_S128x256_S128x64_0_192)) (View.ld (iblk m c 13 t) (Rect.unit ![0, 192] ![128, 64] inb_S128x256_S128x64_0_192)) (View.ld (View.ld (iblk m c 1 t) (Rect.unit ![256, 0] ![128, 1024] inb_S384x1024_S128x1024_256_0)) (Rect.unit ![0, 896] ![128, 64] inb_S128x1024_S128x64_0_896)) (View.ld (View.ld (iblk m c 1 t) (Rect.unit ![256, 0] ![128, 1024] inb_S384x1024_S128x1024_256_0)) (Rect.unit ![0, 960] ![128, 64] inb_S128x1024_S128x64_0_960)) (View.ld (iblk m c 16 t) (Rect.unit ![0, 14, 0, 0] ![1, 1, 128, 512] inb_S1x16x128x512_S1x1x128x512_0_14_0_0)) (View.ld (iblk m c 16 t) (Rect.unit ![0, 15, 0, 0] ![1, 1, 128, 512] inb_S1x16x128x512_S1x1x128x512_0_15_0_0)) (View.ld (iblk m c 0 t) (Rect.unit ![14] ![1] inb_S16_S1_14) (Shape.Idx.first (s := S1) one_pos)) (View.ld (iblk m c 0 t) (Rect.unit ![15] ![1] inb_S16_S1_15) (Shape.Idx.first (s := S1) one_pos)) x = V y)
    · generalize (View.ld (iblk m c 4 t) (Rect.unit ![0, 192] ![128, 64] inb_S128x256_S128x64_0_192)) = k0
      generalize (View.ld (iblk m c 5 t) (Rect.unit ![0, 192] ![128, 64] inb_S128x256_S128x64_0_192)) = k1
      generalize (View.ld (iblk m c 6 t) (Rect.unit ![0, 192] ![128, 64] inb_S128x256_S128x64_0_192)) = k2
      generalize (View.ld (iblk m c 7 t) (Rect.unit ![0, 192] ![128, 64] inb_S128x256_S128x64_0_192)) = k3
      generalize (View.ld (iblk m c 10 t) (Rect.unit ![0, 192] ![128, 64] inb_S128x256_S128x64_0_192)) = v0
      generalize (View.ld (iblk m c 11 t) (Rect.unit ![0, 192] ![128, 64] inb_S128x256_S128x64_0_192)) = v1
      generalize (View.ld (iblk m c 12 t) (Rect.unit ![0, 192] ![128, 64] inb_S128x256_S128x64_0_192)) = v2
      generalize (View.ld (iblk m c 13 t) (Rect.unit ![0, 192] ![128, 64] inb_S128x256_S128x64_0_192)) = v3
      generalize (View.ld (View.ld (iblk m c 1 t) (Rect.unit ![256, 0] ![128, 1024] inb_S384x1024_S128x1024_256_0)) (Rect.unit ![0, 896] ![128, 64] inb_S128x1024_S128x64_0_896)) = qa
      generalize (View.ld (View.ld (iblk m c 1 t) (Rect.unit ![256, 0] ![128, 1024] inb_S384x1024_S128x1024_256_0)) (Rect.unit ![0, 960] ![128, 64] inb_S128x1024_S128x64_0_960)) = qb
      generalize (View.ld (iblk m c 16 t) (Rect.unit ![0, 14, 0, 0] ![1, 1, 128, 512] inb_S1x16x128x512_S1x1x128x512_0_14_0_0)) = ba
      generalize (View.ld (iblk m c 16 t) (Rect.unit ![0, 15, 0, 0] ![1, 1, 128, 512] inb_S1x16x128x512_S1x1x128x512_0_15_0_0)) = bb
      generalize (View.ld (iblk m c 0 t) (Rect.unit ![14] ![1] inb_S16_S1_14) (Shape.Idx.first (s := S1) one_pos)) = sa
      generalize (View.ld (iblk m c 0 t) (Rect.unit ![15] ![1] inb_S16_S1_15) (Shape.Idx.first (s := S1) one_pos)) = sb
      rfl
    · rw [hV]
      exact item_entry F (3 * t.val + 2) (by omega) 7 14 15 3 (by omega) rfl rfl rfl
        (band_of (rows4 m c t) 3 192 (by omega) rfl _ _ 0 (by omega))
        (band_of (rows5 m c t) 3 192 (by omega) rfl _ _ 1 (by omega))
        (band_of (rows6 m c t) 3 192 (by omega) rfl _ _ 2 (by omega))
        (meta_of (rows7 m c t) 3 192 (by omega) rfl _)
        (band_of (rows10 m c t) 3 192 (by omega) rfl _ _ 0 (by omega))
        (band_of (rows11 m c t) 3 192 (by omega) rfl _ _ 1 (by omega))
        (band_of (rows12 m c t) 3 192 (by omega) rfl _ _ 2 (by omega))
        (meta_of (rows13 m c t) 3 192 (by omega) rfl _)
        (queries_of t 2 256 14 896 (by omega) rfl (by omega) rfl _ _)
        (queries_of t 2 256 15 960 (by omega) rfl (by omega) rfl _ _)
        (bias_of _ _ (bias16 m c t) 14 (by omega) _)
        (bias_of _ _ (bias16 m c t) 15 (by omega) _)
        (sink_of t 14 (by omega) _)
        (sink_of t 15 (by omega) _)
        x
        _
        _
        (at_row t.val 2 256 _ _ rfl h0)
        (at_col 7 896 _ _ rfl h1)
  case piece1 =>
    refine (congrFun (?_ : _ = item (View.ld (iblk m c 4 t) (Rect.unit ![0, 192] ![128, 64] inb_S128x256_S128x64_0_192)) (View.ld (iblk m c 5 t) (Rect.unit ![0, 192] ![128, 64] inb_S128x256_S128x64_0_192)) (View.ld (iblk m c 6 t) (Rect.unit ![0, 192] ![128, 64] inb_S128x256_S128x64_0_192)) (View.ld (iblk m c 7 t) (Rect.unit ![0, 192] ![128, 64] inb_S128x256_S128x64_0_192)) (View.ld (iblk m c 10 t) (Rect.unit ![0, 192] ![128, 64] inb_S128x256_S128x64_0_192)) (View.ld (iblk m c 11 t) (Rect.unit ![0, 192] ![128, 64] inb_S128x256_S128x64_0_192)) (View.ld (iblk m c 12 t) (Rect.unit ![0, 192] ![128, 64] inb_S128x256_S128x64_0_192)) (View.ld (iblk m c 13 t) (Rect.unit ![0, 192] ![128, 64] inb_S128x256_S128x64_0_192)) (View.ld (View.ld (iblk m c 1 t) (Rect.unit ![256, 0] ![128, 1024] inb_S384x1024_S128x1024_256_0)) (Rect.unit ![0, 768] ![128, 64] inb_S128x1024_S128x64_0_768)) (View.ld (View.ld (iblk m c 1 t) (Rect.unit ![256, 0] ![128, 1024] inb_S384x1024_S128x1024_256_0)) (Rect.unit ![0, 832] ![128, 64] inb_S128x1024_S128x64_0_832)) (View.ld (iblk m c 16 t) (Rect.unit ![0, 12, 0, 0] ![1, 1, 128, 512] inb_S1x16x128x512_S1x1x128x512_0_12_0_0)) (View.ld (iblk m c 16 t) (Rect.unit ![0, 13, 0, 0] ![1, 1, 128, 512] inb_S1x16x128x512_S1x1x128x512_0_13_0_0)) (View.ld (iblk m c 0 t) (Rect.unit ![12] ![1] inb_S16_S1_12) (Shape.Idx.first (s := S1) one_pos)) (View.ld (iblk m c 0 t) (Rect.unit ![13] ![1] inb_S16_S1_13) (Shape.Idx.first (s := S1) one_pos))) x).trans (?_ : item (View.ld (iblk m c 4 t) (Rect.unit ![0, 192] ![128, 64] inb_S128x256_S128x64_0_192)) (View.ld (iblk m c 5 t) (Rect.unit ![0, 192] ![128, 64] inb_S128x256_S128x64_0_192)) (View.ld (iblk m c 6 t) (Rect.unit ![0, 192] ![128, 64] inb_S128x256_S128x64_0_192)) (View.ld (iblk m c 7 t) (Rect.unit ![0, 192] ![128, 64] inb_S128x256_S128x64_0_192)) (View.ld (iblk m c 10 t) (Rect.unit ![0, 192] ![128, 64] inb_S128x256_S128x64_0_192)) (View.ld (iblk m c 11 t) (Rect.unit ![0, 192] ![128, 64] inb_S128x256_S128x64_0_192)) (View.ld (iblk m c 12 t) (Rect.unit ![0, 192] ![128, 64] inb_S128x256_S128x64_0_192)) (View.ld (iblk m c 13 t) (Rect.unit ![0, 192] ![128, 64] inb_S128x256_S128x64_0_192)) (View.ld (View.ld (iblk m c 1 t) (Rect.unit ![256, 0] ![128, 1024] inb_S384x1024_S128x1024_256_0)) (Rect.unit ![0, 768] ![128, 64] inb_S128x1024_S128x64_0_768)) (View.ld (View.ld (iblk m c 1 t) (Rect.unit ![256, 0] ![128, 1024] inb_S384x1024_S128x1024_256_0)) (Rect.unit ![0, 832] ![128, 64] inb_S128x1024_S128x64_0_832)) (View.ld (iblk m c 16 t) (Rect.unit ![0, 12, 0, 0] ![1, 1, 128, 512] inb_S1x16x128x512_S1x1x128x512_0_12_0_0)) (View.ld (iblk m c 16 t) (Rect.unit ![0, 13, 0, 0] ![1, 1, 128, 512] inb_S1x16x128x512_S1x1x128x512_0_13_0_0)) (View.ld (iblk m c 0 t) (Rect.unit ![12] ![1] inb_S16_S1_12) (Shape.Idx.first (s := S1) one_pos)) (View.ld (iblk m c 0 t) (Rect.unit ![13] ![1] inb_S16_S1_13) (Shape.Idx.first (s := S1) one_pos)) x = V y)
    · generalize (View.ld (iblk m c 4 t) (Rect.unit ![0, 192] ![128, 64] inb_S128x256_S128x64_0_192)) = k0
      generalize (View.ld (iblk m c 5 t) (Rect.unit ![0, 192] ![128, 64] inb_S128x256_S128x64_0_192)) = k1
      generalize (View.ld (iblk m c 6 t) (Rect.unit ![0, 192] ![128, 64] inb_S128x256_S128x64_0_192)) = k2
      generalize (View.ld (iblk m c 7 t) (Rect.unit ![0, 192] ![128, 64] inb_S128x256_S128x64_0_192)) = k3
      generalize (View.ld (iblk m c 10 t) (Rect.unit ![0, 192] ![128, 64] inb_S128x256_S128x64_0_192)) = v0
      generalize (View.ld (iblk m c 11 t) (Rect.unit ![0, 192] ![128, 64] inb_S128x256_S128x64_0_192)) = v1
      generalize (View.ld (iblk m c 12 t) (Rect.unit ![0, 192] ![128, 64] inb_S128x256_S128x64_0_192)) = v2
      generalize (View.ld (iblk m c 13 t) (Rect.unit ![0, 192] ![128, 64] inb_S128x256_S128x64_0_192)) = v3
      generalize (View.ld (View.ld (iblk m c 1 t) (Rect.unit ![256, 0] ![128, 1024] inb_S384x1024_S128x1024_256_0)) (Rect.unit ![0, 768] ![128, 64] inb_S128x1024_S128x64_0_768)) = qa
      generalize (View.ld (View.ld (iblk m c 1 t) (Rect.unit ![256, 0] ![128, 1024] inb_S384x1024_S128x1024_256_0)) (Rect.unit ![0, 832] ![128, 64] inb_S128x1024_S128x64_0_832)) = qb
      generalize (View.ld (iblk m c 16 t) (Rect.unit ![0, 12, 0, 0] ![1, 1, 128, 512] inb_S1x16x128x512_S1x1x128x512_0_12_0_0)) = ba
      generalize (View.ld (iblk m c 16 t) (Rect.unit ![0, 13, 0, 0] ![1, 1, 128, 512] inb_S1x16x128x512_S1x1x128x512_0_13_0_0)) = bb
      generalize (View.ld (iblk m c 0 t) (Rect.unit ![12] ![1] inb_S16_S1_12) (Shape.Idx.first (s := S1) one_pos)) = sa
      generalize (View.ld (iblk m c 0 t) (Rect.unit ![13] ![1] inb_S16_S1_13) (Shape.Idx.first (s := S1) one_pos)) = sb
      rfl
    · rw [hV]
      exact item_entry F (3 * t.val + 2) (by omega) 6 12 13 3 (by omega) rfl rfl rfl
        (band_of (rows4 m c t) 3 192 (by omega) rfl _ _ 0 (by omega))
        (band_of (rows5 m c t) 3 192 (by omega) rfl _ _ 1 (by omega))
        (band_of (rows6 m c t) 3 192 (by omega) rfl _ _ 2 (by omega))
        (meta_of (rows7 m c t) 3 192 (by omega) rfl _)
        (band_of (rows10 m c t) 3 192 (by omega) rfl _ _ 0 (by omega))
        (band_of (rows11 m c t) 3 192 (by omega) rfl _ _ 1 (by omega))
        (band_of (rows12 m c t) 3 192 (by omega) rfl _ _ 2 (by omega))
        (meta_of (rows13 m c t) 3 192 (by omega) rfl _)
        (queries_of t 2 256 12 768 (by omega) rfl (by omega) rfl _ _)
        (queries_of t 2 256 13 832 (by omega) rfl (by omega) rfl _ _)
        (bias_of _ _ (bias16 m c t) 12 (by omega) _)
        (bias_of _ _ (bias16 m c t) 13 (by omega) _)
        (sink_of t 12 (by omega) _)
        (sink_of t 13 (by omega) _)
        x
        _
        _
        (at_row t.val 2 256 _ _ rfl h0)
        (at_col 6 768 _ _ rfl h1)
  case piece2 =>
    refine (congrFun (?_ : _ = item (View.ld (iblk m c 4 t) (Rect.unit ![0, 128] ![128, 64] inb_S128x256_S128x64_0_128)) (View.ld (iblk m c 5 t) (Rect.unit ![0, 128] ![128, 64] inb_S128x256_S128x64_0_128)) (View.ld (iblk m c 6 t) (Rect.unit ![0, 128] ![128, 64] inb_S128x256_S128x64_0_128)) (View.ld (iblk m c 7 t) (Rect.unit ![0, 128] ![128, 64] inb_S128x256_S128x64_0_128)) (View.ld (iblk m c 10 t) (Rect.unit ![0, 128] ![128, 64] inb_S128x256_S128x64_0_128)) (View.ld (iblk m c 11 t) (Rect.unit ![0, 128] ![128, 64] inb_S128x256_S128x64_0_128)) (View.ld (iblk m c 12 t) (Rect.unit ![0, 128] ![128, 64] inb_S128x256_S128x64_0_128)) (View.ld (iblk m c 13 t) (Rect.unit ![0, 128] ![128, 64] inb_S128x256_S128x64_0_128)) (View.ld (View.ld (iblk m c 1 t) (Rect.unit ![256, 0] ![128, 1024] inb_S384x1024_S128x1024_256_0)) (Rect.unit ![0, 640] ![128, 64] inb_S128x1024_S128x64_0_640)) (View.ld (View.ld (iblk m c 1 t) (Rect.unit ![256, 0] ![128, 1024] inb_S384x1024_S128x1024_256_0)) (Rect.unit ![0, 704] ![128, 64] inb_S128x1024_S128x64_0_704)) (View.ld (iblk m c 16 t) (Rect.unit ![0, 10, 0, 0] ![1, 1, 128, 512] inb_S1x16x128x512_S1x1x128x512_0_10_0_0)) (View.ld (iblk m c 16 t) (Rect.unit ![0, 11, 0, 0] ![1, 1, 128, 512] inb_S1x16x128x512_S1x1x128x512_0_11_0_0)) (View.ld (iblk m c 0 t) (Rect.unit ![10] ![1] inb_S16_S1_10) (Shape.Idx.first (s := S1) one_pos)) (View.ld (iblk m c 0 t) (Rect.unit ![11] ![1] inb_S16_S1_11) (Shape.Idx.first (s := S1) one_pos))) x).trans (?_ : item (View.ld (iblk m c 4 t) (Rect.unit ![0, 128] ![128, 64] inb_S128x256_S128x64_0_128)) (View.ld (iblk m c 5 t) (Rect.unit ![0, 128] ![128, 64] inb_S128x256_S128x64_0_128)) (View.ld (iblk m c 6 t) (Rect.unit ![0, 128] ![128, 64] inb_S128x256_S128x64_0_128)) (View.ld (iblk m c 7 t) (Rect.unit ![0, 128] ![128, 64] inb_S128x256_S128x64_0_128)) (View.ld (iblk m c 10 t) (Rect.unit ![0, 128] ![128, 64] inb_S128x256_S128x64_0_128)) (View.ld (iblk m c 11 t) (Rect.unit ![0, 128] ![128, 64] inb_S128x256_S128x64_0_128)) (View.ld (iblk m c 12 t) (Rect.unit ![0, 128] ![128, 64] inb_S128x256_S128x64_0_128)) (View.ld (iblk m c 13 t) (Rect.unit ![0, 128] ![128, 64] inb_S128x256_S128x64_0_128)) (View.ld (View.ld (iblk m c 1 t) (Rect.unit ![256, 0] ![128, 1024] inb_S384x1024_S128x1024_256_0)) (Rect.unit ![0, 640] ![128, 64] inb_S128x1024_S128x64_0_640)) (View.ld (View.ld (iblk m c 1 t) (Rect.unit ![256, 0] ![128, 1024] inb_S384x1024_S128x1024_256_0)) (Rect.unit ![0, 704] ![128, 64] inb_S128x1024_S128x64_0_704)) (View.ld (iblk m c 16 t) (Rect.unit ![0, 10, 0, 0] ![1, 1, 128, 512] inb_S1x16x128x512_S1x1x128x512_0_10_0_0)) (View.ld (iblk m c 16 t) (Rect.unit ![0, 11, 0, 0] ![1, 1, 128, 512] inb_S1x16x128x512_S1x1x128x512_0_11_0_0)) (View.ld (iblk m c 0 t) (Rect.unit ![10] ![1] inb_S16_S1_10) (Shape.Idx.first (s := S1) one_pos)) (View.ld (iblk m c 0 t) (Rect.unit ![11] ![1] inb_S16_S1_11) (Shape.Idx.first (s := S1) one_pos)) x = V y)
    · generalize (View.ld (iblk m c 4 t) (Rect.unit ![0, 128] ![128, 64] inb_S128x256_S128x64_0_128)) = k0
      generalize (View.ld (iblk m c 5 t) (Rect.unit ![0, 128] ![128, 64] inb_S128x256_S128x64_0_128)) = k1
      generalize (View.ld (iblk m c 6 t) (Rect.unit ![0, 128] ![128, 64] inb_S128x256_S128x64_0_128)) = k2
      generalize (View.ld (iblk m c 7 t) (Rect.unit ![0, 128] ![128, 64] inb_S128x256_S128x64_0_128)) = k3
      generalize (View.ld (iblk m c 10 t) (Rect.unit ![0, 128] ![128, 64] inb_S128x256_S128x64_0_128)) = v0
      generalize (View.ld (iblk m c 11 t) (Rect.unit ![0, 128] ![128, 64] inb_S128x256_S128x64_0_128)) = v1
      generalize (View.ld (iblk m c 12 t) (Rect.unit ![0, 128] ![128, 64] inb_S128x256_S128x64_0_128)) = v2
      generalize (View.ld (iblk m c 13 t) (Rect.unit ![0, 128] ![128, 64] inb_S128x256_S128x64_0_128)) = v3
      generalize (View.ld (View.ld (iblk m c 1 t) (Rect.unit ![256, 0] ![128, 1024] inb_S384x1024_S128x1024_256_0)) (Rect.unit ![0, 640] ![128, 64] inb_S128x1024_S128x64_0_640)) = qa
      generalize (View.ld (View.ld (iblk m c 1 t) (Rect.unit ![256, 0] ![128, 1024] inb_S384x1024_S128x1024_256_0)) (Rect.unit ![0, 704] ![128, 64] inb_S128x1024_S128x64_0_704)) = qb
      generalize (View.ld (iblk m c 16 t) (Rect.unit ![0, 10, 0, 0] ![1, 1, 128, 512] inb_S1x16x128x512_S1x1x128x512_0_10_0_0)) = ba
      generalize (View.ld (iblk m c 16 t) (Rect.unit ![0, 11, 0, 0] ![1, 1, 128, 512] inb_S1x16x128x512_S1x1x128x512_0_11_0_0)) = bb
      generalize (View.ld (iblk m c 0 t) (Rect.unit ![10] ![1] inb_S16_S1_10) (Shape.Idx.first (s := S1) one_pos)) = sa
      generalize (View.ld (iblk m c 0 t) (Rect.unit ![11] ![1] inb_S16_S1_11) (Shape.Idx.first (s := S1) one_pos)) = sb
      rfl
    · rw [hV]
      exact item_entry F (3 * t.val + 2) (by omega) 5 10 11 2 (by omega) rfl rfl rfl
        (band_of (rows4 m c t) 2 128 (by omega) rfl _ _ 0 (by omega))
        (band_of (rows5 m c t) 2 128 (by omega) rfl _ _ 1 (by omega))
        (band_of (rows6 m c t) 2 128 (by omega) rfl _ _ 2 (by omega))
        (meta_of (rows7 m c t) 2 128 (by omega) rfl _)
        (band_of (rows10 m c t) 2 128 (by omega) rfl _ _ 0 (by omega))
        (band_of (rows11 m c t) 2 128 (by omega) rfl _ _ 1 (by omega))
        (band_of (rows12 m c t) 2 128 (by omega) rfl _ _ 2 (by omega))
        (meta_of (rows13 m c t) 2 128 (by omega) rfl _)
        (queries_of t 2 256 10 640 (by omega) rfl (by omega) rfl _ _)
        (queries_of t 2 256 11 704 (by omega) rfl (by omega) rfl _ _)
        (bias_of _ _ (bias16 m c t) 10 (by omega) _)
        (bias_of _ _ (bias16 m c t) 11 (by omega) _)
        (sink_of t 10 (by omega) _)
        (sink_of t 11 (by omega) _)
        x
        _
        _
        (at_row t.val 2 256 _ _ rfl h0)
        (at_col 5 640 _ _ rfl h1)
  case piece3 =>
    refine (congrFun (?_ : _ = item (View.ld (iblk m c 4 t) (Rect.unit ![0, 128] ![128, 64] inb_S128x256_S128x64_0_128)) (View.ld (iblk m c 5 t) (Rect.unit ![0, 128] ![128, 64] inb_S128x256_S128x64_0_128)) (View.ld (iblk m c 6 t) (Rect.unit ![0, 128] ![128, 64] inb_S128x256_S128x64_0_128)) (View.ld (iblk m c 7 t) (Rect.unit ![0, 128] ![128, 64] inb_S128x256_S128x64_0_128)) (View.ld (iblk m c 10 t) (Rect.unit ![0, 128] ![128, 64] inb_S128x256_S128x64_0_128)) (View.ld (iblk m c 11 t) (Rect.unit ![0, 128] ![128, 64] inb_S128x256_S128x64_0_128)) (View.ld (iblk m c 12 t) (Rect.unit ![0, 128] ![128, 64] inb_S128x256_S128x64_0_128)) (View.ld (iblk m c 13 t) (Rect.unit ![0, 128] ![128, 64] inb_S128x256_S128x64_0_128)) (View.ld (View.ld (iblk m c 1 t) (Rect.unit ![256, 0] ![128, 1024] inb_S384x1024_S128x1024_256_0)) (Rect.unit ![0, 512] ![128, 64] inb_S128x1024_S128x64_0_512)) (View.ld (View.ld (iblk m c 1 t) (Rect.unit ![256, 0] ![128, 1024] inb_S384x1024_S128x1024_256_0)) (Rect.unit ![0, 576] ![128, 64] inb_S128x1024_S128x64_0_576)) (View.ld (iblk m c 16 t) (Rect.unit ![0, 8, 0, 0] ![1, 1, 128, 512] inb_S1x16x128x512_S1x1x128x512_0_8_0_0)) (View.ld (iblk m c 16 t) (Rect.unit ![0, 9, 0, 0] ![1, 1, 128, 512] inb_S1x16x128x512_S1x1x128x512_0_9_0_0)) (View.ld (iblk m c 0 t) (Rect.unit ![8] ![1] inb_S16_S1_8) (Shape.Idx.first (s := S1) one_pos)) (View.ld (iblk m c 0 t) (Rect.unit ![9] ![1] inb_S16_S1_9) (Shape.Idx.first (s := S1) one_pos))) x).trans (?_ : item (View.ld (iblk m c 4 t) (Rect.unit ![0, 128] ![128, 64] inb_S128x256_S128x64_0_128)) (View.ld (iblk m c 5 t) (Rect.unit ![0, 128] ![128, 64] inb_S128x256_S128x64_0_128)) (View.ld (iblk m c 6 t) (Rect.unit ![0, 128] ![128, 64] inb_S128x256_S128x64_0_128)) (View.ld (iblk m c 7 t) (Rect.unit ![0, 128] ![128, 64] inb_S128x256_S128x64_0_128)) (View.ld (iblk m c 10 t) (Rect.unit ![0, 128] ![128, 64] inb_S128x256_S128x64_0_128)) (View.ld (iblk m c 11 t) (Rect.unit ![0, 128] ![128, 64] inb_S128x256_S128x64_0_128)) (View.ld (iblk m c 12 t) (Rect.unit ![0, 128] ![128, 64] inb_S128x256_S128x64_0_128)) (View.ld (iblk m c 13 t) (Rect.unit ![0, 128] ![128, 64] inb_S128x256_S128x64_0_128)) (View.ld (View.ld (iblk m c 1 t) (Rect.unit ![256, 0] ![128, 1024] inb_S384x1024_S128x1024_256_0)) (Rect.unit ![0, 512] ![128, 64] inb_S128x1024_S128x64_0_512)) (View.ld (View.ld (iblk m c 1 t) (Rect.unit ![256, 0] ![128, 1024] inb_S384x1024_S128x1024_256_0)) (Rect.unit ![0, 576] ![128, 64] inb_S128x1024_S128x64_0_576)) (View.ld (iblk m c 16 t) (Rect.unit ![0, 8, 0, 0] ![1, 1, 128, 512] inb_S1x16x128x512_S1x1x128x512_0_8_0_0)) (View.ld (iblk m c 16 t) (Rect.unit ![0, 9, 0, 0] ![1, 1, 128, 512] inb_S1x16x128x512_S1x1x128x512_0_9_0_0)) (View.ld (iblk m c 0 t) (Rect.unit ![8] ![1] inb_S16_S1_8) (Shape.Idx.first (s := S1) one_pos)) (View.ld (iblk m c 0 t) (Rect.unit ![9] ![1] inb_S16_S1_9) (Shape.Idx.first (s := S1) one_pos)) x = V y)
    · generalize (View.ld (iblk m c 4 t) (Rect.unit ![0, 128] ![128, 64] inb_S128x256_S128x64_0_128)) = k0
      generalize (View.ld (iblk m c 5 t) (Rect.unit ![0, 128] ![128, 64] inb_S128x256_S128x64_0_128)) = k1
      generalize (View.ld (iblk m c 6 t) (Rect.unit ![0, 128] ![128, 64] inb_S128x256_S128x64_0_128)) = k2
      generalize (View.ld (iblk m c 7 t) (Rect.unit ![0, 128] ![128, 64] inb_S128x256_S128x64_0_128)) = k3
      generalize (View.ld (iblk m c 10 t) (Rect.unit ![0, 128] ![128, 64] inb_S128x256_S128x64_0_128)) = v0
      generalize (View.ld (iblk m c 11 t) (Rect.unit ![0, 128] ![128, 64] inb_S128x256_S128x64_0_128)) = v1
      generalize (View.ld (iblk m c 12 t) (Rect.unit ![0, 128] ![128, 64] inb_S128x256_S128x64_0_128)) = v2
      generalize (View.ld (iblk m c 13 t) (Rect.unit ![0, 128] ![128, 64] inb_S128x256_S128x64_0_128)) = v3
      generalize (View.ld (View.ld (iblk m c 1 t) (Rect.unit ![256, 0] ![128, 1024] inb_S384x1024_S128x1024_256_0)) (Rect.unit ![0, 512] ![128, 64] inb_S128x1024_S128x64_0_512)) = qa
      generalize (View.ld (View.ld (iblk m c 1 t) (Rect.unit ![256, 0] ![128, 1024] inb_S384x1024_S128x1024_256_0)) (Rect.unit ![0, 576] ![128, 64] inb_S128x1024_S128x64_0_576)) = qb
      generalize (View.ld (iblk m c 16 t) (Rect.unit ![0, 8, 0, 0] ![1, 1, 128, 512] inb_S1x16x128x512_S1x1x128x512_0_8_0_0)) = ba
      generalize (View.ld (iblk m c 16 t) (Rect.unit ![0, 9, 0, 0] ![1, 1, 128, 512] inb_S1x16x128x512_S1x1x128x512_0_9_0_0)) = bb
      generalize (View.ld (iblk m c 0 t) (Rect.unit ![8] ![1] inb_S16_S1_8) (Shape.Idx.first (s := S1) one_pos)) = sa
      generalize (View.ld (iblk m c 0 t) (Rect.unit ![9] ![1] inb_S16_S1_9) (Shape.Idx.first (s := S1) one_pos)) = sb
      rfl
    · rw [hV]
      exact item_entry F (3 * t.val + 2) (by omega) 4 8 9 2 (by omega) rfl rfl rfl
        (band_of (rows4 m c t) 2 128 (by omega) rfl _ _ 0 (by omega))
        (band_of (rows5 m c t) 2 128 (by omega) rfl _ _ 1 (by omega))
        (band_of (rows6 m c t) 2 128 (by omega) rfl _ _ 2 (by omega))
        (meta_of (rows7 m c t) 2 128 (by omega) rfl _)
        (band_of (rows10 m c t) 2 128 (by omega) rfl _ _ 0 (by omega))
        (band_of (rows11 m c t) 2 128 (by omega) rfl _ _ 1 (by omega))
        (band_of (rows12 m c t) 2 128 (by omega) rfl _ _ 2 (by omega))
        (meta_of (rows13 m c t) 2 128 (by omega) rfl _)
        (queries_of t 2 256 8 512 (by omega) rfl (by omega) rfl _ _)
        (queries_of t 2 256 9 576 (by omega) rfl (by omega) rfl _ _)
        (bias_of _ _ (bias16 m c t) 8 (by omega) _)
        (bias_of _ _ (bias16 m c t) 9 (by omega) _)
        (sink_of t 8 (by omega) _)
        (sink_of t 9 (by omega) _)
        x
        _
        _
        (at_row t.val 2 256 _ _ rfl h0)
        (at_col 4 512 _ _ rfl h1)
  case piece4 =>
    refine (congrFun (?_ : _ = item (View.ld (iblk m c 4 t) (Rect.unit ![0, 64] ![128, 64] inb_S128x256_S128x64_0_64)) (View.ld (iblk m c 5 t) (Rect.unit ![0, 64] ![128, 64] inb_S128x256_S128x64_0_64)) (View.ld (iblk m c 6 t) (Rect.unit ![0, 64] ![128, 64] inb_S128x256_S128x64_0_64)) (View.ld (iblk m c 7 t) (Rect.unit ![0, 64] ![128, 64] inb_S128x256_S128x64_0_64)) (View.ld (iblk m c 10 t) (Rect.unit ![0, 64] ![128, 64] inb_S128x256_S128x64_0_64)) (View.ld (iblk m c 11 t) (Rect.unit ![0, 64] ![128, 64] inb_S128x256_S128x64_0_64)) (View.ld (iblk m c 12 t) (Rect.unit ![0, 64] ![128, 64] inb_S128x256_S128x64_0_64)) (View.ld (iblk m c 13 t) (Rect.unit ![0, 64] ![128, 64] inb_S128x256_S128x64_0_64)) (View.ld (View.ld (iblk m c 1 t) (Rect.unit ![256, 0] ![128, 1024] inb_S384x1024_S128x1024_256_0)) (Rect.unit ![0, 384] ![128, 64] inb_S128x1024_S128x64_0_384)) (View.ld (View.ld (iblk m c 1 t) (Rect.unit ![256, 0] ![128, 1024] inb_S384x1024_S128x1024_256_0)) (Rect.unit ![0, 448] ![128, 64] inb_S128x1024_S128x64_0_448)) (View.ld (iblk m c 16 t) (Rect.unit ![0, 6, 0, 0] ![1, 1, 128, 512] inb_S1x16x128x512_S1x1x128x512_0_6_0_0)) (View.ld (iblk m c 16 t) (Rect.unit ![0, 7, 0, 0] ![1, 1, 128, 512] inb_S1x16x128x512_S1x1x128x512_0_7_0_0)) (View.ld (iblk m c 0 t) (Rect.unit ![6] ![1] inb_S16_S1_6) (Shape.Idx.first (s := S1) one_pos)) (View.ld (iblk m c 0 t) (Rect.unit ![7] ![1] inb_S16_S1_7) (Shape.Idx.first (s := S1) one_pos))) x).trans (?_ : item (View.ld (iblk m c 4 t) (Rect.unit ![0, 64] ![128, 64] inb_S128x256_S128x64_0_64)) (View.ld (iblk m c 5 t) (Rect.unit ![0, 64] ![128, 64] inb_S128x256_S128x64_0_64)) (View.ld (iblk m c 6 t) (Rect.unit ![0, 64] ![128, 64] inb_S128x256_S128x64_0_64)) (View.ld (iblk m c 7 t) (Rect.unit ![0, 64] ![128, 64] inb_S128x256_S128x64_0_64)) (View.ld (iblk m c 10 t) (Rect.unit ![0, 64] ![128, 64] inb_S128x256_S128x64_0_64)) (View.ld (iblk m c 11 t) (Rect.unit ![0, 64] ![128, 64] inb_S128x256_S128x64_0_64)) (View.ld (iblk m c 12 t) (Rect.unit ![0, 64] ![128, 64] inb_S128x256_S128x64_0_64)) (View.ld (iblk m c 13 t) (Rect.unit ![0, 64] ![128, 64] inb_S128x256_S128x64_0_64)) (View.ld (View.ld (iblk m c 1 t) (Rect.unit ![256, 0] ![128, 1024] inb_S384x1024_S128x1024_256_0)) (Rect.unit ![0, 384] ![128, 64] inb_S128x1024_S128x64_0_384)) (View.ld (View.ld (iblk m c 1 t) (Rect.unit ![256, 0] ![128, 1024] inb_S384x1024_S128x1024_256_0)) (Rect.unit ![0, 448] ![128, 64] inb_S128x1024_S128x64_0_448)) (View.ld (iblk m c 16 t) (Rect.unit ![0, 6, 0, 0] ![1, 1, 128, 512] inb_S1x16x128x512_S1x1x128x512_0_6_0_0)) (View.ld (iblk m c 16 t) (Rect.unit ![0, 7, 0, 0] ![1, 1, 128, 512] inb_S1x16x128x512_S1x1x128x512_0_7_0_0)) (View.ld (iblk m c 0 t) (Rect.unit ![6] ![1] inb_S16_S1_6) (Shape.Idx.first (s := S1) one_pos)) (View.ld (iblk m c 0 t) (Rect.unit ![7] ![1] inb_S16_S1_7) (Shape.Idx.first (s := S1) one_pos)) x = V y)
    · generalize (View.ld (iblk m c 4 t) (Rect.unit ![0, 64] ![128, 64] inb_S128x256_S128x64_0_64)) = k0
      generalize (View.ld (iblk m c 5 t) (Rect.unit ![0, 64] ![128, 64] inb_S128x256_S128x64_0_64)) = k1
      generalize (View.ld (iblk m c 6 t) (Rect.unit ![0, 64] ![128, 64] inb_S128x256_S128x64_0_64)) = k2
      generalize (View.ld (iblk m c 7 t) (Rect.unit ![0, 64] ![128, 64] inb_S128x256_S128x64_0_64)) = k3
      generalize (View.ld (iblk m c 10 t) (Rect.unit ![0, 64] ![128, 64] inb_S128x256_S128x64_0_64)) = v0
      generalize (View.ld (iblk m c 11 t) (Rect.unit ![0, 64] ![128, 64] inb_S128x256_S128x64_0_64)) = v1
      generalize (View.ld (iblk m c 12 t) (Rect.unit ![0, 64] ![128, 64] inb_S128x256_S128x64_0_64)) = v2
      generalize (View.ld (iblk m c 13 t) (Rect.unit ![0, 64] ![128, 64] inb_S128x256_S128x64_0_64)) = v3
      generalize (View.ld (View.ld (iblk m c 1 t) (Rect.unit ![256, 0] ![128, 1024] inb_S384x1024_S128x1024_256_0)) (Rect.unit ![0, 384] ![128, 64] inb_S128x1024_S128x64_0_384)) = qa
      generalize (View.ld (View.ld (iblk m c 1 t) (Rect.unit ![256, 0] ![128, 1024] inb_S384x1024_S128x1024_256_0)) (Rect.unit ![0, 448] ![128, 64] inb_S128x1024_S128x64_0_448)) = qb
      generalize (View.ld (iblk m c 16 t) (Rect.unit ![0, 6, 0, 0] ![1, 1, 128, 512] inb_S1x16x128x512_S1x1x128x512_0_6_0_0)) = ba
      generalize (View.ld (iblk m c 16 t) (Rect.unit ![0, 7, 0, 0] ![1, 1, 128, 512] inb_S1x16x128x512_S1x1x128x512_0_7_0_0)) = bb
      generalize (View.ld (iblk m c 0 t) (Rect.unit ![6] ![1] inb_S16_S1_6) (Shape.Idx.first (s := S1) one_pos)) = sa
      generalize (View.ld (iblk m c 0 t) (Rect.unit ![7] ![1] inb_S16_S1_7) (Shape.Idx.first (s := S1) one_pos)) = sb
      rfl
    · rw [hV]
      exact item_entry F (3 * t.val + 2) (by omega) 3 6 7 1 (by omega) rfl rfl rfl
        (band_of (rows4 m c t) 1 64 (by omega) rfl _ _ 0 (by omega))
        (band_of (rows5 m c t) 1 64 (by omega) rfl _ _ 1 (by omega))
        (band_of (rows6 m c t) 1 64 (by omega) rfl _ _ 2 (by omega))
        (meta_of (rows7 m c t) 1 64 (by omega) rfl _)
        (band_of (rows10 m c t) 1 64 (by omega) rfl _ _ 0 (by omega))
        (band_of (rows11 m c t) 1 64 (by omega) rfl _ _ 1 (by omega))
        (band_of (rows12 m c t) 1 64 (by omega) rfl _ _ 2 (by omega))
        (meta_of (rows13 m c t) 1 64 (by omega) rfl _)
        (queries_of t 2 256 6 384 (by omega) rfl (by omega) rfl _ _)
        (queries_of t 2 256 7 448 (by omega) rfl (by omega) rfl _ _)
        (bias_of _ _ (bias16 m c t) 6 (by omega) _)
        (bias_of _ _ (bias16 m c t) 7 (by omega) _)
        (sink_of t 6 (by omega) _)
        (sink_of t 7 (by omega) _)
        x
        _
        _
        (at_row t.val 2 256 _ _ rfl h0)
        (at_col 3 384 _ _ rfl h1)
  case piece5 =>
    refine (congrFun (?_ : _ = item (View.ld (iblk m c 4 t) (Rect.unit ![0, 64] ![128, 64] inb_S128x256_S128x64_0_64)) (View.ld (iblk m c 5 t) (Rect.unit ![0, 64] ![128, 64] inb_S128x256_S128x64_0_64)) (View.ld (iblk m c 6 t) (Rect.unit ![0, 64] ![128, 64] inb_S128x256_S128x64_0_64)) (View.ld (iblk m c 7 t) (Rect.unit ![0, 64] ![128, 64] inb_S128x256_S128x64_0_64)) (View.ld (iblk m c 10 t) (Rect.unit ![0, 64] ![128, 64] inb_S128x256_S128x64_0_64)) (View.ld (iblk m c 11 t) (Rect.unit ![0, 64] ![128, 64] inb_S128x256_S128x64_0_64)) (View.ld (iblk m c 12 t) (Rect.unit ![0, 64] ![128, 64] inb_S128x256_S128x64_0_64)) (View.ld (iblk m c 13 t) (Rect.unit ![0, 64] ![128, 64] inb_S128x256_S128x64_0_64)) (View.ld (View.ld (iblk m c 1 t) (Rect.unit ![256, 0] ![128, 1024] inb_S384x1024_S128x1024_256_0)) (Rect.unit ![0, 256] ![128, 64] inb_S128x1024_S128x64_0_256)) (View.ld (View.ld (iblk m c 1 t) (Rect.unit ![256, 0] ![128, 1024] inb_S384x1024_S128x1024_256_0)) (Rect.unit ![0, 320] ![128, 64] inb_S128x1024_S128x64_0_320)) (View.ld (iblk m c 16 t) (Rect.unit ![0, 4, 0, 0] ![1, 1, 128, 512] inb_S1x16x128x512_S1x1x128x512_0_4_0_0)) (View.ld (iblk m c 16 t) (Rect.unit ![0, 5, 0, 0] ![1, 1, 128, 512] inb_S1x16x128x512_S1x1x128x512_0_5_0_0)) (View.ld (iblk m c 0 t) (Rect.unit ![4] ![1] inb_S16_S1_4) (Shape.Idx.first (s := S1) one_pos)) (View.ld (iblk m c 0 t) (Rect.unit ![5] ![1] inb_S16_S1_5) (Shape.Idx.first (s := S1) one_pos))) x).trans (?_ : item (View.ld (iblk m c 4 t) (Rect.unit ![0, 64] ![128, 64] inb_S128x256_S128x64_0_64)) (View.ld (iblk m c 5 t) (Rect.unit ![0, 64] ![128, 64] inb_S128x256_S128x64_0_64)) (View.ld (iblk m c 6 t) (Rect.unit ![0, 64] ![128, 64] inb_S128x256_S128x64_0_64)) (View.ld (iblk m c 7 t) (Rect.unit ![0, 64] ![128, 64] inb_S128x256_S128x64_0_64)) (View.ld (iblk m c 10 t) (Rect.unit ![0, 64] ![128, 64] inb_S128x256_S128x64_0_64)) (View.ld (iblk m c 11 t) (Rect.unit ![0, 64] ![128, 64] inb_S128x256_S128x64_0_64)) (View.ld (iblk m c 12 t) (Rect.unit ![0, 64] ![128, 64] inb_S128x256_S128x64_0_64)) (View.ld (iblk m c 13 t) (Rect.unit ![0, 64] ![128, 64] inb_S128x256_S128x64_0_64)) (View.ld (View.ld (iblk m c 1 t) (Rect.unit ![256, 0] ![128, 1024] inb_S384x1024_S128x1024_256_0)) (Rect.unit ![0, 256] ![128, 64] inb_S128x1024_S128x64_0_256)) (View.ld (View.ld (iblk m c 1 t) (Rect.unit ![256, 0] ![128, 1024] inb_S384x1024_S128x1024_256_0)) (Rect.unit ![0, 320] ![128, 64] inb_S128x1024_S128x64_0_320)) (View.ld (iblk m c 16 t) (Rect.unit ![0, 4, 0, 0] ![1, 1, 128, 512] inb_S1x16x128x512_S1x1x128x512_0_4_0_0)) (View.ld (iblk m c 16 t) (Rect.unit ![0, 5, 0, 0] ![1, 1, 128, 512] inb_S1x16x128x512_S1x1x128x512_0_5_0_0)) (View.ld (iblk m c 0 t) (Rect.unit ![4] ![1] inb_S16_S1_4) (Shape.Idx.first (s := S1) one_pos)) (View.ld (iblk m c 0 t) (Rect.unit ![5] ![1] inb_S16_S1_5) (Shape.Idx.first (s := S1) one_pos)) x = V y)
    · generalize (View.ld (iblk m c 4 t) (Rect.unit ![0, 64] ![128, 64] inb_S128x256_S128x64_0_64)) = k0
      generalize (View.ld (iblk m c 5 t) (Rect.unit ![0, 64] ![128, 64] inb_S128x256_S128x64_0_64)) = k1
      generalize (View.ld (iblk m c 6 t) (Rect.unit ![0, 64] ![128, 64] inb_S128x256_S128x64_0_64)) = k2
      generalize (View.ld (iblk m c 7 t) (Rect.unit ![0, 64] ![128, 64] inb_S128x256_S128x64_0_64)) = k3
      generalize (View.ld (iblk m c 10 t) (Rect.unit ![0, 64] ![128, 64] inb_S128x256_S128x64_0_64)) = v0
      generalize (View.ld (iblk m c 11 t) (Rect.unit ![0, 64] ![128, 64] inb_S128x256_S128x64_0_64)) = v1
      generalize (View.ld (iblk m c 12 t) (Rect.unit ![0, 64] ![128, 64] inb_S128x256_S128x64_0_64)) = v2
      generalize (View.ld (iblk m c 13 t) (Rect.unit ![0, 64] ![128, 64] inb_S128x256_S128x64_0_64)) = v3
      generalize (View.ld (View.ld (iblk m c 1 t) (Rect.unit ![256, 0] ![128, 1024] inb_S384x1024_S128x1024_256_0)) (Rect.unit ![0, 256] ![128, 64] inb_S128x1024_S128x64_0_256)) = qa
      generalize (View.ld (View.ld (iblk m c 1 t) (Rect.unit ![256, 0] ![128, 1024] inb_S384x1024_S128x1024_256_0)) (Rect.unit ![0, 320] ![128, 64] inb_S128x1024_S128x64_0_320)) = qb
      generalize (View.ld (iblk m c 16 t) (Rect.unit ![0, 4, 0, 0] ![1, 1, 128, 512] inb_S1x16x128x512_S1x1x128x512_0_4_0_0)) = ba
      generalize (View.ld (iblk m c 16 t) (Rect.unit ![0, 5, 0, 0] ![1, 1, 128, 512] inb_S1x16x128x512_S1x1x128x512_0_5_0_0)) = bb
      generalize (View.ld (iblk m c 0 t) (Rect.unit ![4] ![1] inb_S16_S1_4) (Shape.Idx.first (s := S1) one_pos)) = sa
      generalize (View.ld (iblk m c 0 t) (Rect.unit ![5] ![1] inb_S16_S1_5) (Shape.Idx.first (s := S1) one_pos)) = sb
      rfl
    · rw [hV]
      exact item_entry F (3 * t.val + 2) (by omega) 2 4 5 1 (by omega) rfl rfl rfl
        (band_of (rows4 m c t) 1 64 (by omega) rfl _ _ 0 (by omega))
        (band_of (rows5 m c t) 1 64 (by omega) rfl _ _ 1 (by omega))
        (band_of (rows6 m c t) 1 64 (by omega) rfl _ _ 2 (by omega))
        (meta_of (rows7 m c t) 1 64 (by omega) rfl _)
        (band_of (rows10 m c t) 1 64 (by omega) rfl _ _ 0 (by omega))
        (band_of (rows11 m c t) 1 64 (by omega) rfl _ _ 1 (by omega))
        (band_of (rows12 m c t) 1 64 (by omega) rfl _ _ 2 (by omega))
        (meta_of (rows13 m c t) 1 64 (by omega) rfl _)
        (queries_of t 2 256 4 256 (by omega) rfl (by omega) rfl _ _)
        (queries_of t 2 256 5 320 (by omega) rfl (by omega) rfl _ _)
        (bias_of _ _ (bias16 m c t) 4 (by omega) _)
        (bias_of _ _ (bias16 m c t) 5 (by omega) _)
        (sink_of t 4 (by omega) _)
        (sink_of t 5 (by omega) _)
        x
        _
        _
        (at_row t.val 2 256 _ _ rfl h0)
        (at_col 2 256 _ _ rfl h1)
  case piece6 =>
    refine (congrFun (?_ : _ = item (View.ld (iblk m c 4 t) (Rect.unit ![0, 0] ![128, 64] inb_S128x256_S128x64_0_0)) (View.ld (iblk m c 5 t) (Rect.unit ![0, 0] ![128, 64] inb_S128x256_S128x64_0_0)) (View.ld (iblk m c 6 t) (Rect.unit ![0, 0] ![128, 64] inb_S128x256_S128x64_0_0)) (View.ld (iblk m c 7 t) (Rect.unit ![0, 0] ![128, 64] inb_S128x256_S128x64_0_0)) (View.ld (iblk m c 10 t) (Rect.unit ![0, 0] ![128, 64] inb_S128x256_S128x64_0_0)) (View.ld (iblk m c 11 t) (Rect.unit ![0, 0] ![128, 64] inb_S128x256_S128x64_0_0)) (View.ld (iblk m c 12 t) (Rect.unit ![0, 0] ![128, 64] inb_S128x256_S128x64_0_0)) (View.ld (iblk m c 13 t) (Rect.unit ![0, 0] ![128, 64] inb_S128x256_S128x64_0_0)) (View.ld (View.ld (iblk m c 1 t) (Rect.unit ![256, 0] ![128, 1024] inb_S384x1024_S128x1024_256_0)) (Rect.unit ![0, 128] ![128, 64] inb_S128x1024_S128x64_0_128)) (View.ld (View.ld (iblk m c 1 t) (Rect.unit ![256, 0] ![128, 1024] inb_S384x1024_S128x1024_256_0)) (Rect.unit ![0, 192] ![128, 64] inb_S128x1024_S128x64_0_192)) (View.ld (iblk m c 16 t) (Rect.unit ![0, 2, 0, 0] ![1, 1, 128, 512] inb_S1x16x128x512_S1x1x128x512_0_2_0_0)) (View.ld (iblk m c 16 t) (Rect.unit ![0, 3, 0, 0] ![1, 1, 128, 512] inb_S1x16x128x512_S1x1x128x512_0_3_0_0)) (View.ld (iblk m c 0 t) (Rect.unit ![2] ![1] inb_S16_S1_2) (Shape.Idx.first (s := S1) one_pos)) (View.ld (iblk m c 0 t) (Rect.unit ![3] ![1] inb_S16_S1_3) (Shape.Idx.first (s := S1) one_pos))) x).trans (?_ : item (View.ld (iblk m c 4 t) (Rect.unit ![0, 0] ![128, 64] inb_S128x256_S128x64_0_0)) (View.ld (iblk m c 5 t) (Rect.unit ![0, 0] ![128, 64] inb_S128x256_S128x64_0_0)) (View.ld (iblk m c 6 t) (Rect.unit ![0, 0] ![128, 64] inb_S128x256_S128x64_0_0)) (View.ld (iblk m c 7 t) (Rect.unit ![0, 0] ![128, 64] inb_S128x256_S128x64_0_0)) (View.ld (iblk m c 10 t) (Rect.unit ![0, 0] ![128, 64] inb_S128x256_S128x64_0_0)) (View.ld (iblk m c 11 t) (Rect.unit ![0, 0] ![128, 64] inb_S128x256_S128x64_0_0)) (View.ld (iblk m c 12 t) (Rect.unit ![0, 0] ![128, 64] inb_S128x256_S128x64_0_0)) (View.ld (iblk m c 13 t) (Rect.unit ![0, 0] ![128, 64] inb_S128x256_S128x64_0_0)) (View.ld (View.ld (iblk m c 1 t) (Rect.unit ![256, 0] ![128, 1024] inb_S384x1024_S128x1024_256_0)) (Rect.unit ![0, 128] ![128, 64] inb_S128x1024_S128x64_0_128)) (View.ld (View.ld (iblk m c 1 t) (Rect.unit ![256, 0] ![128, 1024] inb_S384x1024_S128x1024_256_0)) (Rect.unit ![0, 192] ![128, 64] inb_S128x1024_S128x64_0_192)) (View.ld (iblk m c 16 t) (Rect.unit ![0, 2, 0, 0] ![1, 1, 128, 512] inb_S1x16x128x512_S1x1x128x512_0_2_0_0)) (View.ld (iblk m c 16 t) (Rect.unit ![0, 3, 0, 0] ![1, 1, 128, 512] inb_S1x16x128x512_S1x1x128x512_0_3_0_0)) (View.ld (iblk m c 0 t) (Rect.unit ![2] ![1] inb_S16_S1_2) (Shape.Idx.first (s := S1) one_pos)) (View.ld (iblk m c 0 t) (Rect.unit ![3] ![1] inb_S16_S1_3) (Shape.Idx.first (s := S1) one_pos)) x = V y)
    · generalize (View.ld (iblk m c 4 t) (Rect.unit ![0, 0] ![128, 64] inb_S128x256_S128x64_0_0)) = k0
      generalize (View.ld (iblk m c 5 t) (Rect.unit ![0, 0] ![128, 64] inb_S128x256_S128x64_0_0)) = k1
      generalize (View.ld (iblk m c 6 t) (Rect.unit ![0, 0] ![128, 64] inb_S128x256_S128x64_0_0)) = k2
      generalize (View.ld (iblk m c 7 t) (Rect.unit ![0, 0] ![128, 64] inb_S128x256_S128x64_0_0)) = k3
      generalize (View.ld (iblk m c 10 t) (Rect.unit ![0, 0] ![128, 64] inb_S128x256_S128x64_0_0)) = v0
      generalize (View.ld (iblk m c 11 t) (Rect.unit ![0, 0] ![128, 64] inb_S128x256_S128x64_0_0)) = v1
      generalize (View.ld (iblk m c 12 t) (Rect.unit ![0, 0] ![128, 64] inb_S128x256_S128x64_0_0)) = v2
      generalize (View.ld (iblk m c 13 t) (Rect.unit ![0, 0] ![128, 64] inb_S128x256_S128x64_0_0)) = v3
      generalize (View.ld (View.ld (iblk m c 1 t) (Rect.unit ![256, 0] ![128, 1024] inb_S384x1024_S128x1024_256_0)) (Rect.unit ![0, 128] ![128, 64] inb_S128x1024_S128x64_0_128)) = qa
      generalize (View.ld (View.ld (iblk m c 1 t) (Rect.unit ![256, 0] ![128, 1024] inb_S384x1024_S128x1024_256_0)) (Rect.unit ![0, 192] ![128, 64] inb_S128x1024_S128x64_0_192)) = qb
      generalize (View.ld (iblk m c 16 t) (Rect.unit ![0, 2, 0, 0] ![1, 1, 128, 512] inb_S1x16x128x512_S1x1x128x512_0_2_0_0)) = ba
      generalize (View.ld (iblk m c 16 t) (Rect.unit ![0, 3, 0, 0] ![1, 1, 128, 512] inb_S1x16x128x512_S1x1x128x512_0_3_0_0)) = bb
      generalize (View.ld (iblk m c 0 t) (Rect.unit ![2] ![1] inb_S16_S1_2) (Shape.Idx.first (s := S1) one_pos)) = sa
      generalize (View.ld (iblk m c 0 t) (Rect.unit ![3] ![1] inb_S16_S1_3) (Shape.Idx.first (s := S1) one_pos)) = sb
      rfl
    · rw [hV]
      exact item_entry F (3 * t.val + 2) (by omega) 1 2 3 0 (by omega) rfl rfl rfl
        (band_of (rows4 m c t) 0 0 (by omega) rfl _ _ 0 (by omega))
        (band_of (rows5 m c t) 0 0 (by omega) rfl _ _ 1 (by omega))
        (band_of (rows6 m c t) 0 0 (by omega) rfl _ _ 2 (by omega))
        (meta_of (rows7 m c t) 0 0 (by omega) rfl _)
        (band_of (rows10 m c t) 0 0 (by omega) rfl _ _ 0 (by omega))
        (band_of (rows11 m c t) 0 0 (by omega) rfl _ _ 1 (by omega))
        (band_of (rows12 m c t) 0 0 (by omega) rfl _ _ 2 (by omega))
        (meta_of (rows13 m c t) 0 0 (by omega) rfl _)
        (queries_of t 2 256 2 128 (by omega) rfl (by omega) rfl _ _)
        (queries_of t 2 256 3 192 (by omega) rfl (by omega) rfl _ _)
        (bias_of _ _ (bias16 m c t) 2 (by omega) _)
        (bias_of _ _ (bias16 m c t) 3 (by omega) _)
        (sink_of t 2 (by omega) _)
        (sink_of t 3 (by omega) _)
        x
        _
        _
        (at_row t.val 2 256 _ _ rfl h0)
        (at_col 1 128 _ _ rfl h1)
  case piece7 =>
    refine (congrFun (?_ : _ = item (View.ld (iblk m c 4 t) (Rect.unit ![0, 0] ![128, 64] inb_S128x256_S128x64_0_0)) (View.ld (iblk m c 5 t) (Rect.unit ![0, 0] ![128, 64] inb_S128x256_S128x64_0_0)) (View.ld (iblk m c 6 t) (Rect.unit ![0, 0] ![128, 64] inb_S128x256_S128x64_0_0)) (View.ld (iblk m c 7 t) (Rect.unit ![0, 0] ![128, 64] inb_S128x256_S128x64_0_0)) (View.ld (iblk m c 10 t) (Rect.unit ![0, 0] ![128, 64] inb_S128x256_S128x64_0_0)) (View.ld (iblk m c 11 t) (Rect.unit ![0, 0] ![128, 64] inb_S128x256_S128x64_0_0)) (View.ld (iblk m c 12 t) (Rect.unit ![0, 0] ![128, 64] inb_S128x256_S128x64_0_0)) (View.ld (iblk m c 13 t) (Rect.unit ![0, 0] ![128, 64] inb_S128x256_S128x64_0_0)) (View.ld (View.ld (iblk m c 1 t) (Rect.unit ![256, 0] ![128, 1024] inb_S384x1024_S128x1024_256_0)) (Rect.unit ![0, 0] ![128, 64] inb_S128x1024_S128x64_0_0)) (View.ld (View.ld (iblk m c 1 t) (Rect.unit ![256, 0] ![128, 1024] inb_S384x1024_S128x1024_256_0)) (Rect.unit ![0, 64] ![128, 64] inb_S128x1024_S128x64_0_64)) (View.ld (iblk m c 16 t) (Rect.unit ![0, 0, 0, 0] ![1, 1, 128, 512] inb_S1x16x128x512_S1x1x128x512_0_0_0_0)) (View.ld (iblk m c 16 t) (Rect.unit ![0, 1, 0, 0] ![1, 1, 128, 512] inb_S1x16x128x512_S1x1x128x512_0_1_0_0)) (View.ld (iblk m c 0 t) (Rect.unit ![0] ![1] inb_S16_S1_0) (Shape.Idx.first (s := S1) one_pos)) (View.ld (iblk m c 0 t) (Rect.unit ![1] ![1] inb_S16_S1_1) (Shape.Idx.first (s := S1) one_pos))) x).trans (?_ : item (View.ld (iblk m c 4 t) (Rect.unit ![0, 0] ![128, 64] inb_S128x256_S128x64_0_0)) (View.ld (iblk m c 5 t) (Rect.unit ![0, 0] ![128, 64] inb_S128x256_S128x64_0_0)) (View.ld (iblk m c 6 t) (Rect.unit ![0, 0] ![128, 64] inb_S128x256_S128x64_0_0)) (View.ld (iblk m c 7 t) (Rect.unit ![0, 0] ![128, 64] inb_S128x256_S128x64_0_0)) (View.ld (iblk m c 10 t) (Rect.unit ![0, 0] ![128, 64] inb_S128x256_S128x64_0_0)) (View.ld (iblk m c 11 t) (Rect.unit ![0, 0] ![128, 64] inb_S128x256_S128x64_0_0)) (View.ld (iblk m c 12 t) (Rect.unit ![0, 0] ![128, 64] inb_S128x256_S128x64_0_0)) (View.ld (iblk m c 13 t) (Rect.unit ![0, 0] ![128, 64] inb_S128x256_S128x64_0_0)) (View.ld (View.ld (iblk m c 1 t) (Rect.unit ![256, 0] ![128, 1024] inb_S384x1024_S128x1024_256_0)) (Rect.unit ![0, 0] ![128, 64] inb_S128x1024_S128x64_0_0)) (View.ld (View.ld (iblk m c 1 t) (Rect.unit ![256, 0] ![128, 1024] inb_S384x1024_S128x1024_256_0)) (Rect.unit ![0, 64] ![128, 64] inb_S128x1024_S128x64_0_64)) (View.ld (iblk m c 16 t) (Rect.unit ![0, 0, 0, 0] ![1, 1, 128, 512] inb_S1x16x128x512_S1x1x128x512_0_0_0_0)) (View.ld (iblk m c 16 t) (Rect.unit ![0, 1, 0, 0] ![1, 1, 128, 512] inb_S1x16x128x512_S1x1x128x512_0_1_0_0)) (View.ld (iblk m c 0 t) (Rect.unit ![0] ![1] inb_S16_S1_0) (Shape.Idx.first (s := S1) one_pos)) (View.ld (iblk m c 0 t) (Rect.unit ![1] ![1] inb_S16_S1_1) (Shape.Idx.first (s := S1) one_pos)) x = V y)
    · generalize (View.ld (iblk m c 4 t) (Rect.unit ![0, 0] ![128, 64] inb_S128x256_S128x64_0_0)) = k0
      generalize (View.ld (iblk m c 5 t) (Rect.unit ![0, 0] ![128, 64] inb_S128x256_S128x64_0_0)) = k1
      generalize (View.ld (iblk m c 6 t) (Rect.unit ![0, 0] ![128, 64] inb_S128x256_S128x64_0_0)) = k2
      generalize (View.ld (iblk m c 7 t) (Rect.unit ![0, 0] ![128, 64] inb_S128x256_S128x64_0_0)) = k3
      generalize (View.ld (iblk m c 10 t) (Rect.unit ![0, 0] ![128, 64] inb_S128x256_S128x64_0_0)) = v0
      generalize (View.ld (iblk m c 11 t) (Rect.unit ![0, 0] ![128, 64] inb_S128x256_S128x64_0_0)) = v1
      generalize (View.ld (iblk m c 12 t) (Rect.unit ![0, 0] ![128, 64] inb_S128x256_S128x64_0_0)) = v2
      generalize (View.ld (iblk m c 13 t) (Rect.unit ![0, 0] ![128, 64] inb_S128x256_S128x64_0_0)) = v3
      generalize (View.ld (View.ld (iblk m c 1 t) (Rect.unit ![256, 0] ![128, 1024] inb_S384x1024_S128x1024_256_0)) (Rect.unit ![0, 0] ![128, 64] inb_S128x1024_S128x64_0_0)) = qa
      generalize (View.ld (View.ld (iblk m c 1 t) (Rect.unit ![256, 0] ![128, 1024] inb_S384x1024_S128x1024_256_0)) (Rect.unit ![0, 64] ![128, 64] inb_S128x1024_S128x64_0_64)) = qb
      generalize (View.ld (iblk m c 16 t) (Rect.unit ![0, 0, 0, 0] ![1, 1, 128, 512] inb_S1x16x128x512_S1x1x128x512_0_0_0_0)) = ba
      generalize (View.ld (iblk m c 16 t) (Rect.unit ![0, 1, 0, 0] ![1, 1, 128, 512] inb_S1x16x128x512_S1x1x128x512_0_1_0_0)) = bb
      generalize (View.ld (iblk m c 0 t) (Rect.unit ![0] ![1] inb_S16_S1_0) (Shape.Idx.first (s := S1) one_pos)) = sa
      generalize (View.ld (iblk m c 0 t) (Rect.unit ![1] ![1] inb_S16_S1_1) (Shape.Idx.first (s := S1) one_pos)) = sb
      rfl
    · rw [hV]
      exact item_entry F (3 * t.val + 2) (by omega) 0 0 1 0 (by omega) rfl rfl rfl
        (band_of (rows4 m c t) 0 0 (by omega) rfl _ _ 0 (by omega))
        (band_of (rows5 m c t) 0 0 (by omega) rfl _ _ 1 (by omega))
        (band_of (rows6 m c t) 0 0 (by omega) rfl _ _ 2 (by omega))
        (meta_of (rows7 m c t) 0 0 (by omega) rfl _)
        (band_of (rows10 m c t) 0 0 (by omega) rfl _ _ 0 (by omega))
        (band_of (rows11 m c t) 0 0 (by omega) rfl _ _ 1 (by omega))
        (band_of (rows12 m c t) 0 0 (by omega) rfl _ _ 2 (by omega))
        (meta_of (rows13 m c t) 0 0 (by omega) rfl _)
        (queries_of t 2 256 0 0 (by omega) rfl (by omega) rfl _ _)
        (queries_of t 2 256 1 64 (by omega) rfl (by omega) rfl _ _)
        (bias_of _ _ (bias16 m c t) 0 (by omega) _)
        (bias_of _ _ (bias16 m c t) 1 (by omega) _)
        (sink_of t 0 (by omega) _)
        (sink_of t 1 (by omega) _)
        x
        _
        _
        (at_row t.val 2 256 _ _ rfl h0)
        (at_col0 _ _ h1)
  case piece8 =>
    refine (congrFun (?_ : _ = item (View.ld (iblk m c 3 t) (Rect.unit ![0, 192] ![128, 64] inb_S128x256_S128x64_0_192)) (View.ld (iblk m c 4 t) (Rect.unit ![0, 192] ![128, 64] inb_S128x256_S128x64_0_192)) (View.ld (iblk m c 5 t) (Rect.unit ![0, 192] ![128, 64] inb_S128x256_S128x64_0_192)) (View.ld (iblk m c 7 t) (Rect.unit ![0, 192] ![128, 64] inb_S128x256_S128x64_0_192)) (View.ld (iblk m c 9 t) (Rect.unit ![0, 192] ![128, 64] inb_S128x256_S128x64_0_192)) (View.ld (iblk m c 10 t) (Rect.unit ![0, 192] ![128, 64] inb_S128x256_S128x64_0_192)) (View.ld (iblk m c 11 t) (Rect.unit ![0, 192] ![128, 64] inb_S128x256_S128x64_0_192)) (View.ld (iblk m c 13 t) (Rect.unit ![0, 192] ![128, 64] inb_S128x256_S128x64_0_192)) (View.ld (View.ld (iblk m c 1 t) (Rect.unit ![128, 0] ![128, 1024] inb_S384x1024_S128x1024_128_0)) (Rect.unit ![0, 896] ![128, 64] inb_S128x1024_S128x64_0_896)) (View.ld (View.ld (iblk m c 1 t) (Rect.unit ![128, 0] ![128, 1024] inb_S384x1024_S128x1024_128_0)) (Rect.unit ![0, 960] ![128, 64] inb_S128x1024_S128x64_0_960)) (View.ld (iblk m c 15 t) (Rect.unit ![0, 14, 0, 0] ![1, 1, 128, 512] inb_S1x16x128x512_S1x1x128x512_0_14_0_0)) (View.ld (iblk m c 15 t) (Rect.unit ![0, 15, 0, 0] ![1, 1, 128, 512] inb_S1x16x128x512_S1x1x128x512_0_15_0_0)) (View.ld (iblk m c 0 t) (Rect.unit ![14] ![1] inb_S16_S1_14) (Shape.Idx.first (s := S1) one_pos)) (View.ld (iblk m c 0 t) (Rect.unit ![15] ![1] inb_S16_S1_15) (Shape.Idx.first (s := S1) one_pos))) x).trans (?_ : item (View.ld (iblk m c 3 t) (Rect.unit ![0, 192] ![128, 64] inb_S128x256_S128x64_0_192)) (View.ld (iblk m c 4 t) (Rect.unit ![0, 192] ![128, 64] inb_S128x256_S128x64_0_192)) (View.ld (iblk m c 5 t) (Rect.unit ![0, 192] ![128, 64] inb_S128x256_S128x64_0_192)) (View.ld (iblk m c 7 t) (Rect.unit ![0, 192] ![128, 64] inb_S128x256_S128x64_0_192)) (View.ld (iblk m c 9 t) (Rect.unit ![0, 192] ![128, 64] inb_S128x256_S128x64_0_192)) (View.ld (iblk m c 10 t) (Rect.unit ![0, 192] ![128, 64] inb_S128x256_S128x64_0_192)) (View.ld (iblk m c 11 t) (Rect.unit ![0, 192] ![128, 64] inb_S128x256_S128x64_0_192)) (View.ld (iblk m c 13 t) (Rect.unit ![0, 192] ![128, 64] inb_S128x256_S128x64_0_192)) (View.ld (View.ld (iblk m c 1 t) (Rect.unit ![128, 0] ![128, 1024] inb_S384x1024_S128x1024_128_0)) (Rect.unit ![0, 896] ![128, 64] inb_S128x1024_S128x64_0_896)) (View.ld (View.ld (iblk m c 1 t) (Rect.unit ![128, 0] ![128, 1024] inb_S384x1024_S128x1024_128_0)) (Rect.unit ![0, 960] ![128, 64] inb_S128x1024_S128x64_0_960)) (View.ld (iblk m c 15 t) (Rect.unit ![0, 14, 0, 0] ![1, 1, 128, 512] inb_S1x16x128x512_S1x1x128x512_0_14_0_0)) (View.ld (iblk m c 15 t) (Rect.unit ![0, 15, 0, 0] ![1, 1, 128, 512] inb_S1x16x128x512_S1x1x128x512_0_15_0_0)) (View.ld (iblk m c 0 t) (Rect.unit ![14] ![1] inb_S16_S1_14) (Shape.Idx.first (s := S1) one_pos)) (View.ld (iblk m c 0 t) (Rect.unit ![15] ![1] inb_S16_S1_15) (Shape.Idx.first (s := S1) one_pos)) x = V y)
    · generalize (View.ld (iblk m c 3 t) (Rect.unit ![0, 192] ![128, 64] inb_S128x256_S128x64_0_192)) = k0
      generalize (View.ld (iblk m c 4 t) (Rect.unit ![0, 192] ![128, 64] inb_S128x256_S128x64_0_192)) = k1
      generalize (View.ld (iblk m c 5 t) (Rect.unit ![0, 192] ![128, 64] inb_S128x256_S128x64_0_192)) = k2
      generalize (View.ld (iblk m c 7 t) (Rect.unit ![0, 192] ![128, 64] inb_S128x256_S128x64_0_192)) = k3
      generalize (View.ld (iblk m c 9 t) (Rect.unit ![0, 192] ![128, 64] inb_S128x256_S128x64_0_192)) = v0
      generalize (View.ld (iblk m c 10 t) (Rect.unit ![0, 192] ![128, 64] inb_S128x256_S128x64_0_192)) = v1
      generalize (View.ld (iblk m c 11 t) (Rect.unit ![0, 192] ![128, 64] inb_S128x256_S128x64_0_192)) = v2
      generalize (View.ld (iblk m c 13 t) (Rect.unit ![0, 192] ![128, 64] inb_S128x256_S128x64_0_192)) = v3
      generalize (View.ld (View.ld (iblk m c 1 t) (Rect.unit ![128, 0] ![128, 1024] inb_S384x1024_S128x1024_128_0)) (Rect.unit ![0, 896] ![128, 64] inb_S128x1024_S128x64_0_896)) = qa
      generalize (View.ld (View.ld (iblk m c 1 t) (Rect.unit ![128, 0] ![128, 1024] inb_S384x1024_S128x1024_128_0)) (Rect.unit ![0, 960] ![128, 64] inb_S128x1024_S128x64_0_960)) = qb
      generalize (View.ld (iblk m c 15 t) (Rect.unit ![0, 14, 0, 0] ![1, 1, 128, 512] inb_S1x16x128x512_S1x1x128x512_0_14_0_0)) = ba
      generalize (View.ld (iblk m c 15 t) (Rect.unit ![0, 15, 0, 0] ![1, 1, 128, 512] inb_S1x16x128x512_S1x1x128x512_0_15_0_0)) = bb
      generalize (View.ld (iblk m c 0 t) (Rect.unit ![14] ![1] inb_S16_S1_14) (Shape.Idx.first (s := S1) one_pos)) = sa
      generalize (View.ld (iblk m c 0 t) (Rect.unit ![15] ![1] inb_S16_S1_15) (Shape.Idx.first (s := S1) one_pos)) = sb
      rfl
    · rw [hV]
      exact item_entry F (3 * t.val + 1) (by omega) 7 14 15 3 (by omega) rfl rfl rfl
        (band_of (rows3 m c t) 3 192 (by omega) rfl _ _ 0 (by omega))
        (band_of (rows4 m c t) 3 192 (by omega) rfl _ _ 1 (by omega))
        (band_of (rows5 m c t) 3 192 (by omega) rfl _ _ 2 (by omega))
        (meta_of (rows7 m c t) 3 192 (by omega) rfl _)
        (band_of (rows9 m c t) 3 192 (by omega) rfl _ _ 0 (by omega))
        (band_of (rows10 m c t) 3 192 (by omega) rfl _ _ 1 (by omega))
        (band_of (rows11 m c t) 3 192 (by omega) rfl _ _ 2 (by omega))
        (meta_of (rows13 m c t) 3 192 (by omega) rfl _)
        (queries_of t 1 128 14 896 (by omega) rfl (by omega) rfl _ _)
        (queries_of t 1 128 15 960 (by omega) rfl (by omega) rfl _ _)
        (bias_of _ _ (bias15 m c t) 14 (by omega) _)
        (bias_of _ _ (bias15 m c t) 15 (by omega) _)
        (sink_of t 14 (by omega) _)
        (sink_of t 15 (by omega) _)
        x
        _
        _
        (at_row t.val 1 128 _ _ rfl h0)
        (at_col 7 896 _ _ rfl h1)
  case piece9 =>
    refine (congrFun (?_ : _ = item (View.ld (iblk m c 3 t) (Rect.unit ![0, 192] ![128, 64] inb_S128x256_S128x64_0_192)) (View.ld (iblk m c 4 t) (Rect.unit ![0, 192] ![128, 64] inb_S128x256_S128x64_0_192)) (View.ld (iblk m c 5 t) (Rect.unit ![0, 192] ![128, 64] inb_S128x256_S128x64_0_192)) (View.ld (iblk m c 7 t) (Rect.unit ![0, 192] ![128, 64] inb_S128x256_S128x64_0_192)) (View.ld (iblk m c 9 t) (Rect.unit ![0, 192] ![128, 64] inb_S128x256_S128x64_0_192)) (View.ld (iblk m c 10 t) (Rect.unit ![0, 192] ![128, 64] inb_S128x256_S128x64_0_192)) (View.ld (iblk m c 11 t) (Rect.unit ![0, 192] ![128, 64] inb_S128x256_S128x64_0_192)) (View.ld (iblk m c 13 t) (Rect.unit ![0, 192] ![128, 64] inb_S128x256_S128x64_0_192)) (View.ld (View.ld (iblk m c 1 t) (Rect.unit ![128, 0] ![128, 1024] inb_S384x1024_S128x1024_128_0)) (Rect.unit ![0, 768] ![128, 64] inb_S128x1024_S128x64_0_768)) (View.ld (View.ld (iblk m c 1 t) (Rect.unit ![128, 0] ![128, 1024] inb_S384x1024_S128x1024_128_0)) (Rect.unit ![0, 832] ![128, 64] inb_S128x1024_S128x64_0_832)) (View.ld (iblk m c 15 t) (Rect.unit ![0, 12, 0, 0] ![1, 1, 128, 512] inb_S1x16x128x512_S1x1x128x512_0_12_0_0)) (View.ld (iblk m c 15 t) (Rect.unit ![0, 13, 0, 0] ![1, 1, 128, 512] inb_S1x16x128x512_S1x1x128x512_0_13_0_0)) (View.ld (iblk m c 0 t) (Rect.unit ![12] ![1] inb_S16_S1_12) (Shape.Idx.first (s := S1) one_pos)) (View.ld (iblk m c 0 t) (Rect.unit ![13] ![1] inb_S16_S1_13) (Shape.Idx.first (s := S1) one_pos))) x).trans (?_ : item (View.ld (iblk m c 3 t) (Rect.unit ![0, 192] ![128, 64] inb_S128x256_S128x64_0_192)) (View.ld (iblk m c 4 t) (Rect.unit ![0, 192] ![128, 64] inb_S128x256_S128x64_0_192)) (View.ld (iblk m c 5 t) (Rect.unit ![0, 192] ![128, 64] inb_S128x256_S128x64_0_192)) (View.ld (iblk m c 7 t) (Rect.unit ![0, 192] ![128, 64] inb_S128x256_S128x64_0_192)) (View.ld (iblk m c 9 t) (Rect.unit ![0, 192] ![128, 64] inb_S128x256_S128x64_0_192)) (View.ld (iblk m c 10 t) (Rect.unit ![0, 192] ![128, 64] inb_S128x256_S128x64_0_192)) (View.ld (iblk m c 11 t) (Rect.unit ![0, 192] ![128, 64] inb_S128x256_S128x64_0_192)) (View.ld (iblk m c 13 t) (Rect.unit ![0, 192] ![128, 64] inb_S128x256_S128x64_0_192)) (View.ld (View.ld (iblk m c 1 t) (Rect.unit ![128, 0] ![128, 1024] inb_S384x1024_S128x1024_128_0)) (Rect.unit ![0, 768] ![128, 64] inb_S128x1024_S128x64_0_768)) (View.ld (View.ld (iblk m c 1 t) (Rect.unit ![128, 0] ![128, 1024] inb_S384x1024_S128x1024_128_0)) (Rect.unit ![0, 832] ![128, 64] inb_S128x1024_S128x64_0_832)) (View.ld (iblk m c 15 t) (Rect.unit ![0, 12, 0, 0] ![1, 1, 128, 512] inb_S1x16x128x512_S1x1x128x512_0_12_0_0)) (View.ld (iblk m c 15 t) (Rect.unit ![0, 13, 0, 0] ![1, 1, 128, 512] inb_S1x16x128x512_S1x1x128x512_0_13_0_0)) (View.ld (iblk m c 0 t) (Rect.unit ![12] ![1] inb_S16_S1_12) (Shape.Idx.first (s := S1) one_pos)) (View.ld (iblk m c 0 t) (Rect.unit ![13] ![1] inb_S16_S1_13) (Shape.Idx.first (s := S1) one_pos)) x = V y)
    · generalize (View.ld (iblk m c 3 t) (Rect.unit ![0, 192] ![128, 64] inb_S128x256_S128x64_0_192)) = k0
      generalize (View.ld (iblk m c 4 t) (Rect.unit ![0, 192] ![128, 64] inb_S128x256_S128x64_0_192)) = k1
      generalize (View.ld (iblk m c 5 t) (Rect.unit ![0, 192] ![128, 64] inb_S128x256_S128x64_0_192)) = k2
      generalize (View.ld (iblk m c 7 t) (Rect.unit ![0, 192] ![128, 64] inb_S128x256_S128x64_0_192)) = k3
      generalize (View.ld (iblk m c 9 t) (Rect.unit ![0, 192] ![128, 64] inb_S128x256_S128x64_0_192)) = v0
      generalize (View.ld (iblk m c 10 t) (Rect.unit ![0, 192] ![128, 64] inb_S128x256_S128x64_0_192)) = v1
      generalize (View.ld (iblk m c 11 t) (Rect.unit ![0, 192] ![128, 64] inb_S128x256_S128x64_0_192)) = v2
      generalize (View.ld (iblk m c 13 t) (Rect.unit ![0, 192] ![128, 64] inb_S128x256_S128x64_0_192)) = v3
      generalize (View.ld (View.ld (iblk m c 1 t) (Rect.unit ![128, 0] ![128, 1024] inb_S384x1024_S128x1024_128_0)) (Rect.unit ![0, 768] ![128, 64] inb_S128x1024_S128x64_0_768)) = qa
      generalize (View.ld (View.ld (iblk m c 1 t) (Rect.unit ![128, 0] ![128, 1024] inb_S384x1024_S128x1024_128_0)) (Rect.unit ![0, 832] ![128, 64] inb_S128x1024_S128x64_0_832)) = qb
      generalize (View.ld (iblk m c 15 t) (Rect.unit ![0, 12, 0, 0] ![1, 1, 128, 512] inb_S1x16x128x512_S1x1x128x512_0_12_0_0)) = ba
      generalize (View.ld (iblk m c 15 t) (Rect.unit ![0, 13, 0, 0] ![1, 1, 128, 512] inb_S1x16x128x512_S1x1x128x512_0_13_0_0)) = bb
      generalize (View.ld (iblk m c 0 t) (Rect.unit ![12] ![1] inb_S16_S1_12) (Shape.Idx.first (s := S1) one_pos)) = sa
      generalize (View.ld (iblk m c 0 t) (Rect.unit ![13] ![1] inb_S16_S1_13) (Shape.Idx.first (s := S1) one_pos)) = sb
      rfl
    · rw [hV]
      exact item_entry F (3 * t.val + 1) (by omega) 6 12 13 3 (by omega) rfl rfl rfl
        (band_of (rows3 m c t) 3 192 (by omega) rfl _ _ 0 (by omega))
        (band_of (rows4 m c t) 3 192 (by omega) rfl _ _ 1 (by omega))
        (band_of (rows5 m c t) 3 192 (by omega) rfl _ _ 2 (by omega))
        (meta_of (rows7 m c t) 3 192 (by omega) rfl _)
        (band_of (rows9 m c t) 3 192 (by omega) rfl _ _ 0 (by omega))
        (band_of (rows10 m c t) 3 192 (by omega) rfl _ _ 1 (by omega))
        (band_of (rows11 m c t) 3 192 (by omega) rfl _ _ 2 (by omega))
        (meta_of (rows13 m c t) 3 192 (by omega) rfl _)
        (queries_of t 1 128 12 768 (by omega) rfl (by omega) rfl _ _)
        (queries_of t 1 128 13 832 (by omega) rfl (by omega) rfl _ _)
        (bias_of _ _ (bias15 m c t) 12 (by omega) _)
        (bias_of _ _ (bias15 m c t) 13 (by omega) _)
        (sink_of t 12 (by omega) _)
        (sink_of t 13 (by omega) _)
        x
        _
        _
        (at_row t.val 1 128 _ _ rfl h0)
        (at_col 6 768 _ _ rfl h1)
  case piece10 =>
    refine (congrFun (?_ : _ = item (View.ld (iblk m c 3 t) (Rect.unit ![0, 128] ![128, 64] inb_S128x256_S128x64_0_128)) (View.ld (iblk m c 4 t) (Rect.unit ![0, 128] ![128, 64] inb_S128x256_S128x64_0_128)) (View.ld (iblk m c 5 t) (Rect.unit ![0, 128] ![128, 64] inb_S128x256_S128x64_0_128)) (View.ld (iblk m c 7 t) (Rect.unit ![0, 128] ![128, 64] inb_S128x256_S128x64_0_128)) (View.ld (iblk m c 9 t) (Rect.unit ![0, 128] ![128, 64] inb_S128x256_S128x64_0_128)) (View.ld (iblk m c 10 t) (Rect.unit ![0, 128] ![128, 64] inb_S128x256_S128x64_0_128)) (View.ld (iblk m c 11 t) (Rect.unit ![0, 128] ![128, 64] inb_S128x256_S128x64_0_128)) (View.ld (iblk m c 13 t) (Rect.unit ![0, 128] ![128, 64] inb_S128x256_S128x64_0_128)) (View.ld (View.ld (iblk m c 1 t) (Rect.unit ![128, 0] ![128, 1024] inb_S384x1024_S128x1024_128_0)) (Rect.unit ![0, 640] ![128, 64] inb_S128x1024_S128x64_0_640)) (View.ld (View.ld (iblk m c 1 t) (Rect.unit ![128, 0] ![128, 1024] inb_S384x1024_S128x1024_128_0)) (Rect.unit ![0, 704] ![128, 64] inb_S128x1024_S128x64_0_704)) (View.ld (iblk m c 15 t) (Rect.unit ![0, 10, 0, 0] ![1, 1, 128, 512] inb_S1x16x128x512_S1x1x128x512_0_10_0_0)) (View.ld (iblk m c 15 t) (Rect.unit ![0, 11, 0, 0] ![1, 1, 128, 512] inb_S1x16x128x512_S1x1x128x512_0_11_0_0)) (View.ld (iblk m c 0 t) (Rect.unit ![10] ![1] inb_S16_S1_10) (Shape.Idx.first (s := S1) one_pos)) (View.ld (iblk m c 0 t) (Rect.unit ![11] ![1] inb_S16_S1_11) (Shape.Idx.first (s := S1) one_pos))) x).trans (?_ : item (View.ld (iblk m c 3 t) (Rect.unit ![0, 128] ![128, 64] inb_S128x256_S128x64_0_128)) (View.ld (iblk m c 4 t) (Rect.unit ![0, 128] ![128, 64] inb_S128x256_S128x64_0_128)) (View.ld (iblk m c 5 t) (Rect.unit ![0, 128] ![128, 64] inb_S128x256_S128x64_0_128)) (View.ld (iblk m c 7 t) (Rect.unit ![0, 128] ![128, 64] inb_S128x256_S128x64_0_128)) (View.ld (iblk m c 9 t) (Rect.unit ![0, 128] ![128, 64] inb_S128x256_S128x64_0_128)) (View.ld (iblk m c 10 t) (Rect.unit ![0, 128] ![128, 64] inb_S128x256_S128x64_0_128)) (View.ld (iblk m c 11 t) (Rect.unit ![0, 128] ![128, 64] inb_S128x256_S128x64_0_128)) (View.ld (iblk m c 13 t) (Rect.unit ![0, 128] ![128, 64] inb_S128x256_S128x64_0_128)) (View.ld (View.ld (iblk m c 1 t) (Rect.unit ![128, 0] ![128, 1024] inb_S384x1024_S128x1024_128_0)) (Rect.unit ![0, 640] ![128, 64] inb_S128x1024_S128x64_0_640)) (View.ld (View.ld (iblk m c 1 t) (Rect.unit ![128, 0] ![128, 1024] inb_S384x1024_S128x1024_128_0)) (Rect.unit ![0, 704] ![128, 64] inb_S128x1024_S128x64_0_704)) (View.ld (iblk m c 15 t) (Rect.unit ![0, 10, 0, 0] ![1, 1, 128, 512] inb_S1x16x128x512_S1x1x128x512_0_10_0_0)) (View.ld (iblk m c 15 t) (Rect.unit ![0, 11, 0, 0] ![1, 1, 128, 512] inb_S1x16x128x512_S1x1x128x512_0_11_0_0)) (View.ld (iblk m c 0 t) (Rect.unit ![10] ![1] inb_S16_S1_10) (Shape.Idx.first (s := S1) one_pos)) (View.ld (iblk m c 0 t) (Rect.unit ![11] ![1] inb_S16_S1_11) (Shape.Idx.first (s := S1) one_pos)) x = V y)
    · generalize (View.ld (iblk m c 3 t) (Rect.unit ![0, 128] ![128, 64] inb_S128x256_S128x64_0_128)) = k0
      generalize (View.ld (iblk m c 4 t) (Rect.unit ![0, 128] ![128, 64] inb_S128x256_S128x64_0_128)) = k1
      generalize (View.ld (iblk m c 5 t) (Rect.unit ![0, 128] ![128, 64] inb_S128x256_S128x64_0_128)) = k2
      generalize (View.ld (iblk m c 7 t) (Rect.unit ![0, 128] ![128, 64] inb_S128x256_S128x64_0_128)) = k3
      generalize (View.ld (iblk m c 9 t) (Rect.unit ![0, 128] ![128, 64] inb_S128x256_S128x64_0_128)) = v0
      generalize (View.ld (iblk m c 10 t) (Rect.unit ![0, 128] ![128, 64] inb_S128x256_S128x64_0_128)) = v1
      generalize (View.ld (iblk m c 11 t) (Rect.unit ![0, 128] ![128, 64] inb_S128x256_S128x64_0_128)) = v2
      generalize (View.ld (iblk m c 13 t) (Rect.unit ![0, 128] ![128, 64] inb_S128x256_S128x64_0_128)) = v3
      generalize (View.ld (View.ld (iblk m c 1 t) (Rect.unit ![128, 0] ![128, 1024] inb_S384x1024_S128x1024_128_0)) (Rect.unit ![0, 640] ![128, 64] inb_S128x1024_S128x64_0_640)) = qa
      generalize (View.ld (View.ld (iblk m c 1 t) (Rect.unit ![128, 0] ![128, 1024] inb_S384x1024_S128x1024_128_0)) (Rect.unit ![0, 704] ![128, 64] inb_S128x1024_S128x64_0_704)) = qb
      generalize (View.ld (iblk m c 15 t) (Rect.unit ![0, 10, 0, 0] ![1, 1, 128, 512] inb_S1x16x128x512_S1x1x128x512_0_10_0_0)) = ba
      generalize (View.ld (iblk m c 15 t) (Rect.unit ![0, 11, 0, 0] ![1, 1, 128, 512] inb_S1x16x128x512_S1x1x128x512_0_11_0_0)) = bb
      generalize (View.ld (iblk m c 0 t) (Rect.unit ![10] ![1] inb_S16_S1_10) (Shape.Idx.first (s := S1) one_pos)) = sa
      generalize (View.ld (iblk m c 0 t) (Rect.unit ![11] ![1] inb_S16_S1_11) (Shape.Idx.first (s := S1) one_pos)) = sb
      rfl
    · rw [hV]
      exact item_entry F (3 * t.val + 1) (by omega) 5 10 11 2 (by omega) rfl rfl rfl
        (band_of (rows3 m c t) 2 128 (by omega) rfl _ _ 0 (by omega))
        (band_of (rows4 m c t) 2 128 (by omega) rfl _ _ 1 (by omega))
        (band_of (rows5 m c t) 2 128 (by omega) rfl _ _ 2 (by omega))
        (meta_of (rows7 m c t) 2 128 (by omega) rfl _)
        (band_of (rows9 m c t) 2 128 (by omega) rfl _ _ 0 (by omega))
        (band_of (rows10 m c t) 2 128 (by omega) rfl _ _ 1 (by omega))
        (band_of (rows11 m c t) 2 128 (by omega) rfl _ _ 2 (by omega))
        (meta_of (rows13 m c t) 2 128 (by omega) rfl _)
        (queries_of t 1 128 10 640 (by omega) rfl (by omega) rfl _ _)
        (queries_of t 1 128 11 704 (by omega) rfl (by omega) rfl _ _)
        (bias_of _ _ (bias15 m c t) 10 (by omega) _)
        (bias_of _ _ (bias15 m c t) 11 (by omega) _)
        (sink_of t 10 (by omega) _)
        (sink_of t 11 (by omega) _)
        x
        _
        _
        (at_row t.val 1 128 _ _ rfl h0)
        (at_col 5 640 _ _ rfl h1)
  case piece11 =>
    refine (congrFun (?_ : _ = item (View.ld (iblk m c 3 t) (Rect.unit ![0, 128] ![128, 64] inb_S128x256_S128x64_0_128)) (View.ld (iblk m c 4 t) (Rect.unit ![0, 128] ![128, 64] inb_S128x256_S128x64_0_128)) (View.ld (iblk m c 5 t) (Rect.unit ![0, 128] ![128, 64] inb_S128x256_S128x64_0_128)) (View.ld (iblk m c 7 t) (Rect.unit ![0, 128] ![128, 64] inb_S128x256_S128x64_0_128)) (View.ld (iblk m c 9 t) (Rect.unit ![0, 128] ![128, 64] inb_S128x256_S128x64_0_128)) (View.ld (iblk m c 10 t) (Rect.unit ![0, 128] ![128, 64] inb_S128x256_S128x64_0_128)) (View.ld (iblk m c 11 t) (Rect.unit ![0, 128] ![128, 64] inb_S128x256_S128x64_0_128)) (View.ld (iblk m c 13 t) (Rect.unit ![0, 128] ![128, 64] inb_S128x256_S128x64_0_128)) (View.ld (View.ld (iblk m c 1 t) (Rect.unit ![128, 0] ![128, 1024] inb_S384x1024_S128x1024_128_0)) (Rect.unit ![0, 512] ![128, 64] inb_S128x1024_S128x64_0_512)) (View.ld (View.ld (iblk m c 1 t) (Rect.unit ![128, 0] ![128, 1024] inb_S384x1024_S128x1024_128_0)) (Rect.unit ![0, 576] ![128, 64] inb_S128x1024_S128x64_0_576)) (View.ld (iblk m c 15 t) (Rect.unit ![0, 8, 0, 0] ![1, 1, 128, 512] inb_S1x16x128x512_S1x1x128x512_0_8_0_0)) (View.ld (iblk m c 15 t) (Rect.unit ![0, 9, 0, 0] ![1, 1, 128, 512] inb_S1x16x128x512_S1x1x128x512_0_9_0_0)) (View.ld (iblk m c 0 t) (Rect.unit ![8] ![1] inb_S16_S1_8) (Shape.Idx.first (s := S1) one_pos)) (View.ld (iblk m c 0 t) (Rect.unit ![9] ![1] inb_S16_S1_9) (Shape.Idx.first (s := S1) one_pos))) x).trans (?_ : item (View.ld (iblk m c 3 t) (Rect.unit ![0, 128] ![128, 64] inb_S128x256_S128x64_0_128)) (View.ld (iblk m c 4 t) (Rect.unit ![0, 128] ![128, 64] inb_S128x256_S128x64_0_128)) (View.ld (iblk m c 5 t) (Rect.unit ![0, 128] ![128, 64] inb_S128x256_S128x64_0_128)) (View.ld (iblk m c 7 t) (Rect.unit ![0, 128] ![128, 64] inb_S128x256_S128x64_0_128)) (View.ld (iblk m c 9 t) (Rect.unit ![0, 128] ![128, 64] inb_S128x256_S128x64_0_128)) (View.ld (iblk m c 10 t) (Rect.unit ![0, 128] ![128, 64] inb_S128x256_S128x64_0_128)) (View.ld (iblk m c 11 t) (Rect.unit ![0, 128] ![128, 64] inb_S128x256_S128x64_0_128)) (View.ld (iblk m c 13 t) (Rect.unit ![0, 128] ![128, 64] inb_S128x256_S128x64_0_128)) (View.ld (View.ld (iblk m c 1 t) (Rect.unit ![128, 0] ![128, 1024] inb_S384x1024_S128x1024_128_0)) (Rect.unit ![0, 512] ![128, 64] inb_S128x1024_S128x64_0_512)) (View.ld (View.ld (iblk m c 1 t) (Rect.unit ![128, 0] ![128, 1024] inb_S384x1024_S128x1024_128_0)) (Rect.unit ![0, 576] ![128, 64] inb_S128x1024_S128x64_0_576)) (View.ld (iblk m c 15 t) (Rect.unit ![0, 8, 0, 0] ![1, 1, 128, 512] inb_S1x16x128x512_S1x1x128x512_0_8_0_0)) (View.ld (iblk m c 15 t) (Rect.unit ![0, 9, 0, 0] ![1, 1, 128, 512] inb_S1x16x128x512_S1x1x128x512_0_9_0_0)) (View.ld (iblk m c 0 t) (Rect.unit ![8] ![1] inb_S16_S1_8) (Shape.Idx.first (s := S1) one_pos)) (View.ld (iblk m c 0 t) (Rect.unit ![9] ![1] inb_S16_S1_9) (Shape.Idx.first (s := S1) one_pos)) x = V y)
    · generalize (View.ld (iblk m c 3 t) (Rect.unit ![0, 128] ![128, 64] inb_S128x256_S128x64_0_128)) = k0
      generalize (View.ld (iblk m c 4 t) (Rect.unit ![0, 128] ![128, 64] inb_S128x256_S128x64_0_128)) = k1
      generalize (View.ld (iblk m c 5 t) (Rect.unit ![0, 128] ![128, 64] inb_S128x256_S128x64_0_128)) = k2
      generalize (View.ld (iblk m c 7 t) (Rect.unit ![0, 128] ![128, 64] inb_S128x256_S128x64_0_128)) = k3
      generalize (View.ld (iblk m c 9 t) (Rect.unit ![0, 128] ![128, 64] inb_S128x256_S128x64_0_128)) = v0
      generalize (View.ld (iblk m c 10 t) (Rect.unit ![0, 128] ![128, 64] inb_S128x256_S128x64_0_128)) = v1
      generalize (View.ld (iblk m c 11 t) (Rect.unit ![0, 128] ![128, 64] inb_S128x256_S128x64_0_128)) = v2
      generalize (View.ld (iblk m c 13 t) (Rect.unit ![0, 128] ![128, 64] inb_S128x256_S128x64_0_128)) = v3
      generalize (View.ld (View.ld (iblk m c 1 t) (Rect.unit ![128, 0] ![128, 1024] inb_S384x1024_S128x1024_128_0)) (Rect.unit ![0, 512] ![128, 64] inb_S128x1024_S128x64_0_512)) = qa
      generalize (View.ld (View.ld (iblk m c 1 t) (Rect.unit ![128, 0] ![128, 1024] inb_S384x1024_S128x1024_128_0)) (Rect.unit ![0, 576] ![128, 64] inb_S128x1024_S128x64_0_576)) = qb
      generalize (View.ld (iblk m c 15 t) (Rect.unit ![0, 8, 0, 0] ![1, 1, 128, 512] inb_S1x16x128x512_S1x1x128x512_0_8_0_0)) = ba
      generalize (View.ld (iblk m c 15 t) (Rect.unit ![0, 9, 0, 0] ![1, 1, 128, 512] inb_S1x16x128x512_S1x1x128x512_0_9_0_0)) = bb
      generalize (View.ld (iblk m c 0 t) (Rect.unit ![8] ![1] inb_S16_S1_8) (Shape.Idx.first (s := S1) one_pos)) = sa
      generalize (View.ld (iblk m c 0 t) (Rect.unit ![9] ![1] inb_S16_S1_9) (Shape.Idx.first (s := S1) one_pos)) = sb
      rfl
    · rw [hV]
      exact item_entry F (3 * t.val + 1) (by omega) 4 8 9 2 (by omega) rfl rfl rfl
        (band_of (rows3 m c t) 2 128 (by omega) rfl _ _ 0 (by omega))
        (band_of (rows4 m c t) 2 128 (by omega) rfl _ _ 1 (by omega))
        (band_of (rows5 m c t) 2 128 (by omega) rfl _ _ 2 (by omega))
        (meta_of (rows7 m c t) 2 128 (by omega) rfl _)
        (band_of (rows9 m c t) 2 128 (by omega) rfl _ _ 0 (by omega))
        (band_of (rows10 m c t) 2 128 (by omega) rfl _ _ 1 (by omega))
        (band_of (rows11 m c t) 2 128 (by omega) rfl _ _ 2 (by omega))
        (meta_of (rows13 m c t) 2 128 (by omega) rfl _)
        (queries_of t 1 128 8 512 (by omega) rfl (by omega) rfl _ _)
        (queries_of t 1 128 9 576 (by omega) rfl (by omega) rfl _ _)
        (bias_of _ _ (bias15 m c t) 8 (by omega) _)
        (bias_of _ _ (bias15 m c t) 9 (by omega) _)
        (sink_of t 8 (by omega) _)
        (sink_of t 9 (by omega) _)
        x
        _
        _
        (at_row t.val 1 128 _ _ rfl h0)
        (at_col 4 512 _ _ rfl h1)
  case piece12 =>
    refine (congrFun (?_ : _ = item (View.ld (iblk m c 3 t) (Rect.unit ![0, 64] ![128, 64] inb_S128x256_S128x64_0_64)) (View.ld (iblk m c 4 t) (Rect.unit ![0, 64] ![128, 64] inb_S128x256_S128x64_0_64)) (View.ld (iblk m c 5 t) (Rect.unit ![0, 64] ![128, 64] inb_S128x256_S128x64_0_64)) (View.ld (iblk m c 7 t) (Rect.unit ![0, 64] ![128, 64] inb_S128x256_S128x64_0_64)) (View.ld (iblk m c 9 t) (Rect.unit ![0, 64] ![128, 64] inb_S128x256_S128x64_0_64)) (View.ld (iblk m c 10 t) (Rect.unit ![0, 64] ![128, 64] inb_S128x256_S128x64_0_64)) (View.ld (iblk m c 11 t) (Rect.unit ![0, 64] ![128, 64] inb_S128x256_S128x64_0_64)) (View.ld (iblk m c 13 t) (Rect.unit ![0, 64] ![128, 64] inb_S128x256_S128x64_0_64)) (View.ld (View.ld (iblk m c 1 t) (Rect.unit ![128, 0] ![128, 1024] inb_S384x1024_S128x1024_128_0)) (Rect.unit ![0, 384] ![128, 64] inb_S128x1024_S128x64_0_384)) (View.ld (View.ld (iblk m c 1 t) (Rect.unit ![128, 0] ![128, 1024] inb_S384x1024_S128x1024_128_0)) (Rect.unit ![0, 448] ![128, 64] inb_S128x1024_S128x64_0_448)) (View.ld (iblk m c 15 t) (Rect.unit ![0, 6, 0, 0] ![1, 1, 128, 512] inb_S1x16x128x512_S1x1x128x512_0_6_0_0)) (View.ld (iblk m c 15 t) (Rect.unit ![0, 7, 0, 0] ![1, 1, 128, 512] inb_S1x16x128x512_S1x1x128x512_0_7_0_0)) (View.ld (iblk m c 0 t) (Rect.unit ![6] ![1] inb_S16_S1_6) (Shape.Idx.first (s := S1) one_pos)) (View.ld (iblk m c 0 t) (Rect.unit ![7] ![1] inb_S16_S1_7) (Shape.Idx.first (s := S1) one_pos))) x).trans (?_ : item (View.ld (iblk m c 3 t) (Rect.unit ![0, 64] ![128, 64] inb_S128x256_S128x64_0_64)) (View.ld (iblk m c 4 t) (Rect.unit ![0, 64] ![128, 64] inb_S128x256_S128x64_0_64)) (View.ld (iblk m c 5 t) (Rect.unit ![0, 64] ![128, 64] inb_S128x256_S128x64_0_64)) (View.ld (iblk m c 7 t) (Rect.unit ![0, 64] ![128, 64] inb_S128x256_S128x64_0_64)) (View.ld (iblk m c 9 t) (Rect.unit ![0, 64] ![128, 64] inb_S128x256_S128x64_0_64)) (View.ld (iblk m c 10 t) (Rect.unit ![0, 64] ![128, 64] inb_S128x256_S128x64_0_64)) (View.ld (iblk m c 11 t) (Rect.unit ![0, 64] ![128, 64] inb_S128x256_S128x64_0_64)) (View.ld (iblk m c 13 t) (Rect.unit ![0, 64] ![128, 64] inb_S128x256_S128x64_0_64)) (View.ld (View.ld (iblk m c 1 t) (Rect.unit ![128, 0] ![128, 1024] inb_S384x1024_S128x1024_128_0)) (Rect.unit ![0, 384] ![128, 64] inb_S128x1024_S128x64_0_384)) (View.ld (View.ld (iblk m c 1 t) (Rect.unit ![128, 0] ![128, 1024] inb_S384x1024_S128x1024_128_0)) (Rect.unit ![0, 448] ![128, 64] inb_S128x1024_S128x64_0_448)) (View.ld (iblk m c 15 t) (Rect.unit ![0, 6, 0, 0] ![1, 1, 128, 512] inb_S1x16x128x512_S1x1x128x512_0_6_0_0)) (View.ld (iblk m c 15 t) (Rect.unit ![0, 7, 0, 0] ![1, 1, 128, 512] inb_S1x16x128x512_S1x1x128x512_0_7_0_0)) (View.ld (iblk m c 0 t) (Rect.unit ![6] ![1] inb_S16_S1_6) (Shape.Idx.first (s := S1) one_pos)) (View.ld (iblk m c 0 t) (Rect.unit ![7] ![1] inb_S16_S1_7) (Shape.Idx.first (s := S1) one_pos)) x = V y)
    · generalize (View.ld (iblk m c 3 t) (Rect.unit ![0, 64] ![128, 64] inb_S128x256_S128x64_0_64)) = k0
      generalize (View.ld (iblk m c 4 t) (Rect.unit ![0, 64] ![128, 64] inb_S128x256_S128x64_0_64)) = k1
      generalize (View.ld (iblk m c 5 t) (Rect.unit ![0, 64] ![128, 64] inb_S128x256_S128x64_0_64)) = k2
      generalize (View.ld (iblk m c 7 t) (Rect.unit ![0, 64] ![128, 64] inb_S128x256_S128x64_0_64)) = k3
      generalize (View.ld (iblk m c 9 t) (Rect.unit ![0, 64] ![128, 64] inb_S128x256_S128x64_0_64)) = v0
      generalize (View.ld (iblk m c 10 t) (Rect.unit ![0, 64] ![128, 64] inb_S128x256_S128x64_0_64)) = v1
      generalize (View.ld (iblk m c 11 t) (Rect.unit ![0, 64] ![128, 64] inb_S128x256_S128x64_0_64)) = v2
      generalize (View.ld (iblk m c 13 t) (Rect.unit ![0, 64] ![128, 64] inb_S128x256_S128x64_0_64)) = v3
      generalize (View.ld (View.ld (iblk m c 1 t) (Rect.unit ![128, 0] ![128, 1024] inb_S384x1024_S128x1024_128_0)) (Rect.unit ![0, 384] ![128, 64] inb_S128x1024_S128x64_0_384)) = qa
      generalize (View.ld (View.ld (iblk m c 1 t) (Rect.unit ![128, 0] ![128, 1024] inb_S384x1024_S128x1024_128_0)) (Rect.unit ![0, 448] ![128, 64] inb_S128x1024_S128x64_0_448)) = qb
      generalize (View.ld (iblk m c 15 t) (Rect.unit ![0, 6, 0, 0] ![1, 1, 128, 512] inb_S1x16x128x512_S1x1x128x512_0_6_0_0)) = ba
      generalize (View.ld (iblk m c 15 t) (Rect.unit ![0, 7, 0, 0] ![1, 1, 128, 512] inb_S1x16x128x512_S1x1x128x512_0_7_0_0)) = bb
      generalize (View.ld (iblk m c 0 t) (Rect.unit ![6] ![1] inb_S16_S1_6) (Shape.Idx.first (s := S1) one_pos)) = sa
      generalize (View.ld (iblk m c 0 t) (Rect.unit ![7] ![1] inb_S16_S1_7) (Shape.Idx.first (s := S1) one_pos)) = sb
      rfl
    · rw [hV]
      exact item_entry F (3 * t.val + 1) (by omega) 3 6 7 1 (by omega) rfl rfl rfl
        (band_of (rows3 m c t) 1 64 (by omega) rfl _ _ 0 (by omega))
        (band_of (rows4 m c t) 1 64 (by omega) rfl _ _ 1 (by omega))
        (band_of (rows5 m c t) 1 64 (by omega) rfl _ _ 2 (by omega))
        (meta_of (rows7 m c t) 1 64 (by omega) rfl _)
        (band_of (rows9 m c t) 1 64 (by omega) rfl _ _ 0 (by omega))
        (band_of (rows10 m c t) 1 64 (by omega) rfl _ _ 1 (by omega))
        (band_of (rows11 m c t) 1 64 (by omega) rfl _ _ 2 (by omega))
        (meta_of (rows13 m c t) 1 64 (by omega) rfl _)
        (queries_of t 1 128 6 384 (by omega) rfl (by omega) rfl _ _)
        (queries_of t 1 128 7 448 (by omega) rfl (by omega) rfl _ _)
        (bias_of _ _ (bias15 m c t) 6 (by omega) _)
        (bias_of _ _ (bias15 m c t) 7 (by omega) _)
        (sink_of t 6 (by omega) _)
        (sink_of t 7 (by omega) _)
        x
        _
        _
        (at_row t.val 1 128 _ _ rfl h0)
        (at_col 3 384 _ _ rfl h1)
  case piece13 =>
    refine (congrFun (?_ : _ = item (View.ld (iblk m c 3 t) (Rect.unit ![0, 64] ![128, 64] inb_S128x256_S128x64_0_64)) (View.ld (iblk m c 4 t) (Rect.unit ![0, 64] ![128, 64] inb_S128x256_S128x64_0_64)) (View.ld (iblk m c 5 t) (Rect.unit ![0, 64] ![128, 64] inb_S128x256_S128x64_0_64)) (View.ld (iblk m c 7 t) (Rect.unit ![0, 64] ![128, 64] inb_S128x256_S128x64_0_64)) (View.ld (iblk m c 9 t) (Rect.unit ![0, 64] ![128, 64] inb_S128x256_S128x64_0_64)) (View.ld (iblk m c 10 t) (Rect.unit ![0, 64] ![128, 64] inb_S128x256_S128x64_0_64)) (View.ld (iblk m c 11 t) (Rect.unit ![0, 64] ![128, 64] inb_S128x256_S128x64_0_64)) (View.ld (iblk m c 13 t) (Rect.unit ![0, 64] ![128, 64] inb_S128x256_S128x64_0_64)) (View.ld (View.ld (iblk m c 1 t) (Rect.unit ![128, 0] ![128, 1024] inb_S384x1024_S128x1024_128_0)) (Rect.unit ![0, 256] ![128, 64] inb_S128x1024_S128x64_0_256)) (View.ld (View.ld (iblk m c 1 t) (Rect.unit ![128, 0] ![128, 1024] inb_S384x1024_S128x1024_128_0)) (Rect.unit ![0, 320] ![128, 64] inb_S128x1024_S128x64_0_320)) (View.ld (iblk m c 15 t) (Rect.unit ![0, 4, 0, 0] ![1, 1, 128, 512] inb_S1x16x128x512_S1x1x128x512_0_4_0_0)) (View.ld (iblk m c 15 t) (Rect.unit ![0, 5, 0, 0] ![1, 1, 128, 512] inb_S1x16x128x512_S1x1x128x512_0_5_0_0)) (View.ld (iblk m c 0 t) (Rect.unit ![4] ![1] inb_S16_S1_4) (Shape.Idx.first (s := S1) one_pos)) (View.ld (iblk m c 0 t) (Rect.unit ![5] ![1] inb_S16_S1_5) (Shape.Idx.first (s := S1) one_pos))) x).trans (?_ : item (View.ld (iblk m c 3 t) (Rect.unit ![0, 64] ![128, 64] inb_S128x256_S128x64_0_64)) (View.ld (iblk m c 4 t) (Rect.unit ![0, 64] ![128, 64] inb_S128x256_S128x64_0_64)) (View.ld (iblk m c 5 t) (Rect.unit ![0, 64] ![128, 64] inb_S128x256_S128x64_0_64)) (View.ld (iblk m c 7 t) (Rect.unit ![0, 64] ![128, 64] inb_S128x256_S128x64_0_64)) (View.ld (iblk m c 9 t) (Rect.unit ![0, 64] ![128, 64] inb_S128x256_S128x64_0_64)) (View.ld (iblk m c 10 t) (Rect.unit ![0, 64] ![128, 64] inb_S128x256_S128x64_0_64)) (View.ld (iblk m c 11 t) (Rect.unit ![0, 64] ![128, 64] inb_S128x256_S128x64_0_64)) (View.ld (iblk m c 13 t) (Rect.unit ![0, 64] ![128, 64] inb_S128x256_S128x64_0_64)) (View.ld (View.ld (iblk m c 1 t) (Rect.unit ![128, 0] ![128, 1024] inb_S384x1024_S128x1024_128_0)) (Rect.unit ![0, 256] ![128, 64] inb_S128x1024_S128x64_0_256)) (View.ld (View.ld (iblk m c 1 t) (Rect.unit ![128, 0] ![128, 1024] inb_S384x1024_S128x1024_128_0)) (Rect.unit ![0, 320] ![128, 64] inb_S128x1024_S128x64_0_320)) (View.ld (iblk m c 15 t) (Rect.unit ![0, 4, 0, 0] ![1, 1, 128, 512] inb_S1x16x128x512_S1x1x128x512_0_4_0_0)) (View.ld (iblk m c 15 t) (Rect.unit ![0, 5, 0, 0] ![1, 1, 128, 512] inb_S1x16x128x512_S1x1x128x512_0_5_0_0)) (View.ld (iblk m c 0 t) (Rect.unit ![4] ![1] inb_S16_S1_4) (Shape.Idx.first (s := S1) one_pos)) (View.ld (iblk m c 0 t) (Rect.unit ![5] ![1] inb_S16_S1_5) (Shape.Idx.first (s := S1) one_pos)) x = V y)
    · generalize (View.ld (iblk m c 3 t) (Rect.unit ![0, 64] ![128, 64] inb_S128x256_S128x64_0_64)) = k0
      generalize (View.ld (iblk m c 4 t) (Rect.unit ![0, 64] ![128, 64] inb_S128x256_S128x64_0_64)) = k1
      generalize (View.ld (iblk m c 5 t) (Rect.unit ![0, 64] ![128, 64] inb_S128x256_S128x64_0_64)) = k2
      generalize (View.ld (iblk m c 7 t) (Rect.unit ![0, 64] ![128, 64] inb_S128x256_S128x64_0_64)) = k3
      generalize (View.ld (iblk m c 9 t) (Rect.unit ![0, 64] ![128, 64] inb_S128x256_S128x64_0_64)) = v0
      generalize (View.ld (iblk m c 10 t) (Rect.unit ![0, 64] ![128, 64] inb_S128x256_S128x64_0_64)) = v1
      generalize (View.ld (iblk m c 11 t) (Rect.unit ![0, 64] ![128, 64] inb_S128x256_S128x64_0_64)) = v2
      generalize (View.ld (iblk m c 13 t) (Rect.unit ![0, 64] ![128, 64] inb_S128x256_S128x64_0_64)) = v3
      generalize (View.ld (View.ld (iblk m c 1 t) (Rect.unit ![128, 0] ![128, 1024] inb_S384x1024_S128x1024_128_0)) (Rect.unit ![0, 256] ![128, 64] inb_S128x1024_S128x64_0_256)) = qa
      generalize (View.ld (View.ld (iblk m c 1 t) (Rect.unit ![128, 0] ![128, 1024] inb_S384x1024_S128x1024_128_0)) (Rect.unit ![0, 320] ![128, 64] inb_S128x1024_S128x64_0_320)) = qb
      generalize (View.ld (iblk m c 15 t) (Rect.unit ![0, 4, 0, 0] ![1, 1, 128, 512] inb_S1x16x128x512_S1x1x128x512_0_4_0_0)) = ba
      generalize (View.ld (iblk m c 15 t) (Rect.unit ![0, 5, 0, 0] ![1, 1, 128, 512] inb_S1x16x128x512_S1x1x128x512_0_5_0_0)) = bb
      generalize (View.ld (iblk m c 0 t) (Rect.unit ![4] ![1] inb_S16_S1_4) (Shape.Idx.first (s := S1) one_pos)) = sa
      generalize (View.ld (iblk m c 0 t) (Rect.unit ![5] ![1] inb_S16_S1_5) (Shape.Idx.first (s := S1) one_pos)) = sb
      rfl
    · rw [hV]
      exact item_entry F (3 * t.val + 1) (by omega) 2 4 5 1 (by omega) rfl rfl rfl
        (band_of (rows3 m c t) 1 64 (by omega) rfl _ _ 0 (by omega))
        (band_of (rows4 m c t) 1 64 (by omega) rfl _ _ 1 (by omega))
        (band_of (rows5 m c t) 1 64 (by omega) rfl _ _ 2 (by omega))
        (meta_of (rows7 m c t) 1 64 (by omega) rfl _)
        (band_of (rows9 m c t) 1 64 (by omega) rfl _ _ 0 (by omega))
        (band_of (rows10 m c t) 1 64 (by omega) rfl _ _ 1 (by omega))
        (band_of (rows11 m c t) 1 64 (by omega) rfl _ _ 2 (by omega))
        (meta_of (rows13 m c t) 1 64 (by omega) rfl _)
        (queries_of t 1 128 4 256 (by omega) rfl (by omega) rfl _ _)
        (queries_of t 1 128 5 320 (by omega) rfl (by omega) rfl _ _)
        (bias_of _ _ (bias15 m c t) 4 (by omega) _)
        (bias_of _ _ (bias15 m c t) 5 (by omega) _)
        (sink_of t 4 (by omega) _)
        (sink_of t 5 (by omega) _)
        x
        _
        _
        (at_row t.val 1 128 _ _ rfl h0)
        (at_col 2 256 _ _ rfl h1)
  case piece14 =>
    refine (congrFun (?_ : _ = item (View.ld (iblk m c 3 t) (Rect.unit ![0, 0] ![128, 64] inb_S128x256_S128x64_0_0)) (View.ld (iblk m c 4 t) (Rect.unit ![0, 0] ![128, 64] inb_S128x256_S128x64_0_0)) (View.ld (iblk m c 5 t) (Rect.unit ![0, 0] ![128, 64] inb_S128x256_S128x64_0_0)) (View.ld (iblk m c 7 t) (Rect.unit ![0, 0] ![128, 64] inb_S128x256_S128x64_0_0)) (View.ld (iblk m c 9 t) (Rect.unit ![0, 0] ![128, 64] inb_S128x256_S128x64_0_0)) (View.ld (iblk m c 10 t) (Rect.unit ![0, 0] ![128, 64] inb_S128x256_S128x64_0_0)) (View.ld (iblk m c 11 t) (Rect.unit ![0, 0] ![128, 64] inb_S128x256_S128x64_0_0)) (View.ld (iblk m c 13 t) (Rect.unit ![0, 0] ![128, 64] inb_S128x256_S128x64_0_0)) (View.ld (View.ld (iblk m c 1 t) (Rect.unit ![128, 0] ![128, 1024] inb_S384x1024_S128x1024_128_0)) (Rect.unit ![0, 128] ![128, 64] inb_S128x1024_S128x64_0_128)) (View.ld (View.ld (iblk m c 1 t) (Rect.unit ![128, 0] ![128, 1024] inb_S384x1024_S128x1024_128_0)) (Rect.unit ![0, 192] ![128, 64] inb_S128x1024_S128x64_0_192)) (View.ld (iblk m c 15 t) (Rect.unit ![0, 2, 0, 0] ![1, 1, 128, 512] inb_S1x16x128x512_S1x1x128x512_0_2_0_0)) (View.ld (iblk m c 15 t) (Rect.unit ![0, 3, 0, 0] ![1, 1, 128, 512] inb_S1x16x128x512_S1x1x128x512_0_3_0_0)) (View.ld (iblk m c 0 t) (Rect.unit ![2] ![1] inb_S16_S1_2) (Shape.Idx.first (s := S1) one_pos)) (View.ld (iblk m c 0 t) (Rect.unit ![3] ![1] inb_S16_S1_3) (Shape.Idx.first (s := S1) one_pos))) x).trans (?_ : item (View.ld (iblk m c 3 t) (Rect.unit ![0, 0] ![128, 64] inb_S128x256_S128x64_0_0)) (View.ld (iblk m c 4 t) (Rect.unit ![0, 0] ![128, 64] inb_S128x256_S128x64_0_0)) (View.ld (iblk m c 5 t) (Rect.unit ![0, 0] ![128, 64] inb_S128x256_S128x64_0_0)) (View.ld (iblk m c 7 t) (Rect.unit ![0, 0] ![128, 64] inb_S128x256_S128x64_0_0)) (View.ld (iblk m c 9 t) (Rect.unit ![0, 0] ![128, 64] inb_S128x256_S128x64_0_0)) (View.ld (iblk m c 10 t) (Rect.unit ![0, 0] ![128, 64] inb_S128x256_S128x64_0_0)) (View.ld (iblk m c 11 t) (Rect.unit ![0, 0] ![128, 64] inb_S128x256_S128x64_0_0)) (View.ld (iblk m c 13 t) (Rect.unit ![0, 0] ![128, 64] inb_S128x256_S128x64_0_0)) (View.ld (View.ld (iblk m c 1 t) (Rect.unit ![128, 0] ![128, 1024] inb_S384x1024_S128x1024_128_0)) (Rect.unit ![0, 128] ![128, 64] inb_S128x1024_S128x64_0_128)) (View.ld (View.ld (iblk m c 1 t) (Rect.unit ![128, 0] ![128, 1024] inb_S384x1024_S128x1024_128_0)) (Rect.unit ![0, 192] ![128, 64] inb_S128x1024_S128x64_0_192)) (View.ld (iblk m c 15 t) (Rect.unit ![0, 2, 0, 0] ![1, 1, 128, 512] inb_S1x16x128x512_S1x1x128x512_0_2_0_0)) (View.ld (iblk m c 15 t) (Rect.unit ![0, 3, 0, 0] ![1, 1, 128, 512] inb_S1x16x128x512_S1x1x128x512_0_3_0_0)) (View.ld (iblk m c 0 t) (Rect.unit ![2] ![1] inb_S16_S1_2) (Shape.Idx.first (s := S1) one_pos)) (View.ld (iblk m c 0 t) (Rect.unit ![3] ![1] inb_S16_S1_3) (Shape.Idx.first (s := S1) one_pos)) x = V y)
    · generalize (View.ld (iblk m c 3 t) (Rect.unit ![0, 0] ![128, 64] inb_S128x256_S128x64_0_0)) = k0
      generalize (View.ld (iblk m c 4 t) (Rect.unit ![0, 0] ![128, 64] inb_S128x256_S128x64_0_0)) = k1
      generalize (View.ld (iblk m c 5 t) (Rect.unit ![0, 0] ![128, 64] inb_S128x256_S128x64_0_0)) = k2
      generalize (View.ld (iblk m c 7 t) (Rect.unit ![0, 0] ![128, 64] inb_S128x256_S128x64_0_0)) = k3
      generalize (View.ld (iblk m c 9 t) (Rect.unit ![0, 0] ![128, 64] inb_S128x256_S128x64_0_0)) = v0
      generalize (View.ld (iblk m c 10 t) (Rect.unit ![0, 0] ![128, 64] inb_S128x256_S128x64_0_0)) = v1
      generalize (View.ld (iblk m c 11 t) (Rect.unit ![0, 0] ![128, 64] inb_S128x256_S128x64_0_0)) = v2
      generalize (View.ld (iblk m c 13 t) (Rect.unit ![0, 0] ![128, 64] inb_S128x256_S128x64_0_0)) = v3
      generalize (View.ld (View.ld (iblk m c 1 t) (Rect.unit ![128, 0] ![128, 1024] inb_S384x1024_S128x1024_128_0)) (Rect.unit ![0, 128] ![128, 64] inb_S128x1024_S128x64_0_128)) = qa
      generalize (View.ld (View.ld (iblk m c 1 t) (Rect.unit ![128, 0] ![128, 1024] inb_S384x1024_S128x1024_128_0)) (Rect.unit ![0, 192] ![128, 64] inb_S128x1024_S128x64_0_192)) = qb
      generalize (View.ld (iblk m c 15 t) (Rect.unit ![0, 2, 0, 0] ![1, 1, 128, 512] inb_S1x16x128x512_S1x1x128x512_0_2_0_0)) = ba
      generalize (View.ld (iblk m c 15 t) (Rect.unit ![0, 3, 0, 0] ![1, 1, 128, 512] inb_S1x16x128x512_S1x1x128x512_0_3_0_0)) = bb
      generalize (View.ld (iblk m c 0 t) (Rect.unit ![2] ![1] inb_S16_S1_2) (Shape.Idx.first (s := S1) one_pos)) = sa
      generalize (View.ld (iblk m c 0 t) (Rect.unit ![3] ![1] inb_S16_S1_3) (Shape.Idx.first (s := S1) one_pos)) = sb
      rfl
    · rw [hV]
      exact item_entry F (3 * t.val + 1) (by omega) 1 2 3 0 (by omega) rfl rfl rfl
        (band_of (rows3 m c t) 0 0 (by omega) rfl _ _ 0 (by omega))
        (band_of (rows4 m c t) 0 0 (by omega) rfl _ _ 1 (by omega))
        (band_of (rows5 m c t) 0 0 (by omega) rfl _ _ 2 (by omega))
        (meta_of (rows7 m c t) 0 0 (by omega) rfl _)
        (band_of (rows9 m c t) 0 0 (by omega) rfl _ _ 0 (by omega))
        (band_of (rows10 m c t) 0 0 (by omega) rfl _ _ 1 (by omega))
        (band_of (rows11 m c t) 0 0 (by omega) rfl _ _ 2 (by omega))
        (meta_of (rows13 m c t) 0 0 (by omega) rfl _)
        (queries_of t 1 128 2 128 (by omega) rfl (by omega) rfl _ _)
        (queries_of t 1 128 3 192 (by omega) rfl (by omega) rfl _ _)
        (bias_of _ _ (bias15 m c t) 2 (by omega) _)
        (bias_of _ _ (bias15 m c t) 3 (by omega) _)
        (sink_of t 2 (by omega) _)
        (sink_of t 3 (by omega) _)
        x
        _
        _
        (at_row t.val 1 128 _ _ rfl h0)
        (at_col 1 128 _ _ rfl h1)
  case piece15 =>
    refine (congrFun (?_ : _ = item (View.ld (iblk m c 3 t) (Rect.unit ![0, 0] ![128, 64] inb_S128x256_S128x64_0_0)) (View.ld (iblk m c 4 t) (Rect.unit ![0, 0] ![128, 64] inb_S128x256_S128x64_0_0)) (View.ld (iblk m c 5 t) (Rect.unit ![0, 0] ![128, 64] inb_S128x256_S128x64_0_0)) (View.ld (iblk m c 7 t) (Rect.unit ![0, 0] ![128, 64] inb_S128x256_S128x64_0_0)) (View.ld (iblk m c 9 t) (Rect.unit ![0, 0] ![128, 64] inb_S128x256_S128x64_0_0)) (View.ld (iblk m c 10 t) (Rect.unit ![0, 0] ![128, 64] inb_S128x256_S128x64_0_0)) (View.ld (iblk m c 11 t) (Rect.unit ![0, 0] ![128, 64] inb_S128x256_S128x64_0_0)) (View.ld (iblk m c 13 t) (Rect.unit ![0, 0] ![128, 64] inb_S128x256_S128x64_0_0)) (View.ld (View.ld (iblk m c 1 t) (Rect.unit ![128, 0] ![128, 1024] inb_S384x1024_S128x1024_128_0)) (Rect.unit ![0, 0] ![128, 64] inb_S128x1024_S128x64_0_0)) (View.ld (View.ld (iblk m c 1 t) (Rect.unit ![128, 0] ![128, 1024] inb_S384x1024_S128x1024_128_0)) (Rect.unit ![0, 64] ![128, 64] inb_S128x1024_S128x64_0_64)) (View.ld (iblk m c 15 t) (Rect.unit ![0, 0, 0, 0] ![1, 1, 128, 512] inb_S1x16x128x512_S1x1x128x512_0_0_0_0)) (View.ld (iblk m c 15 t) (Rect.unit ![0, 1, 0, 0] ![1, 1, 128, 512] inb_S1x16x128x512_S1x1x128x512_0_1_0_0)) (View.ld (iblk m c 0 t) (Rect.unit ![0] ![1] inb_S16_S1_0) (Shape.Idx.first (s := S1) one_pos)) (View.ld (iblk m c 0 t) (Rect.unit ![1] ![1] inb_S16_S1_1) (Shape.Idx.first (s := S1) one_pos))) x).trans (?_ : item (View.ld (iblk m c 3 t) (Rect.unit ![0, 0] ![128, 64] inb_S128x256_S128x64_0_0)) (View.ld (iblk m c 4 t) (Rect.unit ![0, 0] ![128, 64] inb_S128x256_S128x64_0_0)) (View.ld (iblk m c 5 t) (Rect.unit ![0, 0] ![128, 64] inb_S128x256_S128x64_0_0)) (View.ld (iblk m c 7 t) (Rect.unit ![0, 0] ![128, 64] inb_S128x256_S128x64_0_0)) (View.ld (iblk m c 9 t) (Rect.unit ![0, 0] ![128, 64] inb_S128x256_S128x64_0_0)) (View.ld (iblk m c 10 t) (Rect.unit ![0, 0] ![128, 64] inb_S128x256_S128x64_0_0)) (View.ld (iblk m c 11 t) (Rect.unit ![0, 0] ![128, 64] inb_S128x256_S128x64_0_0)) (View.ld (iblk m c 13 t) (Rect.unit ![0, 0] ![128, 64] inb_S128x256_S128x64_0_0)) (View.ld (View.ld (iblk m c 1 t) (Rect.unit ![128, 0] ![128, 1024] inb_S384x1024_S128x1024_128_0)) (Rect.unit ![0, 0] ![128, 64] inb_S128x1024_S128x64_0_0)) (View.ld (View.ld (iblk m c 1 t) (Rect.unit ![128, 0] ![128, 1024] inb_S384x1024_S128x1024_128_0)) (Rect.unit ![0, 64] ![128, 64] inb_S128x1024_S128x64_0_64)) (View.ld (iblk m c 15 t) (Rect.unit ![0, 0, 0, 0] ![1, 1, 128, 512] inb_S1x16x128x512_S1x1x128x512_0_0_0_0)) (View.ld (iblk m c 15 t) (Rect.unit ![0, 1, 0, 0] ![1, 1, 128, 512] inb_S1x16x128x512_S1x1x128x512_0_1_0_0)) (View.ld (iblk m c 0 t) (Rect.unit ![0] ![1] inb_S16_S1_0) (Shape.Idx.first (s := S1) one_pos)) (View.ld (iblk m c 0 t) (Rect.unit ![1] ![1] inb_S16_S1_1) (Shape.Idx.first (s := S1) one_pos)) x = V y)
    · generalize (View.ld (iblk m c 3 t) (Rect.unit ![0, 0] ![128, 64] inb_S128x256_S128x64_0_0)) = k0
      generalize (View.ld (iblk m c 4 t) (Rect.unit ![0, 0] ![128, 64] inb_S128x256_S128x64_0_0)) = k1
      generalize (View.ld (iblk m c 5 t) (Rect.unit ![0, 0] ![128, 64] inb_S128x256_S128x64_0_0)) = k2
      generalize (View.ld (iblk m c 7 t) (Rect.unit ![0, 0] ![128, 64] inb_S128x256_S128x64_0_0)) = k3
      generalize (View.ld (iblk m c 9 t) (Rect.unit ![0, 0] ![128, 64] inb_S128x256_S128x64_0_0)) = v0
      generalize (View.ld (iblk m c 10 t) (Rect.unit ![0, 0] ![128, 64] inb_S128x256_S128x64_0_0)) = v1
      generalize (View.ld (iblk m c 11 t) (Rect.unit ![0, 0] ![128, 64] inb_S128x256_S128x64_0_0)) = v2
      generalize (View.ld (iblk m c 13 t) (Rect.unit ![0, 0] ![128, 64] inb_S128x256_S128x64_0_0)) = v3
      generalize (View.ld (View.ld (iblk m c 1 t) (Rect.unit ![128, 0] ![128, 1024] inb_S384x1024_S128x1024_128_0)) (Rect.unit ![0, 0] ![128, 64] inb_S128x1024_S128x64_0_0)) = qa
      generalize (View.ld (View.ld (iblk m c 1 t) (Rect.unit ![128, 0] ![128, 1024] inb_S384x1024_S128x1024_128_0)) (Rect.unit ![0, 64] ![128, 64] inb_S128x1024_S128x64_0_64)) = qb
      generalize (View.ld (iblk m c 15 t) (Rect.unit ![0, 0, 0, 0] ![1, 1, 128, 512] inb_S1x16x128x512_S1x1x128x512_0_0_0_0)) = ba
      generalize (View.ld (iblk m c 15 t) (Rect.unit ![0, 1, 0, 0] ![1, 1, 128, 512] inb_S1x16x128x512_S1x1x128x512_0_1_0_0)) = bb
      generalize (View.ld (iblk m c 0 t) (Rect.unit ![0] ![1] inb_S16_S1_0) (Shape.Idx.first (s := S1) one_pos)) = sa
      generalize (View.ld (iblk m c 0 t) (Rect.unit ![1] ![1] inb_S16_S1_1) (Shape.Idx.first (s := S1) one_pos)) = sb
      rfl
    · rw [hV]
      exact item_entry F (3 * t.val + 1) (by omega) 0 0 1 0 (by omega) rfl rfl rfl
        (band_of (rows3 m c t) 0 0 (by omega) rfl _ _ 0 (by omega))
        (band_of (rows4 m c t) 0 0 (by omega) rfl _ _ 1 (by omega))
        (band_of (rows5 m c t) 0 0 (by omega) rfl _ _ 2 (by omega))
        (meta_of (rows7 m c t) 0 0 (by omega) rfl _)
        (band_of (rows9 m c t) 0 0 (by omega) rfl _ _ 0 (by omega))
        (band_of (rows10 m c t) 0 0 (by omega) rfl _ _ 1 (by omega))
        (band_of (rows11 m c t) 0 0 (by omega) rfl _ _ 2 (by omega))
        (meta_of (rows13 m c t) 0 0 (by omega) rfl _)
        (queries_of t 1 128 0 0 (by omega) rfl (by omega) rfl _ _)
        (queries_of t 1 128 1 64 (by omega) rfl (by omega) rfl _ _)
        (bias_of _ _ (bias15 m c t) 0 (by omega) _)
        (bias_of _ _ (bias15 m c t) 1 (by omega) _)
        (sink_of t 0 (by omega) _)
        (sink_of t 1 (by omega) _)
        x
        _
        _
        (at_row t.val 1 128 _ _ rfl h0)
        (at_col0 _ _ h1)
  case piece16 =>
    refine (congrFun (?_ : _ = item (View.ld (iblk m c 2 t) (Rect.unit ![0, 192] ![128, 64] inb_S128x256_S128x64_0_192)) (View.ld (iblk m c 3 t) (Rect.unit ![0, 192] ![128, 64] inb_S128x256_S128x64_0_192)) (View.ld (iblk m c 4 t) (Rect.unit ![0, 192] ![128, 64] inb_S128x256_S128x64_0_192)) (View.ld (iblk m c 7 t) (Rect.unit ![0, 192] ![128, 64] inb_S128x256_S128x64_0_192)) (View.ld (iblk m c 8 t) (Rect.unit ![0, 192] ![128, 64] inb_S128x256_S128x64_0_192)) (View.ld (iblk m c 9 t) (Rect.unit ![0, 192] ![128, 64] inb_S128x256_S128x64_0_192)) (View.ld (iblk m c 10 t) (Rect.unit ![0, 192] ![128, 64] inb_S128x256_S128x64_0_192)) (View.ld (iblk m c 13 t) (Rect.unit ![0, 192] ![128, 64] inb_S128x256_S128x64_0_192)) (View.ld (View.ld (iblk m c 1 t) (Rect.unit ![0, 0] ![128, 1024] inb_S384x1024_S128x1024_0_0)) (Rect.unit ![0, 896] ![128, 64] inb_S128x1024_S128x64_0_896)) (View.ld (View.ld (iblk m c 1 t) (Rect.unit ![0, 0] ![128, 1024] inb_S384x1024_S128x1024_0_0)) (Rect.unit ![0, 960] ![128, 64] inb_S128x1024_S128x64_0_960)) (View.ld (iblk m c 14 t) (Rect.unit ![0, 14, 0, 0] ![1, 1, 128, 512] inb_S1x16x128x512_S1x1x128x512_0_14_0_0)) (View.ld (iblk m c 14 t) (Rect.unit ![0, 15, 0, 0] ![1, 1, 128, 512] inb_S1x16x128x512_S1x1x128x512_0_15_0_0)) (View.ld (iblk m c 0 t) (Rect.unit ![14] ![1] inb_S16_S1_14) (Shape.Idx.first (s := S1) one_pos)) (View.ld (iblk m c 0 t) (Rect.unit ![15] ![1] inb_S16_S1_15) (Shape.Idx.first (s := S1) one_pos))) x).trans (?_ : item (View.ld (iblk m c 2 t) (Rect.unit ![0, 192] ![128, 64] inb_S128x256_S128x64_0_192)) (View.ld (iblk m c 3 t) (Rect.unit ![0, 192] ![128, 64] inb_S128x256_S128x64_0_192)) (View.ld (iblk m c 4 t) (Rect.unit ![0, 192] ![128, 64] inb_S128x256_S128x64_0_192)) (View.ld (iblk m c 7 t) (Rect.unit ![0, 192] ![128, 64] inb_S128x256_S128x64_0_192)) (View.ld (iblk m c 8 t) (Rect.unit ![0, 192] ![128, 64] inb_S128x256_S128x64_0_192)) (View.ld (iblk m c 9 t) (Rect.unit ![0, 192] ![128, 64] inb_S128x256_S128x64_0_192)) (View.ld (iblk m c 10 t) (Rect.unit ![0, 192] ![128, 64] inb_S128x256_S128x64_0_192)) (View.ld (iblk m c 13 t) (Rect.unit ![0, 192] ![128, 64] inb_S128x256_S128x64_0_192)) (View.ld (View.ld (iblk m c 1 t) (Rect.unit ![0, 0] ![128, 1024] inb_S384x1024_S128x1024_0_0)) (Rect.unit ![0, 896] ![128, 64] inb_S128x1024_S128x64_0_896)) (View.ld (View.ld (iblk m c 1 t) (Rect.unit ![0, 0] ![128, 1024] inb_S384x1024_S128x1024_0_0)) (Rect.unit ![0, 960] ![128, 64] inb_S128x1024_S128x64_0_960)) (View.ld (iblk m c 14 t) (Rect.unit ![0, 14, 0, 0] ![1, 1, 128, 512] inb_S1x16x128x512_S1x1x128x512_0_14_0_0)) (View.ld (iblk m c 14 t) (Rect.unit ![0, 15, 0, 0] ![1, 1, 128, 512] inb_S1x16x128x512_S1x1x128x512_0_15_0_0)) (View.ld (iblk m c 0 t) (Rect.unit ![14] ![1] inb_S16_S1_14) (Shape.Idx.first (s := S1) one_pos)) (View.ld (iblk m c 0 t) (Rect.unit ![15] ![1] inb_S16_S1_15) (Shape.Idx.first (s := S1) one_pos)) x = V y)
    · generalize (View.ld (iblk m c 2 t) (Rect.unit ![0, 192] ![128, 64] inb_S128x256_S128x64_0_192)) = k0
      generalize (View.ld (iblk m c 3 t) (Rect.unit ![0, 192] ![128, 64] inb_S128x256_S128x64_0_192)) = k1
      generalize (View.ld (iblk m c 4 t) (Rect.unit ![0, 192] ![128, 64] inb_S128x256_S128x64_0_192)) = k2
      generalize (View.ld (iblk m c 7 t) (Rect.unit ![0, 192] ![128, 64] inb_S128x256_S128x64_0_192)) = k3
      generalize (View.ld (iblk m c 8 t) (Rect.unit ![0, 192] ![128, 64] inb_S128x256_S128x64_0_192)) = v0
      generalize (View.ld (iblk m c 9 t) (Rect.unit ![0, 192] ![128, 64] inb_S128x256_S128x64_0_192)) = v1
      generalize (View.ld (iblk m c 10 t) (Rect.unit ![0, 192] ![128, 64] inb_S128x256_S128x64_0_192)) = v2
      generalize (View.ld (iblk m c 13 t) (Rect.unit ![0, 192] ![128, 64] inb_S128x256_S128x64_0_192)) = v3
      generalize (View.ld (View.ld (iblk m c 1 t) (Rect.unit ![0, 0] ![128, 1024] inb_S384x1024_S128x1024_0_0)) (Rect.unit ![0, 896] ![128, 64] inb_S128x1024_S128x64_0_896)) = qa
      generalize (View.ld (View.ld (iblk m c 1 t) (Rect.unit ![0, 0] ![128, 1024] inb_S384x1024_S128x1024_0_0)) (Rect.unit ![0, 960] ![128, 64] inb_S128x1024_S128x64_0_960)) = qb
      generalize (View.ld (iblk m c 14 t) (Rect.unit ![0, 14, 0, 0] ![1, 1, 128, 512] inb_S1x16x128x512_S1x1x128x512_0_14_0_0)) = ba
      generalize (View.ld (iblk m c 14 t) (Rect.unit ![0, 15, 0, 0] ![1, 1, 128, 512] inb_S1x16x128x512_S1x1x128x512_0_15_0_0)) = bb
      generalize (View.ld (iblk m c 0 t) (Rect.unit ![14] ![1] inb_S16_S1_14) (Shape.Idx.first (s := S1) one_pos)) = sa
      generalize (View.ld (iblk m c 0 t) (Rect.unit ![15] ![1] inb_S16_S1_15) (Shape.Idx.first (s := S1) one_pos)) = sb
      rfl
    · rw [hV]
      exact item_entry F (3 * t.val + 0) (by omega) 7 14 15 3 (by omega) rfl rfl rfl
        (band_of (rows2 m c t) 3 192 (by omega) rfl _ _ 0 (by omega))
        (band_of (rows3 m c t) 3 192 (by omega) rfl _ _ 1 (by omega))
        (band_of (rows4 m c t) 3 192 (by omega) rfl _ _ 2 (by omega))
        (meta_of (rows7 m c t) 3 192 (by omega) rfl _)
        (band_of (rows8 m c t) 3 192 (by omega) rfl _ _ 0 (by omega))
        (band_of (rows9 m c t) 3 192 (by omega) rfl _ _ 1 (by omega))
        (band_of (rows10 m c t) 3 192 (by omega) rfl _ _ 2 (by omega))
        (meta_of (rows13 m c t) 3 192 (by omega) rfl _)
        (queries_of t 0 0 14 896 (by omega) rfl (by omega) rfl _ _)
        (queries_of t 0 0 15 960 (by omega) rfl (by omega) rfl _ _)
        (bias_of _ _ (bias14 m c t) 14 (by omega) _)
        (bias_of _ _ (bias14 m c t) 15 (by omega) _)
        (sink_of t 14 (by omega) _)
        (sink_of t 15 (by omega) _)
        x
        _
        _
        (at_row0 t.val _ _ h0)
        (at_col 7 896 _ _ rfl h1)
  case piece17 =>
    refine (congrFun (?_ : _ = item (View.ld (iblk m c 2 t) (Rect.unit ![0, 192] ![128, 64] inb_S128x256_S128x64_0_192)) (View.ld (iblk m c 3 t) (Rect.unit ![0, 192] ![128, 64] inb_S128x256_S128x64_0_192)) (View.ld (iblk m c 4 t) (Rect.unit ![0, 192] ![128, 64] inb_S128x256_S128x64_0_192)) (View.ld (iblk m c 7 t) (Rect.unit ![0, 192] ![128, 64] inb_S128x256_S128x64_0_192)) (View.ld (iblk m c 8 t) (Rect.unit ![0, 192] ![128, 64] inb_S128x256_S128x64_0_192)) (View.ld (iblk m c 9 t) (Rect.unit ![0, 192] ![128, 64] inb_S128x256_S128x64_0_192)) (View.ld (iblk m c 10 t) (Rect.unit ![0, 192] ![128, 64] inb_S128x256_S128x64_0_192)) (View.ld (iblk m c 13 t) (Rect.unit ![0, 192] ![128, 64] inb_S128x256_S128x64_0_192)) (View.ld (View.ld (iblk m c 1 t) (Rect.unit ![0, 0] ![128, 1024] inb_S384x1024_S128x1024_0_0)) (Rect.unit ![0, 768] ![128, 64] inb_S128x1024_S128x64_0_768)) (View.ld (View.ld (iblk m c 1 t) (Rect.unit ![0, 0] ![128, 1024] inb_S384x1024_S128x1024_0_0)) (Rect.unit ![0, 832] ![128, 64] inb_S128x1024_S128x64_0_832)) (View.ld (iblk m c 14 t) (Rect.unit ![0, 12, 0, 0] ![1, 1, 128, 512] inb_S1x16x128x512_S1x1x128x512_0_12_0_0)) (View.ld (iblk m c 14 t) (Rect.unit ![0, 13, 0, 0] ![1, 1, 128, 512] inb_S1x16x128x512_S1x1x128x512_0_13_0_0)) (View.ld (iblk m c 0 t) (Rect.unit ![12] ![1] inb_S16_S1_12) (Shape.Idx.first (s := S1) one_pos)) (View.ld (iblk m c 0 t) (Rect.unit ![13] ![1] inb_S16_S1_13) (Shape.Idx.first (s := S1) one_pos))) x).trans (?_ : item (View.ld (iblk m c 2 t) (Rect.unit ![0, 192] ![128, 64] inb_S128x256_S128x64_0_192)) (View.ld (iblk m c 3 t) (Rect.unit ![0, 192] ![128, 64] inb_S128x256_S128x64_0_192)) (View.ld (iblk m c 4 t) (Rect.unit ![0, 192] ![128, 64] inb_S128x256_S128x64_0_192)) (View.ld (iblk m c 7 t) (Rect.unit ![0, 192] ![128, 64] inb_S128x256_S128x64_0_192)) (View.ld (iblk m c 8 t) (Rect.unit ![0, 192] ![128, 64] inb_S128x256_S128x64_0_192)) (View.ld (iblk m c 9 t) (Rect.unit ![0, 192] ![128, 64] inb_S128x256_S128x64_0_192)) (View.ld (iblk m c 10 t) (Rect.unit ![0, 192] ![128, 64] inb_S128x256_S128x64_0_192)) (View.ld (iblk m c 13 t) (Rect.unit ![0, 192] ![128, 64] inb_S128x256_S128x64_0_192)) (View.ld (View.ld (iblk m c 1 t) (Rect.unit ![0, 0] ![128, 1024] inb_S384x1024_S128x1024_0_0)) (Rect.unit ![0, 768] ![128, 64] inb_S128x1024_S128x64_0_768)) (View.ld (View.ld (iblk m c 1 t) (Rect.unit ![0, 0] ![128, 1024] inb_S384x1024_S128x1024_0_0)) (Rect.unit ![0, 832] ![128, 64] inb_S128x1024_S128x64_0_832)) (View.ld (iblk m c 14 t) (Rect.unit ![0, 12, 0, 0] ![1, 1, 128, 512] inb_S1x16x128x512_S1x1x128x512_0_12_0_0)) (View.ld (iblk m c 14 t) (Rect.unit ![0, 13, 0, 0] ![1, 1, 128, 512] inb_S1x16x128x512_S1x1x128x512_0_13_0_0)) (View.ld (iblk m c 0 t) (Rect.unit ![12] ![1] inb_S16_S1_12) (Shape.Idx.first (s := S1) one_pos)) (View.ld (iblk m c 0 t) (Rect.unit ![13] ![1] inb_S16_S1_13) (Shape.Idx.first (s := S1) one_pos)) x = V y)
    · generalize (View.ld (iblk m c 2 t) (Rect.unit ![0, 192] ![128, 64] inb_S128x256_S128x64_0_192)) = k0
      generalize (View.ld (iblk m c 3 t) (Rect.unit ![0, 192] ![128, 64] inb_S128x256_S128x64_0_192)) = k1
      generalize (View.ld (iblk m c 4 t) (Rect.unit ![0, 192] ![128, 64] inb_S128x256_S128x64_0_192)) = k2
      generalize (View.ld (iblk m c 7 t) (Rect.unit ![0, 192] ![128, 64] inb_S128x256_S128x64_0_192)) = k3
      generalize (View.ld (iblk m c 8 t) (Rect.unit ![0, 192] ![128, 64] inb_S128x256_S128x64_0_192)) = v0
      generalize (View.ld (iblk m c 9 t) (Rect.unit ![0, 192] ![128, 64] inb_S128x256_S128x64_0_192)) = v1
      generalize (View.ld (iblk m c 10 t) (Rect.unit ![0, 192] ![128, 64] inb_S128x256_S128x64_0_192)) = v2
      generalize (View.ld (iblk m c 13 t) (Rect.unit ![0, 192] ![128, 64] inb_S128x256_S128x64_0_192)) = v3
      generalize (View.ld (View.ld (iblk m c 1 t) (Rect.unit ![0, 0] ![128, 1024] inb_S384x1024_S128x1024_0_0)) (Rect.unit ![0, 768] ![128, 64] inb_S128x1024_S128x64_0_768)) = qa
      generalize (View.ld (View.ld (iblk m c 1 t) (Rect.unit ![0, 0] ![128, 1024] inb_S384x1024_S128x1024_0_0)) (Rect.unit ![0, 832] ![128, 64] inb_S128x1024_S128x64_0_832)) = qb
      generalize (View.ld (iblk m c 14 t) (Rect.unit ![0, 12, 0, 0] ![1, 1, 128, 512] inb_S1x16x128x512_S1x1x128x512_0_12_0_0)) = ba
      generalize (View.ld (iblk m c 14 t) (Rect.unit ![0, 13, 0, 0] ![1, 1, 128, 512] inb_S1x16x128x512_S1x1x128x512_0_13_0_0)) = bb
      generalize (View.ld (iblk m c 0 t) (Rect.unit ![12] ![1] inb_S16_S1_12) (Shape.Idx.first (s := S1) one_pos)) = sa
      generalize (View.ld (iblk m c 0 t) (Rect.unit ![13] ![1] inb_S16_S1_13) (Shape.Idx.first (s := S1) one_pos)) = sb
      rfl
    · rw [hV]
      exact item_entry F (3 * t.val + 0) (by omega) 6 12 13 3 (by omega) rfl rfl rfl
        (band_of (rows2 m c t) 3 192 (by omega) rfl _ _ 0 (by omega))
        (band_of (rows3 m c t) 3 192 (by omega) rfl _ _ 1 (by omega))
        (band_of (rows4 m c t) 3 192 (by omega) rfl _ _ 2 (by omega))
        (meta_of (rows7 m c t) 3 192 (by omega) rfl _)
        (band_of (rows8 m c t) 3 192 (by omega) rfl _ _ 0 (by omega))
        (band_of (rows9 m c t) 3 192 (by omega) rfl _ _ 1 (by omega))
        (band_of (rows10 m c t) 3 192 (by omega) rfl _ _ 2 (by omega))
        (meta_of (rows13 m c t) 3 192 (by omega) rfl _)
        (queries_of t 0 0 12 768 (by omega) rfl (by omega) rfl _ _)
        (queries_of t 0 0 13 832 (by omega) rfl (by omega) rfl _ _)
        (bias_of _ _ (bias14 m c t) 12 (by omega) _)
        (bias_of _ _ (bias14 m c t) 13 (by omega) _)
        (sink_of t 12 (by omega) _)
        (sink_of t 13 (by omega) _)
        x
        _
        _
        (at_row0 t.val _ _ h0)
        (at_col 6 768 _ _ rfl h1)
  case piece18 =>
    refine (congrFun (?_ : _ = item (View.ld (iblk m c 2 t) (Rect.unit ![0, 128] ![128, 64] inb_S128x256_S128x64_0_128)) (View.ld (iblk m c 3 t) (Rect.unit ![0, 128] ![128, 64] inb_S128x256_S128x64_0_128)) (View.ld (iblk m c 4 t) (Rect.unit ![0, 128] ![128, 64] inb_S128x256_S128x64_0_128)) (View.ld (iblk m c 7 t) (Rect.unit ![0, 128] ![128, 64] inb_S128x256_S128x64_0_128)) (View.ld (iblk m c 8 t) (Rect.unit ![0, 128] ![128, 64] inb_S128x256_S128x64_0_128)) (View.ld (iblk m c 9 t) (Rect.unit ![0, 128] ![128, 64] inb_S128x256_S128x64_0_128)) (View.ld (iblk m c 10 t) (Rect.unit ![0, 128] ![128, 64] inb_S128x256_S128x64_0_128)) (View.ld (iblk m c 13 t) (Rect.unit ![0, 128] ![128, 64] inb_S128x256_S128x64_0_128)) (View.ld (View.ld (iblk m c 1 t) (Rect.unit ![0, 0] ![128, 1024] inb_S384x1024_S128x1024_0_0)) (Rect.unit ![0, 640] ![128, 64] inb_S128x1024_S128x64_0_640)) (View.ld (View.ld (iblk m c 1 t) (Rect.unit ![0, 0] ![128, 1024] inb_S384x1024_S128x1024_0_0)) (Rect.unit ![0, 704] ![128, 64] inb_S128x1024_S128x64_0_704)) (View.ld (iblk m c 14 t) (Rect.unit ![0, 10, 0, 0] ![1, 1, 128, 512] inb_S1x16x128x512_S1x1x128x512_0_10_0_0)) (View.ld (iblk m c 14 t) (Rect.unit ![0, 11, 0, 0] ![1, 1, 128, 512] inb_S1x16x128x512_S1x1x128x512_0_11_0_0)) (View.ld (iblk m c 0 t) (Rect.unit ![10] ![1] inb_S16_S1_10) (Shape.Idx.first (s := S1) one_pos)) (View.ld (iblk m c 0 t) (Rect.unit ![11] ![1] inb_S16_S1_11) (Shape.Idx.first (s := S1) one_pos))) x).trans (?_ : item (View.ld (iblk m c 2 t) (Rect.unit ![0, 128] ![128, 64] inb_S128x256_S128x64_0_128)) (View.ld (iblk m c 3 t) (Rect.unit ![0, 128] ![128, 64] inb_S128x256_S128x64_0_128)) (View.ld (iblk m c 4 t) (Rect.unit ![0, 128] ![128, 64] inb_S128x256_S128x64_0_128)) (View.ld (iblk m c 7 t) (Rect.unit ![0, 128] ![128, 64] inb_S128x256_S128x64_0_128)) (View.ld (iblk m c 8 t) (Rect.unit ![0, 128] ![128, 64] inb_S128x256_S128x64_0_128)) (View.ld (iblk m c 9 t) (Rect.unit ![0, 128] ![128, 64] inb_S128x256_S128x64_0_128)) (View.ld (iblk m c 10 t) (Rect.unit ![0, 128] ![128, 64] inb_S128x256_S128x64_0_128)) (View.ld (iblk m c 13 t) (Rect.unit ![0, 128] ![128, 64] inb_S128x256_S128x64_0_128)) (View.ld (View.ld (iblk m c 1 t) (Rect.unit ![0, 0] ![128, 1024] inb_S384x1024_S128x1024_0_0)) (Rect.unit ![0, 640] ![128, 64] inb_S128x1024_S128x64_0_640)) (View.ld (View.ld (iblk m c 1 t) (Rect.unit ![0, 0] ![128, 1024] inb_S384x1024_S128x1024_0_0)) (Rect.unit ![0, 704] ![128, 64] inb_S128x1024_S128x64_0_704)) (View.ld (iblk m c 14 t) (Rect.unit ![0, 10, 0, 0] ![1, 1, 128, 512] inb_S1x16x128x512_S1x1x128x512_0_10_0_0)) (View.ld (iblk m c 14 t) (Rect.unit ![0, 11, 0, 0] ![1, 1, 128, 512] inb_S1x16x128x512_S1x1x128x512_0_11_0_0)) (View.ld (iblk m c 0 t) (Rect.unit ![10] ![1] inb_S16_S1_10) (Shape.Idx.first (s := S1) one_pos)) (View.ld (iblk m c 0 t) (Rect.unit ![11] ![1] inb_S16_S1_11) (Shape.Idx.first (s := S1) one_pos)) x = V y)
    · generalize (View.ld (iblk m c 2 t) (Rect.unit ![0, 128] ![128, 64] inb_S128x256_S128x64_0_128)) = k0
      generalize (View.ld (iblk m c 3 t) (Rect.unit ![0, 128] ![128, 64] inb_S128x256_S128x64_0_128)) = k1
      generalize (View.ld (iblk m c 4 t) (Rect.unit ![0, 128] ![128, 64] inb_S128x256_S128x64_0_128)) = k2
      generalize (View.ld (iblk m c 7 t) (Rect.unit ![0, 128] ![128, 64] inb_S128x256_S128x64_0_128)) = k3
      generalize (View.ld (iblk m c 8 t) (Rect.unit ![0, 128] ![128, 64] inb_S128x256_S128x64_0_128)) = v0
      generalize (View.ld (iblk m c 9 t) (Rect.unit ![0, 128] ![128, 64] inb_S128x256_S128x64_0_128)) = v1
      generalize (View.ld (iblk m c 10 t) (Rect.unit ![0, 128] ![128, 64] inb_S128x256_S128x64_0_128)) = v2
      generalize (View.ld (iblk m c 13 t) (Rect.unit ![0, 128] ![128, 64] inb_S128x256_S128x64_0_128)) = v3
      generalize (View.ld (View.ld (iblk m c 1 t) (Rect.unit ![0, 0] ![128, 1024] inb_S384x1024_S128x1024_0_0)) (Rect.unit ![0, 640] ![128, 64] inb_S128x1024_S128x64_0_640)) = qa
      generalize (View.ld (View.ld (iblk m c 1 t) (Rect.unit ![0, 0] ![128, 1024] inb_S384x1024_S128x1024_0_0)) (Rect.unit ![0, 704] ![128, 64] inb_S128x1024_S128x64_0_704)) = qb
      generalize (View.ld (iblk m c 14 t) (Rect.unit ![0, 10, 0, 0] ![1, 1, 128, 512] inb_S1x16x128x512_S1x1x128x512_0_10_0_0)) = ba
      generalize (View.ld (iblk m c 14 t) (Rect.unit ![0, 11, 0, 0] ![1, 1, 128, 512] inb_S1x16x128x512_S1x1x128x512_0_11_0_0)) = bb
      generalize (View.ld (iblk m c 0 t) (Rect.unit ![10] ![1] inb_S16_S1_10) (Shape.Idx.first (s := S1) one_pos)) = sa
      generalize (View.ld (iblk m c 0 t) (Rect.unit ![11] ![1] inb_S16_S1_11) (Shape.Idx.first (s := S1) one_pos)) = sb
      rfl
    · rw [hV]
      exact item_entry F (3 * t.val + 0) (by omega) 5 10 11 2 (by omega) rfl rfl rfl
        (band_of (rows2 m c t) 2 128 (by omega) rfl _ _ 0 (by omega))
        (band_of (rows3 m c t) 2 128 (by omega) rfl _ _ 1 (by omega))
        (band_of (rows4 m c t) 2 128 (by omega) rfl _ _ 2 (by omega))
        (meta_of (rows7 m c t) 2 128 (by omega) rfl _)
        (band_of (rows8 m c t) 2 128 (by omega) rfl _ _ 0 (by omega))
        (band_of (rows9 m c t) 2 128 (by omega) rfl _ _ 1 (by omega))
        (band_of (rows10 m c t) 2 128 (by omega) rfl _ _ 2 (by omega))
        (meta_of (rows13 m c t) 2 128 (by omega) rfl _)
        (queries_of t 0 0 10 640 (by omega) rfl (by omega) rfl _ _)
        (queries_of t 0 0 11 704 (by omega) rfl (by omega) rfl _ _)
        (bias_of _ _ (bias14 m c t) 10 (by omega) _)
        (bias_of _ _ (bias14 m c t) 11 (by omega) _)
        (sink_of t 10 (by omega) _)
        (sink_of t 11 (by omega) _)
        x
        _
        _
        (at_row0 t.val _ _ h0)
        (at_col 5 640 _ _ rfl h1)
  case piece19 =>
    refine (congrFun (?_ : _ = item (View.ld (iblk m c 2 t) (Rect.unit ![0, 128] ![128, 64] inb_S128x256_S128x64_0_128)) (View.ld (iblk m c 3 t) (Rect.unit ![0, 128] ![128, 64] inb_S128x256_S128x64_0_128)) (View.ld (iblk m c 4 t) (Rect.unit ![0, 128] ![128, 64] inb_S128x256_S128x64_0_128)) (View.ld (iblk m c 7 t) (Rect.unit ![0, 128] ![128, 64] inb_S128x256_S128x64_0_128)) (View.ld (iblk m c 8 t) (Rect.unit ![0, 128] ![128, 64] inb_S128x256_S128x64_0_128)) (View.ld (iblk m c 9 t) (Rect.unit ![0, 128] ![128, 64] inb_S128x256_S128x64_0_128)) (View.ld (iblk m c 10 t) (Rect.unit ![0, 128] ![128, 64] inb_S128x256_S128x64_0_128)) (View.ld (iblk m c 13 t) (Rect.unit ![0, 128] ![128, 64] inb_S128x256_S128x64_0_128)) (View.ld (View.ld (iblk m c 1 t) (Rect.unit ![0, 0] ![128, 1024] inb_S384x1024_S128x1024_0_0)) (Rect.unit ![0, 512] ![128, 64] inb_S128x1024_S128x64_0_512)) (View.ld (View.ld (iblk m c 1 t) (Rect.unit ![0, 0] ![128, 1024] inb_S384x1024_S128x1024_0_0)) (Rect.unit ![0, 576] ![128, 64] inb_S128x1024_S128x64_0_576)) (View.ld (iblk m c 14 t) (Rect.unit ![0, 8, 0, 0] ![1, 1, 128, 512] inb_S1x16x128x512_S1x1x128x512_0_8_0_0)) (View.ld (iblk m c 14 t) (Rect.unit ![0, 9, 0, 0] ![1, 1, 128, 512] inb_S1x16x128x512_S1x1x128x512_0_9_0_0)) (View.ld (iblk m c 0 t) (Rect.unit ![8] ![1] inb_S16_S1_8) (Shape.Idx.first (s := S1) one_pos)) (View.ld (iblk m c 0 t) (Rect.unit ![9] ![1] inb_S16_S1_9) (Shape.Idx.first (s := S1) one_pos))) x).trans (?_ : item (View.ld (iblk m c 2 t) (Rect.unit ![0, 128] ![128, 64] inb_S128x256_S128x64_0_128)) (View.ld (iblk m c 3 t) (Rect.unit ![0, 128] ![128, 64] inb_S128x256_S128x64_0_128)) (View.ld (iblk m c 4 t) (Rect.unit ![0, 128] ![128, 64] inb_S128x256_S128x64_0_128)) (View.ld (iblk m c 7 t) (Rect.unit ![0, 128] ![128, 64] inb_S128x256_S128x64_0_128)) (View.ld (iblk m c 8 t) (Rect.unit ![0, 128] ![128, 64] inb_S128x256_S128x64_0_128)) (View.ld (iblk m c 9 t) (Rect.unit ![0, 128] ![128, 64] inb_S128x256_S128x64_0_128)) (View.ld (iblk m c 10 t) (Rect.unit ![0, 128] ![128, 64] inb_S128x256_S128x64_0_128)) (View.ld (iblk m c 13 t) (Rect.unit ![0, 128] ![128, 64] inb_S128x256_S128x64_0_128)) (View.ld (View.ld (iblk m c 1 t) (Rect.unit ![0, 0] ![128, 1024] inb_S384x1024_S128x1024_0_0)) (Rect.unit ![0, 512] ![128, 64] inb_S128x1024_S128x64_0_512)) (View.ld (View.ld (iblk m c 1 t) (Rect.unit ![0, 0] ![128, 1024] inb_S384x1024_S128x1024_0_0)) (Rect.unit ![0, 576] ![128, 64] inb_S128x1024_S128x64_0_576)) (View.ld (iblk m c 14 t) (Rect.unit ![0, 8, 0, 0] ![1, 1, 128, 512] inb_S1x16x128x512_S1x1x128x512_0_8_0_0)) (View.ld (iblk m c 14 t) (Rect.unit ![0, 9, 0, 0] ![1, 1, 128, 512] inb_S1x16x128x512_S1x1x128x512_0_9_0_0)) (View.ld (iblk m c 0 t) (Rect.unit ![8] ![1] inb_S16_S1_8) (Shape.Idx.first (s := S1) one_pos)) (View.ld (iblk m c 0 t) (Rect.unit ![9] ![1] inb_S16_S1_9) (Shape.Idx.first (s := S1) one_pos)) x = V y)
    · generalize (View.ld (iblk m c 2 t) (Rect.unit ![0, 128] ![128, 64] inb_S128x256_S128x64_0_128)) = k0
      generalize (View.ld (iblk m c 3 t) (Rect.unit ![0, 128] ![128, 64] inb_S128x256_S128x64_0_128)) = k1
      generalize (View.ld (iblk m c 4 t) (Rect.unit ![0, 128] ![128, 64] inb_S128x256_S128x64_0_128)) = k2
      generalize (View.ld (iblk m c 7 t) (Rect.unit ![0, 128] ![128, 64] inb_S128x256_S128x64_0_128)) = k3
      generalize (View.ld (iblk m c 8 t) (Rect.unit ![0, 128] ![128, 64] inb_S128x256_S128x64_0_128)) = v0
      generalize (View.ld (iblk m c 9 t) (Rect.unit ![0, 128] ![128, 64] inb_S128x256_S128x64_0_128)) = v1
      generalize (View.ld (iblk m c 10 t) (Rect.unit ![0, 128] ![128, 64] inb_S128x256_S128x64_0_128)) = v2
      generalize (View.ld (iblk m c 13 t) (Rect.unit ![0, 128] ![128, 64] inb_S128x256_S128x64_0_128)) = v3
      generalize (View.ld (View.ld (iblk m c 1 t) (Rect.unit ![0, 0] ![128, 1024] inb_S384x1024_S128x1024_0_0)) (Rect.unit ![0, 512] ![128, 64] inb_S128x1024_S128x64_0_512)) = qa
      generalize (View.ld (View.ld (iblk m c 1 t) (Rect.unit ![0, 0] ![128, 1024] inb_S384x1024_S128x1024_0_0)) (Rect.unit ![0, 576] ![128, 64] inb_S128x1024_S128x64_0_576)) = qb
      generalize (View.ld (iblk m c 14 t) (Rect.unit ![0, 8, 0, 0] ![1, 1, 128, 512] inb_S1x16x128x512_S1x1x128x512_0_8_0_0)) = ba
      generalize (View.ld (iblk m c 14 t) (Rect.unit ![0, 9, 0, 0] ![1, 1, 128, 512] inb_S1x16x128x512_S1x1x128x512_0_9_0_0)) = bb
      generalize (View.ld (iblk m c 0 t) (Rect.unit ![8] ![1] inb_S16_S1_8) (Shape.Idx.first (s := S1) one_pos)) = sa
      generalize (View.ld (iblk m c 0 t) (Rect.unit ![9] ![1] inb_S16_S1_9) (Shape.Idx.first (s := S1) one_pos)) = sb
      rfl
    · rw [hV]
      exact item_entry F (3 * t.val + 0) (by omega) 4 8 9 2 (by omega) rfl rfl rfl
        (band_of (rows2 m c t) 2 128 (by omega) rfl _ _ 0 (by omega))
        (band_of (rows3 m c t) 2 128 (by omega) rfl _ _ 1 (by omega))
        (band_of (rows4 m c t) 2 128 (by omega) rfl _ _ 2 (by omega))
        (meta_of (rows7 m c t) 2 128 (by omega) rfl _)
        (band_of (rows8 m c t) 2 128 (by omega) rfl _ _ 0 (by omega))
        (band_of (rows9 m c t) 2 128 (by omega) rfl _ _ 1 (by omega))
        (band_of (rows10 m c t) 2 128 (by omega) rfl _ _ 2 (by omega))
        (meta_of (rows13 m c t) 2 128 (by omega) rfl _)
        (queries_of t 0 0 8 512 (by omega) rfl (by omega) rfl _ _)
        (queries_of t 0 0 9 576 (by omega) rfl (by omega) rfl _ _)
        (bias_of _ _ (bias14 m c t) 8 (by omega) _)
        (bias_of _ _ (bias14 m c t) 9 (by omega) _)
        (sink_of t 8 (by omega) _)
        (sink_of t 9 (by omega) _)
        x
        _
        _
        (at_row0 t.val _ _ h0)
        (at_col 4 512 _ _ rfl h1)
  case piece20 =>
    refine (congrFun (?_ : _ = item (View.ld (iblk m c 2 t) (Rect.unit ![0, 64] ![128, 64] inb_S128x256_S128x64_0_64)) (View.ld (iblk m c 3 t) (Rect.unit ![0, 64] ![128, 64] inb_S128x256_S128x64_0_64)) (View.ld (iblk m c 4 t) (Rect.unit ![0, 64] ![128, 64] inb_S128x256_S128x64_0_64)) (View.ld (iblk m c 7 t) (Rect.unit ![0, 64] ![128, 64] inb_S128x256_S128x64_0_64)) (View.ld (iblk m c 8 t) (Rect.unit ![0, 64] ![128, 64] inb_S128x256_S128x64_0_64)) (View.ld (iblk m c 9 t) (Rect.unit ![0, 64] ![128, 64] inb_S128x256_S128x64_0_64)) (View.ld (iblk m c 10 t) (Rect.unit ![0, 64] ![128, 64] inb_S128x256_S128x64_0_64)) (View.ld (iblk m c 13 t) (Rect.unit ![0, 64] ![128, 64] inb_S128x256_S128x64_0_64)) (View.ld (View.ld (iblk m c 1 t) (Rect.unit ![0, 0] ![128, 1024] inb_S384x1024_S128x1024_0_0)) (Rect.unit ![0, 384] ![128, 64] inb_S128x1024_S128x64_0_384)) (View.ld (View.ld (iblk m c 1 t) (Rect.unit ![0, 0] ![128, 1024] inb_S384x1024_S128x1024_0_0)) (Rect.unit ![0, 448] ![128, 64] inb_S128x1024_S128x64_0_448)) (View.ld (iblk m c 14 t) (Rect.unit ![0, 6, 0, 0] ![1, 1, 128, 512] inb_S1x16x128x512_S1x1x128x512_0_6_0_0)) (View.ld (iblk m c 14 t) (Rect.unit ![0, 7, 0, 0] ![1, 1, 128, 512] inb_S1x16x128x512_S1x1x128x512_0_7_0_0)) (View.ld (iblk m c 0 t) (Rect.unit ![6] ![1] inb_S16_S1_6) (Shape.Idx.first (s := S1) one_pos)) (View.ld (iblk m c 0 t) (Rect.unit ![7] ![1] inb_S16_S1_7) (Shape.Idx.first (s := S1) one_pos))) x).trans (?_ : item (View.ld (iblk m c 2 t) (Rect.unit ![0, 64] ![128, 64] inb_S128x256_S128x64_0_64)) (View.ld (iblk m c 3 t) (Rect.unit ![0, 64] ![128, 64] inb_S128x256_S128x64_0_64)) (View.ld (iblk m c 4 t) (Rect.unit ![0, 64] ![128, 64] inb_S128x256_S128x64_0_64)) (View.ld (iblk m c 7 t) (Rect.unit ![0, 64] ![128, 64] inb_S128x256_S128x64_0_64)) (View.ld (iblk m c 8 t) (Rect.unit ![0, 64] ![128, 64] inb_S128x256_S128x64_0_64)) (View.ld (iblk m c 9 t) (Rect.unit ![0, 64] ![128, 64] inb_S128x256_S128x64_0_64)) (View.ld (iblk m c 10 t) (Rect.unit ![0, 64] ![128, 64] inb_S128x256_S128x64_0_64)) (View.ld (iblk m c 13 t) (Rect.unit ![0, 64] ![128, 64] inb_S128x256_S128x64_0_64)) (View.ld (View.ld (iblk m c 1 t) (Rect.unit ![0, 0] ![128, 1024] inb_S384x1024_S128x1024_0_0)) (Rect.unit ![0, 384] ![128, 64] inb_S128x1024_S128x64_0_384)) (View.ld (View.ld (iblk m c 1 t) (Rect.unit ![0, 0] ![128, 1024] inb_S384x1024_S128x1024_0_0)) (Rect.unit ![0, 448] ![128, 64] inb_S128x1024_S128x64_0_448)) (View.ld (iblk m c 14 t) (Rect.unit ![0, 6, 0, 0] ![1, 1, 128, 512] inb_S1x16x128x512_S1x1x128x512_0_6_0_0)) (View.ld (iblk m c 14 t) (Rect.unit ![0, 7, 0, 0] ![1, 1, 128, 512] inb_S1x16x128x512_S1x1x128x512_0_7_0_0)) (View.ld (iblk m c 0 t) (Rect.unit ![6] ![1] inb_S16_S1_6) (Shape.Idx.first (s := S1) one_pos)) (View.ld (iblk m c 0 t) (Rect.unit ![7] ![1] inb_S16_S1_7) (Shape.Idx.first (s := S1) one_pos)) x = V y)
    · generalize (View.ld (iblk m c 2 t) (Rect.unit ![0, 64] ![128, 64] inb_S128x256_S128x64_0_64)) = k0
      generalize (View.ld (iblk m c 3 t) (Rect.unit ![0, 64] ![128, 64] inb_S128x256_S128x64_0_64)) = k1
      generalize (View.ld (iblk m c 4 t) (Rect.unit ![0, 64] ![128, 64] inb_S128x256_S128x64_0_64)) = k2
      generalize (View.ld (iblk m c 7 t) (Rect.unit ![0, 64] ![128, 64] inb_S128x256_S128x64_0_64)) = k3
      generalize (View.ld (iblk m c 8 t) (Rect.unit ![0, 64] ![128, 64] inb_S128x256_S128x64_0_64)) = v0
      generalize (View.ld (iblk m c 9 t) (Rect.unit ![0, 64] ![128, 64] inb_S128x256_S128x64_0_64)) = v1
      generalize (View.ld (iblk m c 10 t) (Rect.unit ![0, 64] ![128, 64] inb_S128x256_S128x64_0_64)) = v2
      generalize (View.ld (iblk m c 13 t) (Rect.unit ![0, 64] ![128, 64] inb_S128x256_S128x64_0_64)) = v3
      generalize (View.ld (View.ld (iblk m c 1 t) (Rect.unit ![0, 0] ![128, 1024] inb_S384x1024_S128x1024_0_0)) (Rect.unit ![0, 384] ![128, 64] inb_S128x1024_S128x64_0_384)) = qa
      generalize (View.ld (View.ld (iblk m c 1 t) (Rect.unit ![0, 0] ![128, 1024] inb_S384x1024_S128x1024_0_0)) (Rect.unit ![0, 448] ![128, 64] inb_S128x1024_S128x64_0_448)) = qb
      generalize (View.ld (iblk m c 14 t) (Rect.unit ![0, 6, 0, 0] ![1, 1, 128, 512] inb_S1x16x128x512_S1x1x128x512_0_6_0_0)) = ba
      generalize (View.ld (iblk m c 14 t) (Rect.unit ![0, 7, 0, 0] ![1, 1, 128, 512] inb_S1x16x128x512_S1x1x128x512_0_7_0_0)) = bb
      generalize (View.ld (iblk m c 0 t) (Rect.unit ![6] ![1] inb_S16_S1_6) (Shape.Idx.first (s := S1) one_pos)) = sa
      generalize (View.ld (iblk m c 0 t) (Rect.unit ![7] ![1] inb_S16_S1_7) (Shape.Idx.first (s := S1) one_pos)) = sb
      rfl
    · rw [hV]
      exact item_entry F (3 * t.val + 0) (by omega) 3 6 7 1 (by omega) rfl rfl rfl
        (band_of (rows2 m c t) 1 64 (by omega) rfl _ _ 0 (by omega))
        (band_of (rows3 m c t) 1 64 (by omega) rfl _ _ 1 (by omega))
        (band_of (rows4 m c t) 1 64 (by omega) rfl _ _ 2 (by omega))
        (meta_of (rows7 m c t) 1 64 (by omega) rfl _)
        (band_of (rows8 m c t) 1 64 (by omega) rfl _ _ 0 (by omega))
        (band_of (rows9 m c t) 1 64 (by omega) rfl _ _ 1 (by omega))
        (band_of (rows10 m c t) 1 64 (by omega) rfl _ _ 2 (by omega))
        (meta_of (rows13 m c t) 1 64 (by omega) rfl _)
        (queries_of t 0 0 6 384 (by omega) rfl (by omega) rfl _ _)
        (queries_of t 0 0 7 448 (by omega) rfl (by omega) rfl _ _)
        (bias_of _ _ (bias14 m c t) 6 (by omega) _)
        (bias_of _ _ (bias14 m c t) 7 (by omega) _)
        (sink_of t 6 (by omega) _)
        (sink_of t 7 (by omega) _)
        x
        _
        _
        (at_row0 t.val _ _ h0)
        (at_col 3 384 _ _ rfl h1)
  case piece21 =>
    refine (congrFun (?_ : _ = item (View.ld (iblk m c 2 t) (Rect.unit ![0, 64] ![128, 64] inb_S128x256_S128x64_0_64)) (View.ld (iblk m c 3 t) (Rect.unit ![0, 64] ![128, 64] inb_S128x256_S128x64_0_64)) (View.ld (iblk m c 4 t) (Rect.unit ![0, 64] ![128, 64] inb_S128x256_S128x64_0_64)) (View.ld (iblk m c 7 t) (Rect.unit ![0, 64] ![128, 64] inb_S128x256_S128x64_0_64)) (View.ld (iblk m c 8 t) (Rect.unit ![0, 64] ![128, 64] inb_S128x256_S128x64_0_64)) (View.ld (iblk m c 9 t) (Rect.unit ![0, 64] ![128, 64] inb_S128x256_S128x64_0_64)) (View.ld (iblk m c 10 t) (Rect.unit ![0, 64] ![128, 64] inb_S128x256_S128x64_0_64)) (View.ld (iblk m c 13 t) (Rect.unit ![0, 64] ![128, 64] inb_S128x256_S128x64_0_64)) (View.ld (View.ld (iblk m c 1 t) (Rect.unit ![0, 0] ![128, 1024] inb_S384x1024_S128x1024_0_0)) (Rect.unit ![0, 256] ![128, 64] inb_S128x1024_S128x64_0_256)) (View.ld (View.ld (iblk m c 1 t) (Rect.unit ![0, 0] ![128, 1024] inb_S384x1024_S128x1024_0_0)) (Rect.unit ![0, 320] ![128, 64] inb_S128x1024_S128x64_0_320)) (View.ld (iblk m c 14 t) (Rect.unit ![0, 4, 0, 0] ![1, 1, 128, 512] inb_S1x16x128x512_S1x1x128x512_0_4_0_0)) (View.ld (iblk m c 14 t) (Rect.unit ![0, 5, 0, 0] ![1, 1, 128, 512] inb_S1x16x128x512_S1x1x128x512_0_5_0_0)) (View.ld (iblk m c 0 t) (Rect.unit ![4] ![1] inb_S16_S1_4) (Shape.Idx.first (s := S1) one_pos)) (View.ld (iblk m c 0 t) (Rect.unit ![5] ![1] inb_S16_S1_5) (Shape.Idx.first (s := S1) one_pos))) x).trans (?_ : item (View.ld (iblk m c 2 t) (Rect.unit ![0, 64] ![128, 64] inb_S128x256_S128x64_0_64)) (View.ld (iblk m c 3 t) (Rect.unit ![0, 64] ![128, 64] inb_S128x256_S128x64_0_64)) (View.ld (iblk m c 4 t) (Rect.unit ![0, 64] ![128, 64] inb_S128x256_S128x64_0_64)) (View.ld (iblk m c 7 t) (Rect.unit ![0, 64] ![128, 64] inb_S128x256_S128x64_0_64)) (View.ld (iblk m c 8 t) (Rect.unit ![0, 64] ![128, 64] inb_S128x256_S128x64_0_64)) (View.ld (iblk m c 9 t) (Rect.unit ![0, 64] ![128, 64] inb_S128x256_S128x64_0_64)) (View.ld (iblk m c 10 t) (Rect.unit ![0, 64] ![128, 64] inb_S128x256_S128x64_0_64)) (View.ld (iblk m c 13 t) (Rect.unit ![0, 64] ![128, 64] inb_S128x256_S128x64_0_64)) (View.ld (View.ld (iblk m c 1 t) (Rect.unit ![0, 0] ![128, 1024] inb_S384x1024_S128x1024_0_0)) (Rect.unit ![0, 256] ![128, 64] inb_S128x1024_S128x64_0_256)) (View.ld (View.ld (iblk m c 1 t) (Rect.unit ![0, 0] ![128, 1024] inb_S384x1024_S128x1024_0_0)) (Rect.unit ![0, 320] ![128, 64] inb_S128x1024_S128x64_0_320)) (View.ld (iblk m c 14 t) (Rect.unit ![0, 4, 0, 0] ![1, 1, 128, 512] inb_S1x16x128x512_S1x1x128x512_0_4_0_0)) (View.ld (iblk m c 14 t) (Rect.unit ![0, 5, 0, 0] ![1, 1, 128, 512] inb_S1x16x128x512_S1x1x128x512_0_5_0_0)) (View.ld (iblk m c 0 t) (Rect.unit ![4] ![1] inb_S16_S1_4) (Shape.Idx.first (s := S1) one_pos)) (View.ld (iblk m c 0 t) (Rect.unit ![5] ![1] inb_S16_S1_5) (Shape.Idx.first (s := S1) one_pos)) x = V y)
    · generalize (View.ld (iblk m c 2 t) (Rect.unit ![0, 64] ![128, 64] inb_S128x256_S128x64_0_64)) = k0
      generalize (View.ld (iblk m c 3 t) (Rect.unit ![0, 64] ![128, 64] inb_S128x256_S128x64_0_64)) = k1
      generalize (View.ld (iblk m c 4 t) (Rect.unit ![0, 64] ![128, 64] inb_S128x256_S128x64_0_64)) = k2
      generalize (View.ld (iblk m c 7 t) (Rect.unit ![0, 64] ![128, 64] inb_S128x256_S128x64_0_64)) = k3
      generalize (View.ld (iblk m c 8 t) (Rect.unit ![0, 64] ![128, 64] inb_S128x256_S128x64_0_64)) = v0
      generalize (View.ld (iblk m c 9 t) (Rect.unit ![0, 64] ![128, 64] inb_S128x256_S128x64_0_64)) = v1
      generalize (View.ld (iblk m c 10 t) (Rect.unit ![0, 64] ![128, 64] inb_S128x256_S128x64_0_64)) = v2
      generalize (View.ld (iblk m c 13 t) (Rect.unit ![0, 64] ![128, 64] inb_S128x256_S128x64_0_64)) = v3
      generalize (View.ld (View.ld (iblk m c 1 t) (Rect.unit ![0, 0] ![128, 1024] inb_S384x1024_S128x1024_0_0)) (Rect.unit ![0, 256] ![128, 64] inb_S128x1024_S128x64_0_256)) = qa
      generalize (View.ld (View.ld (iblk m c 1 t) (Rect.unit ![0, 0] ![128, 1024] inb_S384x1024_S128x1024_0_0)) (Rect.unit ![0, 320] ![128, 64] inb_S128x1024_S128x64_0_320)) = qb
      generalize (View.ld (iblk m c 14 t) (Rect.unit ![0, 4, 0, 0] ![1, 1, 128, 512] inb_S1x16x128x512_S1x1x128x512_0_4_0_0)) = ba
      generalize (View.ld (iblk m c 14 t) (Rect.unit ![0, 5, 0, 0] ![1, 1, 128, 512] inb_S1x16x128x512_S1x1x128x512_0_5_0_0)) = bb
      generalize (View.ld (iblk m c 0 t) (Rect.unit ![4] ![1] inb_S16_S1_4) (Shape.Idx.first (s := S1) one_pos)) = sa
      generalize (View.ld (iblk m c 0 t) (Rect.unit ![5] ![1] inb_S16_S1_5) (Shape.Idx.first (s := S1) one_pos)) = sb
      rfl
    · rw [hV]
      exact item_entry F (3 * t.val + 0) (by omega) 2 4 5 1 (by omega) rfl rfl rfl
        (band_of (rows2 m c t) 1 64 (by omega) rfl _ _ 0 (by omega))
        (band_of (rows3 m c t) 1 64 (by omega) rfl _ _ 1 (by omega))
        (band_of (rows4 m c t) 1 64 (by omega) rfl _ _ 2 (by omega))
        (meta_of (rows7 m c t) 1 64 (by omega) rfl _)
        (band_of (rows8 m c t) 1 64 (by omega) rfl _ _ 0 (by omega))
        (band_of (rows9 m c t) 1 64 (by omega) rfl _ _ 1 (by omega))
        (band_of (rows10 m c t) 1 64 (by omega) rfl _ _ 2 (by omega))
        (meta_of (rows13 m c t) 1 64 (by omega) rfl _)
        (queries_of t 0 0 4 256 (by omega) rfl (by omega) rfl _ _)
        (queries_of t 0 0 5 320 (by omega) rfl (by omega) rfl _ _)
        (bias_of _ _ (bias14 m c t) 4 (by omega) _)
        (bias_of _ _ (bias14 m c t) 5 (by omega) _)
        (sink_of t 4 (by omega) _)
        (sink_of t 5 (by omega) _)
        x
        _
        _
        (at_row0 t.val _ _ h0)
        (at_col 2 256 _ _ rfl h1)
  case piece22 =>
    refine (congrFun (?_ : _ = item (View.ld (iblk m c 2 t) (Rect.unit ![0, 0] ![128, 64] inb_S128x256_S128x64_0_0)) (View.ld (iblk m c 3 t) (Rect.unit ![0, 0] ![128, 64] inb_S128x256_S128x64_0_0)) (View.ld (iblk m c 4 t) (Rect.unit ![0, 0] ![128, 64] inb_S128x256_S128x64_0_0)) (View.ld (iblk m c 7 t) (Rect.unit ![0, 0] ![128, 64] inb_S128x256_S128x64_0_0)) (View.ld (iblk m c 8 t) (Rect.unit ![0, 0] ![128, 64] inb_S128x256_S128x64_0_0)) (View.ld (iblk m c 9 t) (Rect.unit ![0, 0] ![128, 64] inb_S128x256_S128x64_0_0)) (View.ld (iblk m c 10 t) (Rect.unit ![0, 0] ![128, 64] inb_S128x256_S128x64_0_0)) (View.ld (iblk m c 13 t) (Rect.unit ![0, 0] ![128, 64] inb_S128x256_S128x64_0_0)) (View.ld (View.ld (iblk m c 1 t) (Rect.unit ![0, 0] ![128, 1024] inb_S384x1024_S128x1024_0_0)) (Rect.unit ![0, 128] ![128, 64] inb_S128x1024_S128x64_0_128)) (View.ld (View.ld (iblk m c 1 t) (Rect.unit ![0, 0] ![128, 1024] inb_S384x1024_S128x1024_0_0)) (Rect.unit ![0, 192] ![128, 64] inb_S128x1024_S128x64_0_192)) (View.ld (iblk m c 14 t) (Rect.unit ![0, 2, 0, 0] ![1, 1, 128, 512] inb_S1x16x128x512_S1x1x128x512_0_2_0_0)) (View.ld (iblk m c 14 t) (Rect.unit ![0, 3, 0, 0] ![1, 1, 128, 512] inb_S1x16x128x512_S1x1x128x512_0_3_0_0)) (View.ld (iblk m c 0 t) (Rect.unit ![2] ![1] inb_S16_S1_2) (Shape.Idx.first (s := S1) one_pos)) (View.ld (iblk m c 0 t) (Rect.unit ![3] ![1] inb_S16_S1_3) (Shape.Idx.first (s := S1) one_pos))) x).trans (?_ : item (View.ld (iblk m c 2 t) (Rect.unit ![0, 0] ![128, 64] inb_S128x256_S128x64_0_0)) (View.ld (iblk m c 3 t) (Rect.unit ![0, 0] ![128, 64] inb_S128x256_S128x64_0_0)) (View.ld (iblk m c 4 t) (Rect.unit ![0, 0] ![128, 64] inb_S128x256_S128x64_0_0)) (View.ld (iblk m c 7 t) (Rect.unit ![0, 0] ![128, 64] inb_S128x256_S128x64_0_0)) (View.ld (iblk m c 8 t) (Rect.unit ![0, 0] ![128, 64] inb_S128x256_S128x64_0_0)) (View.ld (iblk m c 9 t) (Rect.unit ![0, 0] ![128, 64] inb_S128x256_S128x64_0_0)) (View.ld (iblk m c 10 t) (Rect.unit ![0, 0] ![128, 64] inb_S128x256_S128x64_0_0)) (View.ld (iblk m c 13 t) (Rect.unit ![0, 0] ![128, 64] inb_S128x256_S128x64_0_0)) (View.ld (View.ld (iblk m c 1 t) (Rect.unit ![0, 0] ![128, 1024] inb_S384x1024_S128x1024_0_0)) (Rect.unit ![0, 128] ![128, 64] inb_S128x1024_S128x64_0_128)) (View.ld (View.ld (iblk m c 1 t) (Rect.unit ![0, 0] ![128, 1024] inb_S384x1024_S128x1024_0_0)) (Rect.unit ![0, 192] ![128, 64] inb_S128x1024_S128x64_0_192)) (View.ld (iblk m c 14 t) (Rect.unit ![0, 2, 0, 0] ![1, 1, 128, 512] inb_S1x16x128x512_S1x1x128x512_0_2_0_0)) (View.ld (iblk m c 14 t) (Rect.unit ![0, 3, 0, 0] ![1, 1, 128, 512] inb_S1x16x128x512_S1x1x128x512_0_3_0_0)) (View.ld (iblk m c 0 t) (Rect.unit ![2] ![1] inb_S16_S1_2) (Shape.Idx.first (s := S1) one_pos)) (View.ld (iblk m c 0 t) (Rect.unit ![3] ![1] inb_S16_S1_3) (Shape.Idx.first (s := S1) one_pos)) x = V y)
    · generalize (View.ld (iblk m c 2 t) (Rect.unit ![0, 0] ![128, 64] inb_S128x256_S128x64_0_0)) = k0
      generalize (View.ld (iblk m c 3 t) (Rect.unit ![0, 0] ![128, 64] inb_S128x256_S128x64_0_0)) = k1
      generalize (View.ld (iblk m c 4 t) (Rect.unit ![0, 0] ![128, 64] inb_S128x256_S128x64_0_0)) = k2
      generalize (View.ld (iblk m c 7 t) (Rect.unit ![0, 0] ![128, 64] inb_S128x256_S128x64_0_0)) = k3
      generalize (View.ld (iblk m c 8 t) (Rect.unit ![0, 0] ![128, 64] inb_S128x256_S128x64_0_0)) = v0
      generalize (View.ld (iblk m c 9 t) (Rect.unit ![0, 0] ![128, 64] inb_S128x256_S128x64_0_0)) = v1
      generalize (View.ld (iblk m c 10 t) (Rect.unit ![0, 0] ![128, 64] inb_S128x256_S128x64_0_0)) = v2
      generalize (View.ld (iblk m c 13 t) (Rect.unit ![0, 0] ![128, 64] inb_S128x256_S128x64_0_0)) = v3
      generalize (View.ld (View.ld (iblk m c 1 t) (Rect.unit ![0, 0] ![128, 1024] inb_S384x1024_S128x1024_0_0)) (Rect.unit ![0, 128] ![128, 64] inb_S128x1024_S128x64_0_128)) = qa
      generalize (View.ld (View.ld (iblk m c 1 t) (Rect.unit ![0, 0] ![128, 1024] inb_S384x1024_S128x1024_0_0)) (Rect.unit ![0, 192] ![128, 64] inb_S128x1024_S128x64_0_192)) = qb
      generalize (View.ld (iblk m c 14 t) (Rect.unit ![0, 2, 0, 0] ![1, 1, 128, 512] inb_S1x16x128x512_S1x1x128x512_0_2_0_0)) = ba
      generalize (View.ld (iblk m c 14 t) (Rect.unit ![0, 3, 0, 0] ![1, 1, 128, 512] inb_S1x16x128x512_S1x1x128x512_0_3_0_0)) = bb
      generalize (View.ld (iblk m c 0 t) (Rect.unit ![2] ![1] inb_S16_S1_2) (Shape.Idx.first (s := S1) one_pos)) = sa
      generalize (View.ld (iblk m c 0 t) (Rect.unit ![3] ![1] inb_S16_S1_3) (Shape.Idx.first (s := S1) one_pos)) = sb
      rfl
    · rw [hV]
      exact item_entry F (3 * t.val + 0) (by omega) 1 2 3 0 (by omega) rfl rfl rfl
        (band_of (rows2 m c t) 0 0 (by omega) rfl _ _ 0 (by omega))
        (band_of (rows3 m c t) 0 0 (by omega) rfl _ _ 1 (by omega))
        (band_of (rows4 m c t) 0 0 (by omega) rfl _ _ 2 (by omega))
        (meta_of (rows7 m c t) 0 0 (by omega) rfl _)
        (band_of (rows8 m c t) 0 0 (by omega) rfl _ _ 0 (by omega))
        (band_of (rows9 m c t) 0 0 (by omega) rfl _ _ 1 (by omega))
        (band_of (rows10 m c t) 0 0 (by omega) rfl _ _ 2 (by omega))
        (meta_of (rows13 m c t) 0 0 (by omega) rfl _)
        (queries_of t 0 0 2 128 (by omega) rfl (by omega) rfl _ _)
        (queries_of t 0 0 3 192 (by omega) rfl (by omega) rfl _ _)
        (bias_of _ _ (bias14 m c t) 2 (by omega) _)
        (bias_of _ _ (bias14 m c t) 3 (by omega) _)
        (sink_of t 2 (by omega) _)
        (sink_of t 3 (by omega) _)
        x
        _
        _
        (at_row0 t.val _ _ h0)
        (at_col 1 128 _ _ rfl h1)
  case piece23 =>
    refine (congrFun (?_ : _ = item (View.ld (iblk m c 2 t) (Rect.unit ![0, 0] ![128, 64] inb_S128x256_S128x64_0_0)) (View.ld (iblk m c 3 t) (Rect.unit ![0, 0] ![128, 64] inb_S128x256_S128x64_0_0)) (View.ld (iblk m c 4 t) (Rect.unit ![0, 0] ![128, 64] inb_S128x256_S128x64_0_0)) (View.ld (iblk m c 7 t) (Rect.unit ![0, 0] ![128, 64] inb_S128x256_S128x64_0_0)) (View.ld (iblk m c 8 t) (Rect.unit ![0, 0] ![128, 64] inb_S128x256_S128x64_0_0)) (View.ld (iblk m c 9 t) (Rect.unit ![0, 0] ![128, 64] inb_S128x256_S128x64_0_0)) (View.ld (iblk m c 10 t) (Rect.unit ![0, 0] ![128, 64] inb_S128x256_S128x64_0_0)) (View.ld (iblk m c 13 t) (Rect.unit ![0, 0] ![128, 64] inb_S128x256_S128x64_0_0)) (View.ld (View.ld (iblk m c 1 t) (Rect.unit ![0, 0] ![128, 1024] inb_S384x1024_S128x1024_0_0)) (Rect.unit ![0, 0] ![128, 64] inb_S128x1024_S128x64_0_0)) (View.ld (View.ld (iblk m c 1 t) (Rect.unit ![0, 0] ![128, 1024] inb_S384x1024_S128x1024_0_0)) (Rect.unit ![0, 64] ![128, 64] inb_S128x1024_S128x64_0_64)) (View.ld (iblk m c 14 t) (Rect.unit ![0, 0, 0, 0] ![1, 1, 128, 512] inb_S1x16x128x512_S1x1x128x512_0_0_0_0)) (View.ld (iblk m c 14 t) (Rect.unit ![0, 1, 0, 0] ![1, 1, 128, 512] inb_S1x16x128x512_S1x1x128x512_0_1_0_0)) (View.ld (iblk m c 0 t) (Rect.unit ![0] ![1] inb_S16_S1_0) (Shape.Idx.first (s := S1) one_pos)) (View.ld (iblk m c 0 t) (Rect.unit ![1] ![1] inb_S16_S1_1) (Shape.Idx.first (s := S1) one_pos))) x).trans (?_ : item (View.ld (iblk m c 2 t) (Rect.unit ![0, 0] ![128, 64] inb_S128x256_S128x64_0_0)) (View.ld (iblk m c 3 t) (Rect.unit ![0, 0] ![128, 64] inb_S128x256_S128x64_0_0)) (View.ld (iblk m c 4 t) (Rect.unit ![0, 0] ![128, 64] inb_S128x256_S128x64_0_0)) (View.ld (iblk m c 7 t) (Rect.unit ![0, 0] ![128, 64] inb_S128x256_S128x64_0_0)) (View.ld (iblk m c 8 t) (Rect.unit ![0, 0] ![128, 64] inb_S128x256_S128x64_0_0)) (View.ld (iblk m c 9 t) (Rect.unit ![0, 0] ![128, 64] inb_S128x256_S128x64_0_0)) (View.ld (iblk m c 10 t) (Rect.unit ![0, 0] ![128, 64] inb_S128x256_S128x64_0_0)) (View.ld (iblk m c 13 t) (Rect.unit ![0, 0] ![128, 64] inb_S128x256_S128x64_0_0)) (View.ld (View.ld (iblk m c 1 t) (Rect.unit ![0, 0] ![128, 1024] inb_S384x1024_S128x1024_0_0)) (Rect.unit ![0, 0] ![128, 64] inb_S128x1024_S128x64_0_0)) (View.ld (View.ld (iblk m c 1 t) (Rect.unit ![0, 0] ![128, 1024] inb_S384x1024_S128x1024_0_0)) (Rect.unit ![0, 64] ![128, 64] inb_S128x1024_S128x64_0_64)) (View.ld (iblk m c 14 t) (Rect.unit ![0, 0, 0, 0] ![1, 1, 128, 512] inb_S1x16x128x512_S1x1x128x512_0_0_0_0)) (View.ld (iblk m c 14 t) (Rect.unit ![0, 1, 0, 0] ![1, 1, 128, 512] inb_S1x16x128x512_S1x1x128x512_0_1_0_0)) (View.ld (iblk m c 0 t) (Rect.unit ![0] ![1] inb_S16_S1_0) (Shape.Idx.first (s := S1) one_pos)) (View.ld (iblk m c 0 t) (Rect.unit ![1] ![1] inb_S16_S1_1) (Shape.Idx.first (s := S1) one_pos)) x = V y)
    · generalize (View.ld (iblk m c 2 t) (Rect.unit ![0, 0] ![128, 64] inb_S128x256_S128x64_0_0)) = k0
      generalize (View.ld (iblk m c 3 t) (Rect.unit ![0, 0] ![128, 64] inb_S128x256_S128x64_0_0)) = k1
      generalize (View.ld (iblk m c 4 t) (Rect.unit ![0, 0] ![128, 64] inb_S128x256_S128x64_0_0)) = k2
      generalize (View.ld (iblk m c 7 t) (Rect.unit ![0, 0] ![128, 64] inb_S128x256_S128x64_0_0)) = k3
      generalize (View.ld (iblk m c 8 t) (Rect.unit ![0, 0] ![128, 64] inb_S128x256_S128x64_0_0)) = v0
      generalize (View.ld (iblk m c 9 t) (Rect.unit ![0, 0] ![128, 64] inb_S128x256_S128x64_0_0)) = v1
      generalize (View.ld (iblk m c 10 t) (Rect.unit ![0, 0] ![128, 64] inb_S128x256_S128x64_0_0)) = v2
      generalize (View.ld (iblk m c 13 t) (Rect.unit ![0, 0] ![128, 64] inb_S128x256_S128x64_0_0)) = v3
      generalize (View.ld (View.ld (iblk m c 1 t) (Rect.unit ![0, 0] ![128, 1024] inb_S384x1024_S128x1024_0_0)) (Rect.unit ![0, 0] ![128, 64] inb_S128x1024_S128x64_0_0)) = qa
      generalize (View.ld (View.ld (iblk m c 1 t) (Rect.unit ![0, 0] ![128, 1024] inb_S384x1024_S128x1024_0_0)) (Rect.unit ![0, 64] ![128, 64] inb_S128x1024_S128x64_0_64)) = qb
      generalize (View.ld (iblk m c 14 t) (Rect.unit ![0, 0, 0, 0] ![1, 1, 128, 512] inb_S1x16x128x512_S1x1x128x512_0_0_0_0)) = ba
      generalize (View.ld (iblk m c 14 t) (Rect.unit ![0, 1, 0, 0] ![1, 1, 128, 512] inb_S1x16x128x512_S1x1x128x512_0_1_0_0)) = bb
      generalize (View.ld (iblk m c 0 t) (Rect.unit ![0] ![1] inb_S16_S1_0) (Shape.Idx.first (s := S1) one_pos)) = sa
      generalize (View.ld (iblk m c 0 t) (Rect.unit ![1] ![1] inb_S16_S1_1) (Shape.Idx.first (s := S1) one_pos)) = sb
      rfl
    · rw [hV]
      exact item_entry F (3 * t.val + 0) (by omega) 0 0 1 0 (by omega) rfl rfl rfl
        (band_of (rows2 m c t) 0 0 (by omega) rfl _ _ 0 (by omega))
        (band_of (rows3 m c t) 0 0 (by omega) rfl _ _ 1 (by omega))
        (band_of (rows4 m c t) 0 0 (by omega) rfl _ _ 2 (by omega))
        (meta_of (rows7 m c t) 0 0 (by omega) rfl _)
        (band_of (rows8 m c t) 0 0 (by omega) rfl _ _ 0 (by omega))
        (band_of (rows9 m c t) 0 0 (by omega) rfl _ _ 1 (by omega))
        (band_of (rows10 m c t) 0 0 (by omega) rfl _ _ 2 (by omega))
        (meta_of (rows13 m c t) 0 0 (by omega) rfl _)
        (queries_of t 0 0 0 0 (by omega) rfl (by omega) rfl _ _)
        (queries_of t 0 0 1 64 (by omega) rfl (by omega) rfl _ _)
        (bias_of _ _ (bias14 m c t) 0 (by omega) _)
        (bias_of _ _ (bias14 m c t) 1 (by omega) _)
        (sink_of t 0 (by omega) _)
        (sink_of t 1 (by omega) _)
        x
        _
        _
        (at_row0 t.val _ _ h0)
        (at_col0 _ _ h1)

end Cert.Kernel5Ideal.Attn

end
-- ==== Proof.AttnFinal.lean ====
/- The attention's result array, entry by entry, and what the precondition says of the arguments. -/
module

public import proofs.«01_k».proof.Proof.AttnBlock
public import proofs.«01_k».proof.Pre_finite
public import proofs.«01_k».proof.Defs
public import Idealize.ShloMosaic.Lib.ReduceAll

@[expose] public section

set_option maxRecDepth 16384

noncomputable section

open Idealize.ShloMosaic Idealize.ShloMosaic.TcCoe Idealize.SL.Sem

namespace Cert.Pre_finite

theorem facts : Facts where
  slices_S1x16400x4096_S1x16400x1280_0_0_0 := by decide
  bcast_S_S1x16400x1280 := by decide
  reducesTo_S1x16400x1280_S_d0_1_2 := by decide
  h_S_ := by decide
  bcast_S_S4x16 := by decide
  reducesTo_S4x16_S_d0_1 := by decide

end Cert.Pre_finite

namespace Cert.Kernel5Ideal.Attn
open Cert.Kernel5Ideal Cert.Kernel5Ideal.Gen

/-- A number whose absolute value is below plus infinity is real. -/
theorem real_of_lt (x : EReal) (h : FloatOps.cmpf (F := Ideal) (φ := .f32) CmpFPredicate.olt (FloatOps.hostAbsf (F := Ideal) (φ := .f32) x) (Ideal.ofBits FTy.f32 0x7F800000#32) = 1#1) :
    ∃ r : ℝ, x = r := by
  have e : Ideal.ofBits FTy.f32 0x7F800000#32 = ⊤ := by
    simp [Ideal.ofBits, Ideal.ieee]
  rw [e] at h
  induction x using EReal.rec with
  | bot =>
    have h : Ideal.cmp .olt (max (⊥ : EReal) (-⊥)) ⊤ = 1#1 := h
    simp [Ideal.cmp] at h
  | top =>
    have h : Ideal.cmp .olt (max (⊤ : EReal) (-⊤)) ⊤ = 1#1 := h
    simp [Ideal.cmp] at h
  | coe r => exact ⟨r, rfl⟩

variable (m : (ℓ : Loc nD τ sig) → Buf (Elt Ideal) ℓ) (c : Dev nD)

theorem finite_of_pre [Cert.Pre_finite.Facts] (h : Cert.Pre_Kernel5Ideal_finite m) : Cert.Attn.Finite (X m c) (sink m c) := by
  have e := congrFun (h c) ix0
  unfold Cert.Pre_finite.fn at e
  dsimp only at e
  obtain ⟨e1, e2⟩ := IntOp.andi_eq_one.1 e
  have : Subsingleton Cert.Pre_finite.S_.Idx := ⟨fun a b => funext fun k => k.elim0⟩
  refine ⟨fun i k hk => ?_, fun j => ?_⟩
  · have f := Host.reduce_andi_all _ _ _ _ _ e1 (ix3 0 i ⟨k.val, hk⟩)
    apply real_of_lt
    refine Eq.trans ?_ f
    pointwise
  · have f := Host.reduce_andi_all _ _ _ _ _ e2 (ix2 0 j)
    exact real_of_lt _ f

/-- The result: the attention's output, entry by entry. -/
def G : S16512x1024.Idx → EReal := fun i => Attn.entry (X m c) (sink m c) (i 0) (i 1)

/-- Where an element of the block that point `t` writes lies in the result. -/
theorem emb17 (t : Fin cfg0.N) (r : Fin 384) (j : Fin 1024) :
    (win0_17.blk t).view.emb (ix2 r j) = ix2 ⟨384 * t.val + r.val, by have := t_lt t; omega⟩ j := by
  have e := idx17 t
  blk_ext [e]

/-- What the result array holds after the run. -/
theorem final (F : Cert.Attn.Finite (X m c) (sink m c)) : (dats m 0 c).arrAt 17 cfg0.N = G m c := by
  refine (dats m 0 c).arrAt_eq_of_covers 17 _ (by decide +kernel) fun t hf y => ?_
  rw [after0_17]
  idx_vars y
  refine Eq.trans ?_ (congrArg (G m c) (emb17 t y0 y1)).symm
  refine Eq.trans ?_ (block m c t F (fun y => Attn.entry (X m c) (sink m c) ⟨384 * t.val + (y 0).val, by have := (y 0).isLt; dsimp at this; have := t_lt t; omega⟩ (y 1)) (fun _ => rfl) (ix2 y0 y1))
  blk_simp

end Cert.Kernel5Ideal.Attn

end
-- ==== Proof.AttnRef.lean ====
/- The plain program of the attention: what its result holds, entry by entry, in terms of `Attn`. -/
module

public import proofs.«01_k».proof.Proof.Gen.Reference5Ideal.Read
public import proofs.«01_k».proof.Proof.AttnRow
public import Idealize.ShloMosaic.Lib.Pointwise

@[expose] public section

set_option maxRecDepth 16384

noncomputable section

open Idealize.ShloMosaic Idealize.ShloMosaic.TcCoe Idealize.SL.Sem

namespace Cert.Reference5Ideal.Attn
open Cert.Reference5Ideal Cert.Reference5Ideal.Gen

open Cert.Reference5Ideal.Read

variable (x0 : FVec Ideal S1x16400x4096 .f32) (x1 : FVec Ideal S4x16 .f32)

/-- The projected rows. -/
abbrev X : Fin 16400 → Fin 4096 → EReal := fun i c => x0 (ix3 0 i c)

theorem dist_apply (r : Fin 128) (s : Fin 384) : val_main_v27 (F := Ideal) (ix2 r s) = Attn.dist r.val s.val := by
  pointwise [val_main_v22, val_main_c, val_main_v23, val_main_v24, val_main_v25, val_main_v26, val_main_v27]
  rfl

theorem inside_apply (b : Fin 129) (s : Fin 384) : val_main_v39 (F := Ideal) (ix2 b s) = Attn.inside b.val s.val := by
  pointwise [val_main_v28, val_main_c_2, val_main_v29, val_main_v30, val_main_c_3, val_main_v31, val_main_v32, val_main_v33, val_main_v34, val_main_c_4, val_main_v35, val_main_v36, val_main_c_5, val_main_v37, val_main_v38, val_main_v39]
  rfl

theorem slope_apply (k g : Fin 4) : val_main_v49 (F := Ideal) (ix2 k g) = Attn.slope (k.val * 4 + g.val) := by
  pointwise [val_main_v40, val_main_c_6, val_main_v41, val_main_v42, val_main_v43, val_main_cst_7, val_main_v44, val_main_v45, val_main_cst_8, val_main_v46, val_main_v47, val_main_v48, val_main_v49]
  rfl

theorem kband_apply (b : Fin 129) (s : Fin 384) (k : Fin 4) (d : Fin 64) :
    val_main_v11 (F := Ideal) x0 (ix4 b s k d) = Attn.key (X x0) (128 * b.val + s.val) ⟨1024 + (64 * k.val + d.val), by omega⟩ := by
  pointwise [val_main_v0, val_main_v1, val_main_cst_0, val_main_v6, val_main_v7, val_main_v8, val_main_v9, val_main_v10, val_main_v11]
  split_ifs <;> first
    | omega
    | exact (Attn.key_out (by omega)).symm
    | exact (Attn.key_in (X := X x0) (by omega) (by omega) (by dsimp only; omega) (by dsimp only; omega)).symm

theorem vband_apply (b : Fin 129) (s : Fin 384) (k : Fin 4) (d : Fin 64) :
    val_main_v17 (F := Ideal) x0 (ix4 b s k d) = Attn.key (X x0) (128 * b.val + s.val) ⟨1280 + (64 * k.val + d.val), by omega⟩ := by
  pointwise [val_main_v0, val_main_v2, val_main_cst_1, val_main_v12, val_main_v13, val_main_v14, val_main_v15, val_main_v16, val_main_v17]
  split_ifs <;> first
    | omega
    | exact (Attn.key_out (by omega)).symm
    | exact (Attn.key_in (X := X x0) (by omega) (by omega) (by dsimp only; omega) (by dsimp only; omega)).symm

theorem q_apply (b : Fin 129) (r : Fin 128) (k g : Fin 4) (d : Fin 64) :
    val_main_v5 (F := Ideal) x0 (ix5 b r k g d)
      = Attn.key (X x0) (128 * b.val + r.val + 128) ⟨64 * (k.val * 4 + g.val) + d.val, by omega⟩ := by
  pointwise [val_main_v0, val_main_v3, val_main_cst, val_main_v4, val_main_v5]
  split_ifs <;> first
    | omega
    | exact (Attn.key_out (by omega)).symm
    | exact (Attn.key_in (X := X x0) (by omega) (by omega) (by dsimp only; omega) (by dsimp only; omega)).symm

theorem kmeta_apply (j : Fin 16) (k : Fin 4) (d : Fin 64) :
    val_main_v19 (F := Ideal) x0 (ix3 j k d) = X x0 ⟨j.val, by omega⟩ ⟨1024 + (64 * k.val + d.val), by omega⟩ := by
  pointwise [val_main_v0, val_main_v1, val_main_v18, val_main_v19]
  exact congrArg (fun c => x0 (ix3 0 ⟨j.val, by omega⟩ c)) (Fin.ext (by dsimp only; omega))

theorem vmeta_apply (j : Fin 16) (k : Fin 4) (d : Fin 64) :
    val_main_v21 (F := Ideal) x0 (ix3 j k d) = X x0 ⟨j.val, by omega⟩ ⟨1280 + (64 * k.val + d.val), by omega⟩ := by
  pointwise [val_main_v0, val_main_v2, val_main_v20, val_main_v21]
  exact congrArg (fun c => x0 (ix3 0 ⟨j.val, by omega⟩ c)) (Fin.ext (by dsimp only; omega))

theorem band_apply (b : Fin 129) (k g : Fin 4) (r : Fin 128) (s : Fin 384) (h : Fin 16) (hh : h.val = k.val * 4 + g.val) :
    val_main_v65 (F := Ideal) x0 (ix5 b k g r s) = Attn.band (X x0) b r h s := by
  pointwise [val_main_v50, val_main_v51, val_main_cst_9, val_main_v52, val_main_v53, val_main_v54, val_main_v55, val_main_v56, val_main_v57, val_main_v58, val_main_c_10, val_main_v59, val_main_v60, val_main_v61, val_main_v62, val_main_v63, val_main_cst_11, val_main_v64, val_main_v65, dist_apply, inside_apply, slope_apply, kband_apply, q_apply]
  have hk : h.val / 4 = k.val := by omega
  simp only [Attn.band, hh, hk, Attn.neg_inf, show (k.val * 4 + g.val) / 4 = k.val by omega]

theorem meta_apply (b : Fin 129) (k g : Fin 4) (r : Fin 128) (j : Fin 16) (h : Fin 16) (hh : h.val = k.val * 4 + g.val) :
    val_main_v69 (F := Ideal) x0 (ix5 b k g r j) = Attn.metaLogit (X x0) b r h j := by
  pointwise [val_main_v66, val_main_v67, val_main_cst_12, val_main_v68, val_main_v69, kmeta_apply, q_apply]
  simp only [Attn.metaLogit, hh, show (k.val * 4 + g.val) / 4 = k.val by omega]

theorem logit_apply (b : Fin 129) (k g : Fin 4) (r : Fin 128) (j : Fin 401) (h : Fin 16) (hh : h.val = k.val * 4 + g.val) :
    val_main_v74 (F := Ideal) x0 x1 (ix5 b k g r j) = Attn.logit (X x0) (fun h => x1 (ix2 0 h)) b r h j := by
  have e1 := fun s => band_apply x0 b k g r s h hh
  have e2 := fun s => meta_apply x0 b k g r s h hh
  pointwise [val_main_v70, val_main_v71, val_main_v72, val_main_v73, val_main_v74, e1, e2]
  unfold Attn.logit
  split_ifs <;> first
    | omega
    | rfl
    | rw [dif_pos (show j.val < 400 by omega)]
    | exact (congrArg (fun h' : Fin 16 => x1 (ix2 0 h')) (show (⟨k.val * 4 + g.val, by omega⟩ : Fin 16) = h from Fin.ext hh.symm)).trans (dif_neg (by omega)).symm
    | exact congrArg (fun h' : Fin 16 => x1 (ix2 0 h')) (show (⟨k.val * 4 + g.val, by omega⟩ : Fin 16) = h from Fin.ext hh.symm)

end Cert.Reference5Ideal.Attn
-- ==== Proof.AttnRefSoft.lean ====
/- The plain program of the attention: what its result holds, entry by entry, in terms of `Attn`. -/
module

public import proofs.«01_k».proof.Proof.Gen.Reference5Ideal.Read
public import proofs.«01_k».proof.Proof.AttnRef
public import Idealize.ShloMosaic.Lib.Pointwise

@[expose] public section

set_option maxRecDepth 16384

noncomputable section

open Idealize.ShloMosaic Idealize.ShloMosaic.TcCoe Idealize.SL.Sem

namespace Cert.Reference5Ideal.Attn
open Cert.Reference5Ideal Cert.Reference5Ideal.Gen

open Cert.Reference5Ideal.Read

variable (x0 : FVec Ideal S1x16400x4096 .f32) (x1 : FVec Ideal S4x16 .f32)

/-- The maximum over the lanes of one row. -/
theorem top_of (y : FVec Ideal S129x4x4x128x401 .f32) (L : Fin 401 → EReal) (b : Fin 129) (k g : Fin 4) (r : Fin 128)
    (h : ∀ j, y (ix5 b k g r j) = L j) :
    Host.reduce FloatOps.maximumf y (val_main_cst_13 (F := Ideal)) reducesTo_S129x4x4x128x401_S129x4x4x128_d4 h_S_ (ix4 b k g r) = Softmax.top L := by
  pointwise [val_main_cst_13, h]
  simp only [Attn.neg_inf, Softmax.top]

theorem max_apply (b : Fin 129) (k g : Fin 4) (r : Fin 128) (h : Fin 16) (hh : h.val = k.val * 4 + g.val) :
    val_main_v77 (F := Ideal) x0 x1 (ix4 b k g r) = max ⊥ (Softmax.top (Attn.logit (X x0) (fun h => x1 (ix2 0 h)) b r h)) := by
  rw [val_main_v77_apply, val_main_v76_apply, val_main_cst_14_apply]
  unfold val_main_v75
  rw [top_of _ _ b k g r fun j => logit_apply x0 x1 b k g r j h hh]
  exact congrArg (fun e => max e _) Attn.neg_inf

theorem exp_apply (b : Fin 129) (k g : Fin 4) (r : Fin 128) (j : Fin 401) (h : Fin 16) (hh : h.val = k.val * 4 + g.val) :
    val_main_v81 (F := Ideal) x0 x1 (ix5 b k g r j)
      = Ideal.exp (Attn.logit (X x0) (fun h => x1 (ix2 0 h)) b r h j - max ⊥ (Softmax.top (Attn.logit (X x0) (fun h => x1 (ix2 0 h)) b r h))) := by
  rw [val_main_v81_apply, val_main_v80_apply, val_main_v79_apply, val_main_v78_apply]
  rw [logit_apply x0 x1 b k g r j h hh,
    show idx_main_v78 (idx_main_v79 (ix5 b k g r j)) = ix4 b k g r by funext a; fin_cases a <;> rfl, max_apply x0 x1 b k g r h hh]
  rfl

theorem total_apply (b : Fin 129) (k g : Fin 4) (r : Fin 128) (h : Fin 16) (hh : h.val = k.val * 4 + g.val) :
    val_main_v82 (F := Ideal) x0 x1 (ix4 b k g r)
      = ∑ j, Ideal.exp (Attn.logit (X x0) (fun h => x1 (ix2 0 h)) b r h j - max ⊥ (Softmax.top (Attn.logit (X x0) (fun h => x1 (ix2 0 h)) b r h))) := by
  rw [val_main_v82_apply, val_main_cst_15_apply]
  refine (congrArg (· + _) (show (FloatOps.ofBits FTy.f32 0x00000000#32 : Ideal FTy.f32) = (0 : EReal) by simp [Ideal.ofBits, Ideal.ieee])).trans ((zero_add _).trans ?_)
  refine Finset.sum_congr rfl fun j _ => ?_
  rw [show idx_main_v82 (ix4 b k g r) j = ix5 b k g r j by funext a; fin_cases a <;> rfl]
  exact exp_apply x0 x1 b k g r j h hh

theorem soft_apply (b : Fin 129) (k g : Fin 4) (r : Fin 128) (j : Fin 401) (h : Fin 16) (hh : h.val = k.val * 4 + g.val) :
    val_main_v85 (F := Ideal) x0 x1 (ix5 b k g r j) = Softmax.soft (Attn.logit (X x0) (fun h => x1 (ix2 0 h)) b r h) j := by
  rw [val_main_v85_apply, val_main_v84_apply, val_main_v83_apply, exp_apply x0 x1 b k g r j h hh,
    show idx_main_v83 (idx_main_v84 (ix5 b k g r j)) = ix4 b k g r by funext a; fin_cases a <;> rfl, total_apply x0 x1 b k g r h hh]
  unfold Softmax.soft
  exact Ideal.hostDivf_def _ _

theorem sum_apply (b : Fin 129) (r : Fin 128) (k g : Fin 4) (d : Fin 64) (h : Fin 16) (hh : h.val = k.val * 4 + g.val) :
    val_main_v92 (F := Ideal) x0 x1 (ix5 b r k g d)
      = Softmax.plain (Attn.logit (X x0) (fun h => x1 (ix2 0 h)) b r h)
          (fun s => Attn.key (X x0) (128 * b.val + s.val) ⟨1280 + (64 * k.val + d.val), by omega⟩)
          (fun s => X x0 ⟨s.val, by omega⟩ ⟨1280 + (64 * k.val + d.val), by omega⟩) := by
  have e1 := fun s => soft_apply x0 x1 b k g r s h hh
  pointwise [val_main_v86, val_main_v87, val_main_v88, val_main_v89, val_main_v90, val_main_v91, val_main_v92, e1, vband_apply, vmeta_apply]
  simp only [Softmax.plain]

/-- THE RESULT, entry by entry. -/
theorem val_apply (i : Fin 16512) (j : Fin 1024) :
    val_main_v94 (F := Ideal) x0 x1 (ix2 i j) = Attn.entry (X x0) (fun h => x1 (ix2 0 h)) i j := by
  pointwise [val_main_v93, val_main_v94]
  exact sum_apply x0 x1 _ _ _ _ _ ⟨j.val / 64, by omega⟩ (by dsimp only; omega)

end Cert.Reference5Ideal.Attn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Reference5Ideal.Run
public import proofs.«01_k».proof.Proof.FfnFinal
public import proofs.«01_k».proof.Proof.FinalRef
public import proofs.«01_k».proof.Proof.Ffn
public import proofs.«01_k».proof.Proof.FfnRef
public import proofs.«01_k».proof.Proof.Inproj
public import proofs.«01_k».proof.Proof.InprojRef
public import proofs.«01_k».proof.Proof.Merge
public import proofs.«01_k».proof.Proof.MergeRef
public import proofs.«01_k».proof.Proof.AttnFinal
public import proofs.«01_k».proof.Proof.AttnRefSoft
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ => Cert.Kernel.Gen.frame m ρ

theorem frame_kernel_ideal : Cert.quiescent_KernelIdeal := fun m ρ _ => Cert.KernelIdeal.Gen.frame m ρ

theorem frame_reference_ideal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

/-- The last feed-forward sub-layer: both programs end with the same function of the arguments, row by row. -/
theorem algebraic_final : Cert.algebraic_KernelIdeal_ReferenceIdeal := fun m g m' g' _ hagree =>
  ⟨fun c => Cert.KernelIdeal.Final.G m c,
    (θ_run Cert.KernelIdeal.defs _ _).mono
      (fun _ h c => ⟨(h c).1.trans (Cert.KernelIdeal.Final.final m c), (h c).2⟩) (Cert.KernelIdeal.Value.run_blocks m g),
    (θ_run Cert.ReferenceIdeal.defs _ _).mono
      (fun _ h c => ⟨(h c).1.trans (by
        obtain ⟨h0, h1, h2, h3, h4, h5⟩ := hagree c
        rw [Cert.ReferenceIdeal.Read.val_main_v43_eq, h0, h1, h2, h3, h4, h5]
        funext i
        rw [eq_ix2 i]
        exact Cert.ReferenceIdeal.Final.val_apply _ _ _ _ _ _ (i 0) (i 1)), (h c).2⟩)
      (Cert.ReferenceIdeal.Value.run m' g')⟩

theorem frame_kernel2 : Cert.quiescent_Kernel2 := fun m ρ _ => Cert.Kernel2.Gen.frame m ρ

theorem frame_kernel2_ideal : Cert.quiescent_Kernel2Ideal := fun m ρ _ => Cert.Kernel2Ideal.Gen.frame m ρ

theorem frame_reference2_ideal : Cert.quiescent_Reference2Ideal := fun m ρ _ =>
  (θ_run Cert.Reference2Ideal.defs _ _).mono (fun r h => ⟨fun c => (h c).2, sem_eq_zero_of_no_sems rfl r.2⟩)
    (Cert.Reference2Ideal.Value.run m ρ)

/-- A feed-forward sub-layer. -/
theorem algebraic_ffn : Cert.algebraic_Kernel2Ideal_Reference2Ideal := fun m g m' g' _ hagree =>
  ⟨fun c => Cert.Kernel2Ideal.Ffn.G m c,
    (θ_run Cert.Kernel2Ideal.defs _ _).mono
      (fun _ h c => ⟨(h c).1.trans (Cert.Kernel2Ideal.Ffn.final m c), (h c).2⟩) (Cert.Kernel2Ideal.Value.run_blocks m g),
    (θ_run Cert.Reference2Ideal.defs _ _).mono
      (fun _ h c => ⟨(h c).1.trans (by
        obtain ⟨h0, h1, h2, h3, h4⟩ := hagree c
        rw [Cert.Reference2Ideal.Read.val_main_v31_eq, h0, h1, h2, h3, h4]
        funext i
        rw [eq_ix2 i]
        exact Cert.Reference2Ideal.Ffn.val_apply _ _ _ _ _ (i 0) (i 1)), (h c).2⟩)
      (Cert.Reference2Ideal.Value.run m' g')⟩

theorem frame_kernel3 : Cert.quiescent_Kernel3 := fun m ρ _ => Cert.Kernel3.Gen.frame m ρ

theorem frame_kernel3_ideal : Cert.quiescent_Kernel3Ideal := fun m ρ _ => Cert.Kernel3Ideal.Gen.frame m ρ

theorem frame_reference3_ideal : Cert.quiescent_Reference3Ideal := fun m ρ _ =>
  (θ_run Cert.Reference3Ideal.defs _ _).mono (fun r h => ⟨fun c => (h c).2.2, sem_eq_zero_of_no_sems rfl r.2⟩)
    (Cert.Reference3Ideal.Value.run m ρ)

/-- The combined input projection, both results. -/
theorem algebraic_inproj : Cert.algebraic_Kernel3Ideal_Reference3Ideal := fun m g m' g' _ hagree =>
  ⟨fun c => Cert.Kernel3Ideal.Inproj.G3 m c, fun c => Cert.Kernel3Ideal.Inproj.G4 m c,
    (θ_run Cert.Kernel3Ideal.defs _ _).mono
      (fun _ h c => ⟨(h c).1.trans (Cert.Kernel3Ideal.Inproj.final3 m c), (h c).2.1.trans (Cert.Kernel3Ideal.Inproj.final4 m c), (h c).2.2⟩)
      (Cert.Kernel3Ideal.Value.run_blocks m g),
    (θ_run Cert.Reference3Ideal.defs _ _).mono
      (fun _ h c => ⟨(h c).1.trans (by
        obtain ⟨h0, h1, h2⟩ := hagree c
        rw [Cert.Reference3Ideal.Read.val_main_v30_eq, h0, h1, h2]
        funext i
        rw [eq_ix2 i]
        exact Cert.Reference3Ideal.Inproj.val0_apply _ _ _ (i 0) (i 1)), (h c).2.1.trans (by
        obtain ⟨h0, h1, h2⟩ := hagree c
        rw [Cert.Reference3Ideal.Read.val_main_v33_eq, h0, h1, h2]
        funext i
        rw [eq_ix3 i]
        exact Cert.Reference3Ideal.Inproj.val1_apply _ _ _ (i 0) (i 1) (i 2)), (h c).2.2⟩)
      (Cert.Reference3Ideal.Value.run m' g')⟩

theorem frame_kernel4 : Cert.quiescent_Kernel4 := fun m ρ _ => Cert.Kernel4.Gen.frame m ρ

theorem frame_kernel4_ideal : Cert.quiescent_Kernel4Ideal := fun m ρ _ => Cert.Kernel4Ideal.Gen.frame m ρ

theorem frame_reference4_ideal : Cert.quiescent_Reference4Ideal := fun m ρ _ =>
  (θ_run Cert.Reference4Ideal.defs _ _).mono (fun r h => ⟨fun c => (h c).2, sem_eq_zero_of_no_sems rfl r.2⟩)
    (Cert.Reference4Ideal.Value.run m ρ)

/-- The end of the mixing sub-layer. -/
theorem algebraic_merge : Cert.algebraic_Kernel4Ideal_Reference4Ideal := fun m g m' g' _ hagree =>
  ⟨fun c => Cert.Kernel4Ideal.Merge.G m c,
    (θ_run Cert.Kernel4Ideal.defs _ _).mono
      (fun _ h c => ⟨(h c).1.trans (Cert.Kernel4Ideal.Merge.final m c), (h c).2⟩) (Cert.Kernel4Ideal.Value.run_blocks m g),
    (θ_run Cert.Reference4Ideal.defs _ _).mono
      (fun _ h c => ⟨(h c).1.trans (by
        obtain ⟨h0, h1, h2, h3, h4, h5, h6, h7, h8, h9⟩ := hagree c
        rw [Cert.Reference4Ideal.Read.val_main_v60_eq, h0, h1, h2, h3, h4, h5, h6, h7, h8, h9]
        funext i
        rw [eq_ix2 i]
        exact Cert.Reference4Ideal.Merge.val_apply _ _ _ _ _ _ _ _ _ _ (i 0) (i 1)), (h c).2⟩)
      (Cert.Reference4Ideal.Value.run m' g')⟩

theorem frame_kernel5 : Cert.quiescent_Kernel5 := fun m ρ _ => Cert.Kernel5.Gen.frame m ρ

theorem frame_kernel5_ideal : Cert.quiescent_Kernel5Ideal := fun m ρ _ => Cert.Kernel5Ideal.Gen.frame m ρ

theorem frame_kernel5_ideal_finite [Cert.Pre_finite.Facts] : Cert.quiescent_Kernel5Ideal_pre_finite := fun m ρ _ => Cert.Kernel5Ideal.Gen.frame m ρ

theorem frame_reference5_ideal : Cert.quiescent_Reference5Ideal := fun m ρ _ =>
  (θ_run Cert.Reference5Ideal.defs _ _).mono (fun r h => ⟨fun c => (h c).2, sem_eq_zero_of_no_sems rfl r.2⟩)
    (Cert.Reference5Ideal.Value.run m ρ)

theorem frame_reference5_ideal_finite [Cert.Pre_finite.Facts] : Cert.quiescent_Reference5Ideal_pre_finite := fun m ρ _ =>
  frame_reference5_ideal m ρ trivial

/-- The named constant of the attention's body. -/
theorem preserves_attn : Cert.preserves_Kernel5_Kernel5Ideal :=
  IdealRules.named_const.statement Cert.Kernel5Ideal.κ "log2e" .f32 0x3FB8AA3B#32 (((Real.log 2)⁻¹ : ℝ) : EReal) rfl

/-- The banded attention, of finite queries, keys and sinks. -/
theorem algebraic_attn [Cert.Pre_finite.Facts] : Cert.algebraic_Kernel5Ideal_Reference5Ideal_pre_finite := fun m g m' g' hpre hagree =>
  ⟨fun c => Cert.Kernel5Ideal.Attn.G m c,
    (θ_run Cert.Kernel5Ideal.defs _ _).mono
      (fun _ h c => ⟨(h c).1.trans (Cert.Kernel5Ideal.Attn.final m c (Cert.Kernel5Ideal.Attn.finite_of_pre m c hpre)), (h c).2⟩)
      (Cert.Kernel5Ideal.Value.run_blocks m g),
    (θ_run Cert.Reference5Ideal.defs _ _).mono
      (fun _ h c => ⟨(h c).1.trans (by
        obtain ⟨h0, h1⟩ := hagree c
        rw [Cert.Reference5Ideal.Read.val_main_v94_eq, h0, h1]
        funext i
        rw [eq_ix2 i]
        exact Cert.Reference5Ideal.Attn.val_apply _ _ (i 0) (i 1)), (h c).2⟩)
      (Cert.Reference5Ideal.Value.run m' g')⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.facts,
  frame_kernel, frame_kernel_ideal, frame_reference_ideal, frame_kernel2, frame_kernel2_ideal, frame_reference2_ideal, frame_kernel3, frame_kernel3_ideal, frame_reference3_ideal, frame_kernel4, frame_kernel4_ideal, frame_reference4_ideal,
  frame_kernel5, frame_kernel5_ideal, @frame_kernel5_ideal_finite Cert.Pre_finite.facts, frame_reference5_ideal, @frame_reference5_ideal_finite Cert.Pre_finite.facts,
  trivial, algebraic_final, trivial, algebraic_ffn, trivial, algebraic_inproj, trivial, algebraic_merge, preserves_attn, @algebraic_attn Cert.Pre_finite.facts⟩

end Cert.Proof

end
